-- ==== Defs.lean ====
def Pre_Experts [hPre_table_in_range : Cert.Pre_table_in_range.Facts] (m : (ℓ : Loc Cert.Experts.nD Cert.Experts.τ Cert.Experts.sig) → Buf (Elt Bits) ℓ) : Prop :=
  ∀ c : Dev Cert.Experts.nD,
    (Cert.Pre_table_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_table_in_range : Cert.Pre_table_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_table_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal [hPre_table_in_range : Cert.Pre_table_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_table_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjReferenceIdeal (m : (ℓ : Loc Cert.OddProjReferenceIdeal.nD Cert.OddProjReferenceIdeal.τ Cert.OddProjReferenceIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjReferenceIdeal (m : (ℓ : Loc Cert.EvenProjReferenceIdeal.nD Cert.EvenProjReferenceIdeal.τ Cert.EvenProjReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_bias_above [hPre_bias_above : Cert.Pre_bias_above.Facts] (m : (ℓ : Loc Cert.RouteIdeal.nD Cert.RouteIdeal.τ Cert.RouteIdeal.sig) → Buf (Elt Ideal) ℓ) : Prop :=
  ∀ c : Dev Cert.RouteIdeal.nD,
    (Cert.Pre_bias_above.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1))) = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def Pre_RouteReferenceIdeal_bias_above [hPre_bias_above : Cert.Pre_bias_above.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_bias_above.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1))) = (fun _ => 1#1)

def quiescent_Experts [hExperts : Cert.Experts.Facts] [hPre_table_in_range : Cert.Pre_table_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_table_in_range : Cert.Pre_table_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] [hPre_table_in_range : Cert.Pre_table_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9)
      ∧ r.2.mem ((c.tc : Thread Cert.Combine.nD Cert.Combine.τ).loc Cert.Combine.main_arg10) = m ((c.tc : Thread Cert.Combine.nD Cert.Combine.τ).loc Cert.Combine.main_arg10)
      ∧ r.2.mem ((c.tc : Thread Cert.Combine.nD Cert.Combine.τ).loc Cert.Combine.main_arg11) = m ((c.tc : Thread Cert.Combine.nD Cert.Combine.τ).loc Cert.Combine.main_arg11)
      ∧ r.2.mem ((c.tc : Thread Cert.Combine.nD Cert.Combine.τ).loc Cert.Combine.main_arg12) = m ((c.tc : Thread Cert.Combine.nD Cert.Combine.τ).loc Cert.Combine.main_arg12)
      ∧ r.2.mem ((c.tc : Thread Cert.Combine.nD Cert.Combine.τ).loc Cert.Combine.main_arg13) = m ((c.tc : Thread Cert.Combine.nD Cert.Combine.τ).loc Cert.Combine.main_arg13))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
      ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10)
      ∧ r.2.mem ((c.tc : Thread Cert.CombineIdeal.nD Cert.CombineIdeal.τ).loc Cert.CombineIdeal.main_arg11) = m ((c.tc : Thread Cert.CombineIdeal.nD Cert.CombineIdeal.τ).loc Cert.CombineIdeal.main_arg11)
      ∧ r.2.mem ((c.tc : Thread Cert.CombineIdeal.nD Cert.CombineIdeal.τ).loc Cert.CombineIdeal.main_arg12) = m ((c.tc : Thread Cert.CombineIdeal.nD Cert.CombineIdeal.τ).loc Cert.CombineIdeal.main_arg12)
      ∧ r.2.mem ((c.tc : Thread Cert.CombineIdeal.nD Cert.CombineIdeal.τ).loc Cert.CombineIdeal.main_arg13) = m ((c.tc : Thread Cert.CombineIdeal.nD Cert.CombineIdeal.τ).loc Cert.CombineIdeal.main_arg13))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8)
      ∧ r.2.mem ((c.tc : Thread Cert.CombineReferenceIdeal.nD Cert.CombineReferenceIdeal.τ).loc Cert.CombineReferenceIdeal.main_arg9) = m ((c.tc : Thread Cert.CombineReferenceIdeal.nD Cert.CombineReferenceIdeal.τ).loc Cert.CombineReferenceIdeal.main_arg9)
      ∧ r.2.mem ((c.tc : Thread Cert.CombineReferenceIdeal.nD Cert.CombineReferenceIdeal.τ).loc Cert.CombineReferenceIdeal.main_arg10) = m ((c.tc : Thread Cert.CombineReferenceIdeal.nD Cert.CombineReferenceIdeal.τ).loc Cert.CombineReferenceIdeal.main_arg10)
      ∧ r.2.mem ((c.tc : Thread Cert.CombineReferenceIdeal.nD Cert.CombineReferenceIdeal.τ).loc Cert.CombineReferenceIdeal.main_arg11) = m ((c.tc : Thread Cert.CombineReferenceIdeal.nD Cert.CombineReferenceIdeal.τ).loc Cert.CombineReferenceIdeal.main_arg11)
      ∧ r.2.mem ((c.tc : Thread Cert.CombineReferenceIdeal.nD Cert.CombineReferenceIdeal.τ).loc Cert.CombineReferenceIdeal.main_arg12) = m ((c.tc : Thread Cert.CombineReferenceIdeal.nD Cert.CombineReferenceIdeal.τ).loc Cert.CombineReferenceIdeal.main_arg12)
      ∧ r.2.mem ((c.tc : Thread Cert.CombineReferenceIdeal.nD Cert.CombineReferenceIdeal.τ).loc Cert.CombineReferenceIdeal.main_arg13) = m ((c.tc : Thread Cert.CombineReferenceIdeal.nD Cert.CombineReferenceIdeal.τ).loc Cert.CombineReferenceIdeal.main_arg13))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1))
      ∧ r.2.sem = fun _ => 0)

def quiescent_OddProjReferenceIdeal [hOddProjReferenceIdeal : Cert.OddProjReferenceIdeal.Facts] : Prop :=
  ∀ (m : (ℓ : Loc Cert.OddProjReferenceIdeal.nD Cert.OddProjReferenceIdeal.τ Cert.OddProjReferenceIdeal.sig) → Buf (Elt Ideal) ℓ) (g : Dev Cert.OddProjReferenceIdeal.nD → PrngReg), Pre_OddProjReferenceIdeal m →
    θ_run (Cert.OddProjReferenceIdeal.defs (F := Ideal)) (onTc (τ := Cert.OddProjReferenceIdeal.τ) (Cert.OddProjReferenceIdeal.main (F := Ideal))) ⟨m, fun _ => 0, g⟩ (fun r => (∀ c : Dev Cert.OddProjReferenceIdeal.nD,
      r.2.mem ((c.tc : Thread Cert.OddProjReferenceIdeal.nD Cert.OddProjReferenceIdeal.τ).loc Cert.OddProjReferenceIdeal.main_arg0) = m ((c.tc : Thread Cert.OddProjReferenceIdeal.nD Cert.OddProjReferenceIdeal.τ).loc Cert.OddProjReferenceIdeal.main_arg0)
      ∧ r.2.mem ((c.tc : Thread Cert.OddProjReferenceIdeal.nD Cert.OddProjReferenceIdeal.τ).loc Cert.OddProjReferenceIdeal.main_arg1) = m ((c.tc : Thread Cert.OddProjReferenceIdeal.nD Cert.OddProjReferenceIdeal.τ).loc Cert.OddProjReferenceIdeal.main_arg1))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1))
      ∧ r.2.sem = fun _ => 0)

def quiescent_EvenProjReferenceIdeal [hEvenProjReferenceIdeal : Cert.EvenProjReferenceIdeal.Facts] : Prop :=
  ∀ (m : (ℓ : Loc Cert.EvenProjReferenceIdeal.nD Cert.EvenProjReferenceIdeal.τ Cert.EvenProjReferenceIdeal.sig) → Buf (Elt Ideal) ℓ) (g : Dev Cert.EvenProjReferenceIdeal.nD → PrngReg), Pre_EvenProjReferenceIdeal m →
    θ_run (Cert.EvenProjReferenceIdeal.defs (F := Ideal)) (onTc (τ := Cert.EvenProjReferenceIdeal.τ) (Cert.EvenProjReferenceIdeal.main (F := Ideal))) ⟨m, fun _ => 0, g⟩ (fun r => (∀ c : Dev Cert.EvenProjReferenceIdeal.nD,
      r.2.mem ((c.tc : Thread Cert.EvenProjReferenceIdeal.nD Cert.EvenProjReferenceIdeal.τ).loc Cert.EvenProjReferenceIdeal.main_arg0) = m ((c.tc : Thread Cert.EvenProjReferenceIdeal.nD Cert.EvenProjReferenceIdeal.τ).loc Cert.EvenProjReferenceIdeal.main_arg0)
      ∧ r.2.mem ((c.tc : Thread Cert.EvenProjReferenceIdeal.nD Cert.EvenProjReferenceIdeal.τ).loc Cert.EvenProjReferenceIdeal.main_arg1) = m ((c.tc : Thread Cert.EvenProjReferenceIdeal.nD Cert.EvenProjReferenceIdeal.τ).loc Cert.EvenProjReferenceIdeal.main_arg1))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteIdeal_pre_bias_above [hRouteIdeal : Cert.RouteIdeal.Facts] [hPre_bias_above : Cert.Pre_bias_above.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_bias_above m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1))
      ∧ r.2.sem = fun _ => 0)

def quiescent_RouteReferenceIdeal_pre_bias_above [hRouteReferenceIdeal : Cert.RouteReferenceIdeal.Facts] [hPre_bias_above : Cert.Pre_bias_above.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal_bias_above m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1))
      ∧ r.2.sem = fun _ => 0)

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_table_in_range : Cert.Pre_table_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v10)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v10) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v18) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)
      ∧ m' ((c.tc : Thread Cert.CombineReferenceIdeal.nD Cert.CombineReferenceIdeal.τ).loc Cert.CombineReferenceIdeal.main_arg9) = m ((c.tc : Thread Cert.CombineIdeal.nD Cert.CombineIdeal.τ).loc Cert.CombineIdeal.main_arg9)
      ∧ m' ((c.tc : Thread Cert.CombineReferenceIdeal.nD Cert.CombineReferenceIdeal.τ).loc Cert.CombineReferenceIdeal.main_arg10) = m ((c.tc : Thread Cert.CombineIdeal.nD Cert.CombineIdeal.τ).loc Cert.CombineIdeal.main_arg10)
      ∧ m' ((c.tc : Thread Cert.CombineReferenceIdeal.nD Cert.CombineReferenceIdeal.τ).loc Cert.CombineReferenceIdeal.main_arg11) = m ((c.tc : Thread Cert.CombineIdeal.nD Cert.CombineIdeal.τ).loc Cert.CombineIdeal.main_arg11)
      ∧ m' ((c.tc : Thread Cert.CombineReferenceIdeal.nD Cert.CombineReferenceIdeal.τ).loc Cert.CombineReferenceIdeal.main_arg12) = m ((c.tc : Thread Cert.CombineIdeal.nD Cert.CombineIdeal.τ).loc Cert.CombineIdeal.main_arg12)
      ∧ m' ((c.tc : Thread Cert.CombineReferenceIdeal.nD Cert.CombineReferenceIdeal.τ).loc Cert.CombineReferenceIdeal.main_arg13) = m ((c.tc : Thread Cert.CombineIdeal.nD Cert.CombineIdeal.τ).loc Cert.CombineIdeal.main_arg13)) →
    ∃ (v0 : (c : Dev Cert.CombineIdeal.nD) → Buf (Elt Ideal) ((c.tc : Thread Cert.CombineIdeal.nD Cert.CombineIdeal.τ).loc Cert.CombineIdeal.main_v27)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v27) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
          ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10)
          ∧ r.2.mem ((c.tc : Thread Cert.CombineIdeal.nD Cert.CombineIdeal.τ).loc Cert.CombineIdeal.main_arg11) = m ((c.tc : Thread Cert.CombineIdeal.nD Cert.CombineIdeal.τ).loc Cert.CombineIdeal.main_arg11)
          ∧ r.2.mem ((c.tc : Thread Cert.CombineIdeal.nD Cert.CombineIdeal.τ).loc Cert.CombineIdeal.main_arg12) = m ((c.tc : Thread Cert.CombineIdeal.nD Cert.CombineIdeal.τ).loc Cert.CombineIdeal.main_arg12)
          ∧ r.2.mem ((c.tc : Thread Cert.CombineIdeal.nD Cert.CombineIdeal.τ).loc Cert.CombineIdeal.main_arg13) = m ((c.tc : Thread Cert.CombineIdeal.nD Cert.CombineIdeal.τ).loc Cert.CombineIdeal.main_arg13))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v75) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8)
          ∧ r.2.mem ((c.tc : Thread Cert.CombineReferenceIdeal.nD Cert.CombineReferenceIdeal.τ).loc Cert.CombineReferenceIdeal.main_arg9) = m' ((c.tc : Thread Cert.CombineReferenceIdeal.nD Cert.CombineReferenceIdeal.τ).loc Cert.CombineReferenceIdeal.main_arg9)
          ∧ r.2.mem ((c.tc : Thread Cert.CombineReferenceIdeal.nD Cert.CombineReferenceIdeal.τ).loc Cert.CombineReferenceIdeal.main_arg10) = m' ((c.tc : Thread Cert.CombineReferenceIdeal.nD Cert.CombineReferenceIdeal.τ).loc Cert.CombineReferenceIdeal.main_arg10)
          ∧ r.2.mem ((c.tc : Thread Cert.CombineReferenceIdeal.nD Cert.CombineReferenceIdeal.τ).loc Cert.CombineReferenceIdeal.main_arg11) = m' ((c.tc : Thread Cert.CombineReferenceIdeal.nD Cert.CombineReferenceIdeal.τ).loc Cert.CombineReferenceIdeal.main_arg11)
          ∧ r.2.mem ((c.tc : Thread Cert.CombineReferenceIdeal.nD Cert.CombineReferenceIdeal.τ).loc Cert.CombineReferenceIdeal.main_arg12) = m' ((c.tc : Thread Cert.CombineReferenceIdeal.nD Cert.CombineReferenceIdeal.τ).loc Cert.CombineReferenceIdeal.main_arg12)
          ∧ r.2.mem ((c.tc : Thread Cert.CombineReferenceIdeal.nD Cert.CombineReferenceIdeal.τ).loc Cert.CombineReferenceIdeal.main_arg13) = m' ((c.tc : Thread Cert.CombineReferenceIdeal.nD Cert.CombineReferenceIdeal.τ).loc Cert.CombineReferenceIdeal.main_arg13))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v8_0)) (v1 : (c : Dev Cert.MidIdeal.nD) → Buf (Elt Ideal) ((c.tc : Thread Cert.MidIdeal.nD Cert.MidIdeal.τ).loc Cert.MidIdeal.main_v8_1)) (v2 : (c : Dev Cert.MidIdeal.nD) → Buf (Elt Ideal) ((c.tc : Thread Cert.MidIdeal.nD Cert.MidIdeal.τ).loc Cert.MidIdeal.main_v8_2)) (v3 : (c : Dev Cert.MidIdeal.nD) → Buf (Elt Ideal) ((c.tc : Thread Cert.MidIdeal.nD Cert.MidIdeal.τ).loc Cert.MidIdeal.main_v8_3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v8_0) = v0 c
          ∧ r.2.mem ((c.tc : Thread Cert.MidIdeal.nD Cert.MidIdeal.τ).loc Cert.MidIdeal.main_v8_1) = v1 c
          ∧ r.2.mem ((c.tc : Thread Cert.MidIdeal.nD Cert.MidIdeal.τ).loc Cert.MidIdeal.main_v8_2) = v2 c
          ∧ r.2.mem ((c.tc : Thread Cert.MidIdeal.nD Cert.MidIdeal.τ).loc Cert.MidIdeal.main_v8_3) = v3 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v28) = v0 c
          ∧ r.2.mem ((c.tc : Thread Cert.MidReferenceIdeal.nD Cert.MidReferenceIdeal.τ).loc Cert.MidReferenceIdeal.main_v35) = v1 c
          ∧ r.2.mem ((c.tc : Thread Cert.MidReferenceIdeal.nD Cert.MidReferenceIdeal.τ).loc Cert.MidReferenceIdeal.main_v33) = v2 c
          ∧ r.2.mem ((c.tc : Thread Cert.MidReferenceIdeal.nD Cert.MidReferenceIdeal.τ).loc Cert.MidReferenceIdeal.main_v36) = v3 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8))

def preserves_OddProj_OddProjIdeal : Prop :=
  True

def algebraic_OddProjIdeal_OddProjReferenceIdeal [hOddProjIdeal : Cert.OddProjIdeal.Facts] [hOddProjReferenceIdeal : Cert.OddProjReferenceIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjReferenceIdeal.nD Cert.OddProjReferenceIdeal.τ Cert.OddProjReferenceIdeal.sig) → Buf (Elt Ideal) ℓ) (g' : Dev Cert.OddProjReferenceIdeal.nD → PrngReg), Pre_OddProjIdeal m →
    (∀ c : Dev Cert.OddProjIdeal.nD,
      m' ((c.tc : Thread Cert.OddProjReferenceIdeal.nD Cert.OddProjReferenceIdeal.τ).loc Cert.OddProjReferenceIdeal.main_arg0) = m ((c.tc : Thread Cert.OddProjIdeal.nD Cert.OddProjIdeal.τ).loc Cert.OddProjIdeal.main_arg0)
      ∧ m' ((c.tc : Thread Cert.OddProjReferenceIdeal.nD Cert.OddProjReferenceIdeal.τ).loc Cert.OddProjReferenceIdeal.main_arg1) = m ((c.tc : Thread Cert.OddProjIdeal.nD Cert.OddProjIdeal.τ).loc Cert.OddProjIdeal.main_arg1)) →
    ∃ (v0 : (c : Dev Cert.OddProjIdeal.nD) → Buf (Elt Ideal) ((c.tc : Thread Cert.OddProjIdeal.nD Cert.OddProjIdeal.τ).loc Cert.OddProjIdeal.main_v3)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v3) = v0 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1))
      ∧ θ_run (Cert.OddProjReferenceIdeal.defs (F := Ideal)) (onTc (τ := Cert.OddProjReferenceIdeal.τ) (Cert.OddProjReferenceIdeal.main (F := Ideal))) ⟨m', fun _ => 0, g'⟩ (fun r => ∀ c : Dev Cert.OddProjReferenceIdeal.nD,
          r.2.mem ((c.tc : Thread Cert.OddProjReferenceIdeal.nD Cert.OddProjReferenceIdeal.τ).loc Cert.OddProjReferenceIdeal.main_v0) = v0 c
          ∧ r.2.mem ((c.tc : Thread Cert.OddProjReferenceIdeal.nD Cert.OddProjReferenceIdeal.τ).loc Cert.OddProjReferenceIdeal.main_arg0) = m' ((c.tc : Thread Cert.OddProjReferenceIdeal.nD Cert.OddProjReferenceIdeal.τ).loc Cert.OddProjReferenceIdeal.main_arg0)
          ∧ r.2.mem ((c.tc : Thread Cert.OddProjReferenceIdeal.nD Cert.OddProjReferenceIdeal.τ).loc Cert.OddProjReferenceIdeal.main_arg1) = m' ((c.tc : Thread Cert.OddProjReferenceIdeal.nD Cert.OddProjReferenceIdeal.τ).loc Cert.OddProjReferenceIdeal.main_arg1))

def preserves_EvenProj_EvenProjIdeal : Prop :=
  True

def algebraic_EvenProjIdeal_EvenProjReferenceIdeal [hEvenProjIdeal : Cert.EvenProjIdeal.Facts] [hEvenProjReferenceIdeal : Cert.EvenProjReferenceIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjReferenceIdeal.nD Cert.EvenProjReferenceIdeal.τ Cert.EvenProjReferenceIdeal.sig) → Buf (Elt Ideal) ℓ) (g' : Dev Cert.EvenProjReferenceIdeal.nD → PrngReg), Pre_EvenProjIdeal m →
    (∀ c : Dev Cert.EvenProjIdeal.nD,
      m' ((c.tc : Thread Cert.EvenProjReferenceIdeal.nD Cert.EvenProjReferenceIdeal.τ).loc Cert.EvenProjReferenceIdeal.main_arg0) = m ((c.tc : Thread Cert.EvenProjIdeal.nD Cert.EvenProjIdeal.τ).loc Cert.EvenProjIdeal.main_arg0)
      ∧ m' ((c.tc : Thread Cert.EvenProjReferenceIdeal.nD Cert.EvenProjReferenceIdeal.τ).loc Cert.EvenProjReferenceIdeal.main_arg1) = m ((c.tc : Thread Cert.EvenProjIdeal.nD Cert.EvenProjIdeal.τ).loc Cert.EvenProjIdeal.main_arg1)) →
    ∃ (v0 : (c : Dev Cert.EvenProjIdeal.nD) → Buf (Elt Ideal) ((c.tc : Thread Cert.EvenProjIdeal.nD Cert.EvenProjIdeal.τ).loc Cert.EvenProjIdeal.main_v26_0)) (v1 : (c : Dev Cert.EvenProjIdeal.nD) → Buf (Elt Ideal) ((c.tc : Thread Cert.EvenProjIdeal.nD Cert.EvenProjIdeal.τ).loc Cert.EvenProjIdeal.main_v26_1)) (v2 : (c : Dev Cert.EvenProjIdeal.nD) → Buf (Elt Ideal) ((c.tc : Thread Cert.EvenProjIdeal.nD Cert.EvenProjIdeal.τ).loc Cert.EvenProjIdeal.main_v26_2)) (v3 : (c : Dev Cert.EvenProjIdeal.nD) → Buf (Elt Ideal) ((c.tc : Thread Cert.EvenProjIdeal.nD Cert.EvenProjIdeal.τ).loc Cert.EvenProjIdeal.main_v27)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v26_0) = v0 c
          ∧ r.2.mem ((c.tc : Thread Cert.EvenProjIdeal.nD Cert.EvenProjIdeal.τ).loc Cert.EvenProjIdeal.main_v26_1) = v1 c
          ∧ r.2.mem ((c.tc : Thread Cert.EvenProjIdeal.nD Cert.EvenProjIdeal.τ).loc Cert.EvenProjIdeal.main_v26_2) = v2 c
          ∧ r.2.mem ((c.tc : Thread Cert.EvenProjIdeal.nD Cert.EvenProjIdeal.τ).loc Cert.EvenProjIdeal.main_v27) = v3 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1))
      ∧ θ_run (Cert.EvenProjReferenceIdeal.defs (F := Ideal)) (onTc (τ := Cert.EvenProjReferenceIdeal.τ) (Cert.EvenProjReferenceIdeal.main (F := Ideal))) ⟨m', fun _ => 0, g'⟩ (fun r => ∀ c : Dev Cert.EvenProjReferenceIdeal.nD,
          r.2.mem ((c.tc : Thread Cert.EvenProjReferenceIdeal.nD Cert.EvenProjReferenceIdeal.τ).loc Cert.EvenProjReferenceIdeal.main_v41) = v0 c
          ∧ r.2.mem ((c.tc : Thread Cert.EvenProjReferenceIdeal.nD Cert.EvenProjReferenceIdeal.τ).loc Cert.EvenProjReferenceIdeal.main_v61) = v1 c
          ∧ r.2.mem ((c.tc : Thread Cert.EvenProjReferenceIdeal.nD Cert.EvenProjReferenceIdeal.τ).loc Cert.EvenProjReferenceIdeal.main_v83) = v2 c
          ∧ r.2.mem ((c.tc : Thread Cert.EvenProjReferenceIdeal.nD Cert.EvenProjReferenceIdeal.τ).loc Cert.EvenProjReferenceIdeal.main_v84) = v3 c
          ∧ r.2.mem ((c.tc : Thread Cert.EvenProjReferenceIdeal.nD Cert.EvenProjReferenceIdeal.τ).loc Cert.EvenProjReferenceIdeal.main_arg0) = m' ((c.tc : Thread Cert.EvenProjReferenceIdeal.nD Cert.EvenProjReferenceIdeal.τ).loc Cert.EvenProjReferenceIdeal.main_arg0)
          ∧ r.2.mem ((c.tc : Thread Cert.EvenProjReferenceIdeal.nD Cert.EvenProjReferenceIdeal.τ).loc Cert.EvenProjReferenceIdeal.main_arg1) = m' ((c.tc : Thread Cert.EvenProjReferenceIdeal.nD Cert.EvenProjReferenceIdeal.τ).loc Cert.EvenProjReferenceIdeal.main_arg1))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v5)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v5) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v11) = v0 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3))

def preserves_Route_RouteIdeal : Prop :=
  True

def algebraic_RouteIdeal_RouteReferenceIdeal_pre_bias_above [hRouteIdeal : Cert.RouteIdeal.Facts] [hRouteReferenceIdeal : Cert.RouteReferenceIdeal.Facts] [hPre_bias_above : Cert.Pre_bias_above.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal_bias_above m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)) →
    ∃ (v0 : (c : Dev Cert.RouteIdeal.nD) → Buf (Elt Ideal) ((c.tc : Thread Cert.RouteIdeal.nD Cert.RouteIdeal.τ).loc Cert.RouteIdeal.main_v5_0)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v5_0) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v23) = v0 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1))

def Claim : Prop :=
  ∃ (hExperts : Cert.Experts.Facts) (hExpertsIdeal : Cert.ExpertsIdeal.Facts) (hExpertsReferenceIdeal : Cert.ExpertsReferenceIdeal.Facts) (hCombine : Cert.Combine.Facts) (hCombineIdeal : Cert.CombineIdeal.Facts) (hCombineReferenceIdeal : Cert.CombineReferenceIdeal.Facts) (hMid : Cert.Mid.Facts) (hMidIdeal : Cert.MidIdeal.Facts) (hMidReferenceIdeal : Cert.MidReferenceIdeal.Facts) (hOddProj : Cert.OddProj.Facts) (hOddProjIdeal : Cert.OddProjIdeal.Facts) (hOddProjReferenceIdeal : Cert.OddProjReferenceIdeal.Facts) (hEvenProj : Cert.EvenProj.Facts) (hEvenProjIdeal : Cert.EvenProjIdeal.Facts) (hEvenProjReferenceIdeal : Cert.EvenProjReferenceIdeal.Facts) (hCompress : Cert.Compress.Facts) (hCompressIdeal : Cert.CompressIdeal.Facts) (hCompressReferenceIdeal : Cert.CompressReferenceIdeal.Facts) (hRoute : Cert.Route.Facts) (hRouteIdeal : Cert.RouteIdeal.Facts) (hRouteReferenceIdeal : Cert.RouteReferenceIdeal.Facts) (hPre_table_in_range : Cert.Pre_table_in_range.Facts) (hPre_bias_above : Cert.Pre_bias_above.Facts),
    quiescent_Experts (hExperts := hExperts) (hPre_table_in_range := hPre_table_in_range)
    ∧ quiescent_ExpertsIdeal (hExpertsIdeal := hExpertsIdeal) (hPre_table_in_range := hPre_table_in_range)
    ∧ quiescent_ExpertsReferenceIdeal (hExpertsReferenceIdeal := hExpertsReferenceIdeal) (hPre_table_in_range := hPre_table_in_range)
    ∧ quiescent_Combine (hCombine := hCombine)
    ∧ quiescent_CombineIdeal (hCombineIdeal := hCombineIdeal)
    ∧ quiescent_CombineReferenceIdeal (hCombineReferenceIdeal := hCombineReferenceIdeal)
    ∧ quiescent_Mid (hMid := hMid)
    ∧ quiescent_MidIdeal (hMidIdeal := hMidIdeal)
    ∧ quiescent_MidReferenceIdeal (hMidReferenceIdeal := hMidReferenceIdeal)
    ∧ quiescent_OddProj (hOddProj := hOddProj)
    ∧ quiescent_OddProjIdeal (hOddProjIdeal := hOddProjIdeal)
    ∧ quiescent_OddProjReferenceIdeal (hOddProjReferenceIdeal := hOddProjReferenceIdeal)
    ∧ quiescent_EvenProj (hEvenProj := hEvenProj)
    ∧ quiescent_EvenProjIdeal (hEvenProjIdeal := hEvenProjIdeal)
    ∧ quiescent_EvenProjReferenceIdeal (hEvenProjReferenceIdeal := hEvenProjReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ quiescent_Route (hRoute := hRoute)
    ∧ quiescent_RouteIdeal (hRouteIdeal := hRouteIdeal)
    ∧ quiescent_RouteIdeal_pre_bias_above (hRouteIdeal := hRouteIdeal) (hPre_bias_above := hPre_bias_above)
    ∧ quiescent_RouteReferenceIdeal (hRouteReferenceIdeal := hRouteReferenceIdeal)
    ∧ quiescent_RouteReferenceIdeal_pre_bias_above (hRouteReferenceIdeal := hRouteReferenceIdeal) (hPre_bias_above := hPre_bias_above)
    ∧ preserves_Experts_ExpertsIdeal
    ∧ algebraic_ExpertsIdeal_ExpertsReferenceIdeal (hExpertsIdeal := hExpertsIdeal) (hExpertsReferenceIdeal := hExpertsReferenceIdeal) (hPre_table_in_range := hPre_table_in_range)
    ∧ preserves_Combine_CombineIdeal
    ∧ algebraic_CombineIdeal_CombineReferenceIdeal (hCombineIdeal := hCombineIdeal) (hCombineReferenceIdeal := hCombineReferenceIdeal)
    ∧ preserves_Mid_MidIdeal
    ∧ algebraic_MidIdeal_MidReferenceIdeal (hMidIdeal := hMidIdeal) (hMidReferenceIdeal := hMidReferenceIdeal)
    ∧ preserves_OddProj_OddProjIdeal
    ∧ algebraic_OddProjIdeal_OddProjReferenceIdeal (hOddProjIdeal := hOddProjIdeal) (hOddProjReferenceIdeal := hOddProjReferenceIdeal)
    ∧ preserves_EvenProj_EvenProjIdeal
    ∧ algebraic_EvenProjIdeal_EvenProjReferenceIdeal (hEvenProjIdeal := hEvenProjIdeal) (hEvenProjReferenceIdeal := hEvenProjReferenceIdeal)
    ∧ preserves_Compress_CompressIdeal
    ∧ algebraic_CompressIdeal_CompressReferenceIdeal (hCompressIdeal := hCompressIdeal) (hCompressReferenceIdeal := hCompressReferenceIdeal)
    ∧ preserves_Route_RouteIdeal
    ∧ algebraic_RouteIdeal_RouteReferenceIdeal_pre_bias_above (hRouteIdeal := hRouteIdeal) (hRouteReferenceIdeal := hRouteReferenceIdeal) (hPre_bias_above := hPre_bias_above)
-- ==== Pre_bias_above.lean ====
abbrev S64x65536 : Shape := ⟨2, ![64, 65536]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64x65536 .f32) (main_arg1 : FVec F S64 .f32) : IVec S_ 1 :=
  let main_cst : FVec F S_ .f32 := constant S_ .f32 0xFF800000#32
  let main_v0 : FVec F S64 .f32 := broadcastInDim S64 ![] bcast_S_S64 main_cst
  let main_v1 : IVec S64 1 := cmpf .ogt main_arg1 main_v0
  let main_c : IVec S_ 1 := constantI S_ 1 1#1
  let main_v2 : IVec S_ 1 := (fun x v => Host.reduce IntOp.andi x v reducesTo_S64_S_d0 h_S_) main_v1 main_c
  main_v2
-- ==== Pre_table_in_range.lean ====
abbrev S65536x1024 : Shape := ⟨2, ![65536, 1024]⟩
abbrev S294912 : Shape := ⟨1, ![294912]⟩
abbrev S576 : Shape := ⟨1, ![576]⟩
abbrev S64x1024x256 : Shape := ⟨3, ![64, 1024, 256]⟩
abbrev S64x256x1024 : Shape := ⟨3, ![64, 256, 1024]⟩
abbrev S_ : Shape := ⟨0, ![]⟩

class Facts : Prop where
  bcast_S_S576 : S_.BroadcastsInDim S576 (![] : Fin 0 → Fin S576.rank)

variable [Facts]

def fn {F : FTy → Type} [FloatOps F] (main_arg0 : FVec F S65536x1024 .bf16) (main_arg1 : IVec S294912 32) (main_arg2 : IVec S576 32) (main_arg3 : FVec F S64x1024x256 .f32) (main_arg4 : FVec F S64x1024x256 .f32) (main_arg5 : FVec F S64x256x1024 .f32) : IVec S576 1 :=
  let main_c : IVec S_ 32 := constantI S_ 32 0#32
  let main_v0 : IVec S576 32 := broadcastInDim S576 ![] bcast_S_S576 main_c
  let main_v1 : IVec S576 1 := cmpi .sge main_arg2 main_v0
  let main_c_0 : IVec S_ 32 := constantI S_ 32 64#32
  let main_v2 : IVec S576 32 := broadcastInDim S576 ![] bcast_S_S576 main_c_0
  let main_v3 : IVec S576 1 := cmpi .slt main_arg2 main_v2
  let main_v4 : IVec S576 1 := andi main_v1 main_v3
  main_v4
-- ==== Experts.lean ====
abbrev S65536x1024 : Shape := ⟨2, ![65536, 1024]⟩
abbrev S294912 : Shape := ⟨1, ![294912]⟩
abbrev S576 : Shape := ⟨1, ![576]⟩
abbrev S64x1024x256 : Shape := ⟨3, ![64, 1024, 256]⟩
abbrev S64x256x1024 : Shape := ⟨3, ![64, 256, 1024]⟩
abbrev S_ : Shape := ⟨0, ![]⟩
abbrev S294912x1 : Shape := ⟨2, ![294912, 1]⟩
abbrev S294912x1024 : Shape := ⟨2, ![294912, 1024]⟩
abbrev S512x1024 : Shape := ⟨2, ![512, 1024]⟩
abbrev S1x1024x256 : Shape := ⟨3, ![1, 1024, 256]⟩
abbrev S1 : Shape := ⟨1, ![1]⟩
abbrev S1x256x1024 : Shape := ⟨3, ![1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 18
  | .vmem => 10
  | .smem => 1
  | _ => 0

abbrev bufTy : (tb : Table) → Fin (tcTables nBuf tb) → BufTy
  | .hbm, ⟨0, _⟩ => ⟨S65536x1024, .bf16⟩
  | .hbm, ⟨1, _⟩ => ⟨S294912, .i32⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S_, .i32⟩
  | .hbm, ⟨6, _⟩ => ⟨S294912, .i32⟩
  | .hbm, ⟨7, _⟩ => ⟨S294912, .i1⟩
  | .hbm, ⟨8, _⟩ => ⟨S_, .i32⟩
  | .hbm, ⟨9, _⟩ => ⟨S294912, .i32⟩
  | .hbm, ⟨10, _⟩ => ⟨S294912, .i32⟩
  | .hbm, ⟨11, _⟩ => ⟨S294912, .i32⟩
  | .hbm, ⟨12, _⟩ => ⟨S294912x1, .i32⟩
  | .hbm, ⟨13, _⟩ => ⟨S294912x1024, .bf16⟩
  | .hbm, ⟨14, _⟩ => ⟨S64x1024x256, .bf16⟩
  | .hbm, ⟨15, _⟩ => ⟨S64x1024x256, .bf16⟩
  | .hbm, ⟨16, _⟩ => ⟨S64x256x1024, .bf16⟩
  | .hbm, ⟨17, _⟩ => ⟨S294912x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1024, .bf16⟩
  | .local _ .vmem, ⟨9, _⟩ => ⟨S512x1024, .bf16⟩
  | .local _ .smem, ⟨0, _⟩ => ⟨S576, .i32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![576], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S65536x1024 : Shape := ⟨2, ![65536, 1024]⟩
abbrev S294912 : Shape := ⟨1, ![294912]⟩
abbrev S576 : Shape := ⟨1, ![576]⟩
abbrev S64x1024x256 : Shape := ⟨3, ![64, 1024, 256]⟩
abbrev S64x256x1024 : Shape := ⟨3, ![64, 256, 1024]⟩
abbrev S_ : Shape := ⟨0, ![]⟩
abbrev S294912x1 : Shape := ⟨2, ![294912, 1]⟩
abbrev S294912x1024 : Shape := ⟨2, ![294912, 1024]⟩
abbrev S576x512x1024 : Shape := ⟨3, ![576, 512, 1024]⟩
abbrev S576x1 : Shape := ⟨2, ![576, 1]⟩
abbrev S576x1024x256 : Shape := ⟨3, ![576, 1024, 256]⟩
abbrev S576x512x256 : Shape := ⟨3, ![576, 512, 256]⟩
abbrev S576x256x1024 : Shape := ⟨3, ![576, 256, 1024]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S294912, .i32⟩
  | .hbm, ⟨2, _⟩ => ⟨S576, .i32⟩
  | .hbm, ⟨3, _⟩ => ⟨S64x1024x256, .f32⟩
  | .hbm, ⟨4, _⟩ => ⟨S64x1024x256, .f32⟩
  | .hbm, ⟨5, _⟩ => ⟨S64x256x1024, .f32⟩
  | .hbm, ⟨6, _⟩ => ⟨S_, .i32⟩
  | .hbm, ⟨7, _⟩ => ⟨S294912, .i32⟩
  | .hbm, ⟨8, _⟩ => ⟨S294912, .i1⟩
  | .hbm, ⟨9, _⟩ => ⟨S_, .i32⟩
  | .hbm, ⟨10, _⟩ => ⟨S294912, .i32⟩
  | .hbm, ⟨11, _⟩ => ⟨S294912, .i32⟩
  | .hbm, ⟨12, _⟩ => ⟨S294912, .i32⟩
  | .hbm, ⟨13, _⟩ => ⟨S294912x1, .i32⟩
  | .hbm, ⟨14, _⟩ => ⟨S294912x1024, .bf16⟩
  | .hbm, ⟨15, _⟩ => ⟨S294912x1024, .f32⟩
  | .hbm, ⟨16, _⟩ => ⟨S576x512x1024, .f32⟩
  | .hbm, ⟨17, _⟩ => ⟨S576x1, .i32⟩
  | .hbm, ⟨18, _⟩ => ⟨S576x1024x256, .f32⟩
  | .hbm, ⟨19, _⟩ => ⟨S576x512x256, .f32⟩
  | .hbm, ⟨20, _⟩ => ⟨S576x512x256, .f32⟩
  | .hbm, ⟨21, _⟩ => ⟨S576x512x256, .f32⟩
  | .hbm, ⟨22, _⟩ => ⟨S_, .f32⟩
  | .hbm, ⟨23, _⟩ => ⟨S576x512x256, .f32⟩
  | .hbm, ⟨24, _⟩ => ⟨S576x512x256, .f32⟩
  | .hbm, ⟨25, _⟩ => ⟨S_, .f32⟩
  | .hbm, ⟨26, _⟩ => ⟨S576x512x256, .f32⟩
  | .hbm, ⟨27, _⟩ => ⟨S576x512x256, .f32⟩
  | .hbm, ⟨28, _⟩ => ⟨S576x512x256, .f32⟩
  | .hbm, ⟨29, _⟩ => ⟨S576x1, .i32⟩
  | .hbm, ⟨30, _⟩ => ⟨S576x1024x256, .f32⟩
  | .hbm, ⟨31, _⟩ => ⟨S576x512x256, .f32⟩
  | .hbm, ⟨32, _⟩ => ⟨S576x512x256, .f32⟩
  | .hbm, ⟨33, _⟩ => ⟨S576x1, .i32⟩
  | .hbm, ⟨34, _⟩ => ⟨S576x256x1024, .f32⟩
  | .hbm, ⟨35, _⟩ => ⟨S576x512x1024, .f32⟩
  | .hbm, ⟨36, _⟩ => ⟨S294912x1024, .f32⟩
  | .hbm, ⟨37, _⟩ => ⟨S294912x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v11 : Ref sig .tc := ⟨.hbm, 28, rfl⟩
abbrev main_call2_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call3_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Combine.lean ====
abbrev S65536x1024 : Shape := ⟨2, ![65536, 1024]⟩
abbrev S294912x1024 : Shape := ⟨2, ![294912, 1024]⟩
abbrev S8x32768 : Shape := ⟨2, ![8, 32768]⟩
abbrev S65536x256 : Shape := ⟨2, ![65536, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8x32768x1 : Shape := ⟨3, ![8, 32768, 1]⟩
abbrev S8x32768x1024 : Shape := ⟨3, ![8, 32768, 1024]⟩
abbrev S32768x8 : Shape := ⟨2, ![32768, 8]⟩
abbrev S1x1024 : Shape := ⟨2, ![1, 1024]⟩
abbrev S8x256x1024 : Shape := ⟨3, ![8, 256, 1024]⟩
abbrev S256x8 : Shape := ⟨2, ![256, 8]⟩
abbrev S256x256 : Shape := ⟨2, ![256, 256]⟩
abbrev S1x256x1024 : Shape := ⟨3, ![1, 256, 1024]⟩
abbrev S256x1 : Shape := ⟨2, ![256, 1]⟩
abbrev S256 : Shape := ⟨1, ![256]⟩

abbrev nBuf : Space → Nat
  | .hbm => 46
  | .vmem => 34
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S294912x1024, .bf16⟩
  | .hbm, ⟨3, _⟩ => ⟨S8x32768, .i32⟩
  | .hbm, ⟨4, _⟩ => ⟨S8x32768, .f32⟩
  | .hbm, ⟨5, _⟩ => ⟨S294912x1024, .bf16⟩
  | .hbm, ⟨6, _⟩ => ⟨S8x32768, .i32⟩
  | .hbm, ⟨7, _⟩ => ⟨S8x32768, .f32⟩
  | .hbm, ⟨8, _⟩ => ⟨S65536x256, .f32⟩
  | .hbm, ⟨9, _⟩ => ⟨S1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S1024x1024, .f32⟩
  | .hbm, ⟨14, _⟩ => ⟨S_, .i32⟩
  | .hbm, ⟨15, _⟩ => ⟨S8x32768, .i32⟩
  | .hbm, ⟨16, _⟩ => ⟨S8x32768, .i1⟩
  | .hbm, ⟨17, _⟩ => ⟨S_, .i32⟩
  | .hbm, ⟨18, _⟩ => ⟨S8x32768, .i32⟩
  | .hbm, ⟨19, _⟩ => ⟨S8x32768, .i32⟩
  | .hbm, ⟨20, _⟩ => ⟨S8x32768, .i32⟩
  | .hbm, ⟨21, _⟩ => ⟨S8x32768x1, .i32⟩
  | .hbm, ⟨22, _⟩ => ⟨S8x32768x1024, .bf16⟩
  | .hbm, ⟨23, _⟩ => ⟨S32768x8, .f32⟩
  | .hbm, ⟨24, _⟩ => ⟨S1x1024, .f32⟩
  | .hbm, ⟨25, _⟩ => ⟨S1x1024, .f32⟩
  | .hbm, ⟨26, _⟩ => ⟨S256x1024, .bf16⟩
  | .hbm, ⟨27, _⟩ => ⟨S1x1024, .f32⟩
  | .hbm, ⟨28, _⟩ => ⟨S1024x1024, .bf16⟩
  | .hbm, ⟨29, _⟩ => ⟨S65536x1024, .f32⟩
  | .hbm, ⟨30, _⟩ => ⟨S_, .i32⟩
  | .hbm, ⟨31, _⟩ => ⟨S8x32768, .i32⟩
  | .hbm, ⟨32, _⟩ => ⟨S8x32768, .i1⟩
  | .hbm, ⟨33, _⟩ => ⟨S_, .i32⟩
  | .hbm, ⟨34, _⟩ => ⟨S8x32768, .i32⟩
  | .hbm, ⟨35, _⟩ => ⟨S8x32768, .i32⟩
  | .hbm, ⟨36, _⟩ => ⟨S8x32768, .i32⟩
  | .hbm, ⟨37, _⟩ => ⟨S8x32768x1, .i32⟩
  | .hbm, ⟨38, _⟩ => ⟨S8x32768x1024, .bf16⟩
  | .hbm, ⟨39, _⟩ => ⟨S32768x8, .f32⟩
  | .hbm, ⟨40, _⟩ => ⟨S1x1024, .f32⟩
  | .hbm, ⟨41, _⟩ => ⟨S1x1024, .f32⟩
  | .hbm, ⟨42, _⟩ => ⟨S256x1024, .bf16⟩
  | .hbm, ⟨43, _⟩ => ⟨S1x1024, .f32⟩
  | .hbm, ⟨44, _⟩ => ⟨S1024x1024, .bf16⟩
  | .hbm, ⟨45, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x1024, .bf16⟩
  | .local _ .vmem, ⟨5, _⟩ => ⟨S8x256x1024, .bf16⟩
  | .local _ .vmem, ⟨6, _⟩ => ⟨S256x8, .f32⟩
  | .local _ .vmem, ⟨7, _⟩ => ⟨S256x8, .f32⟩
  | .local _ .vmem, ⟨8, _⟩ => ⟨S256x256, .f32⟩
  | .local _ .vmem, ⟨9, _⟩ => ⟨S256x256, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S8x256x1024, .bf16⟩
  | .local _ .vmem, ⟨22, _⟩ => ⟨S8x256x1024, .bf16⟩
  | .local _ .vmem, ⟨23, _⟩ => ⟨S256x8, .f32⟩
  | .local _ .vmem, ⟨24, _⟩ => ⟨S256x8, .f32⟩
  | .local _ .vmem, ⟨25, _⟩ => ⟨S256x256, .f32⟩
  | .local _ .vmem, ⟨26, _⟩ => ⟨S256x256, .f32⟩
  | .local _ .vmem, ⟨27, _⟩ => ⟨S1x1024, .f32⟩
  | .local _ .vmem, ⟨28, _⟩ => ⟨S1x1024, .f32⟩
  | .local _ .vmem, ⟨29, _⟩ => ⟨S256x1024, .bf16⟩
  | .local _ .vmem, ⟨30, _⟩ => ⟨S1x1024, .f32⟩
  | .local _ .vmem, ⟨31, _⟩ => ⟨S1024x1024, .bf16⟩
  | .local _ .vmem, ⟨32, _⟩ => ⟨S256x1024, .f32⟩
  | .local _ .vmem, ⟨33, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== CombineReferenceIdeal.lean ====
abbrev S65536x1024 : Shape := ⟨2, ![65536, 1024]⟩
abbrev S294912x1024 : Shape := ⟨2, ![294912, 1024]⟩
abbrev S8x32768 : Shape := ⟨2, ![8, 32768]⟩
abbrev S65536x256 : Shape := ⟨2, ![65536, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8x32768x1 : Shape := ⟨3, ![8, 32768, 1]⟩
abbrev S8x32768x1024 : Shape := ⟨3, ![8, 32768, 1024]⟩
abbrev S32768x1024 : Shape := ⟨2, ![32768, 1024]⟩
abbrev S65536 : Shape := ⟨1, ![65536]⟩
abbrev S65536x1 : Shape := ⟨2, ![65536, 1]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S294912x1024, .bf16⟩
  | .hbm, ⟨3, _⟩ => ⟨S8x32768, .i32⟩
  | .hbm, ⟨4, _⟩ => ⟨S8x32768, .f32⟩
  | .hbm, ⟨5, _⟩ => ⟨S294912x1024, .bf16⟩
  | .hbm, ⟨6, _⟩ => ⟨S8x32768, .i32⟩
  | .hbm, ⟨7, _⟩ => ⟨S8x32768, .f32⟩
  | .hbm, ⟨8, _⟩ => ⟨S65536x256, .f32⟩
  | .hbm, ⟨9, _⟩ => ⟨S1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S1024x1024, .f32⟩
  | .hbm, ⟨14, _⟩ => ⟨S_, .i32⟩
  | .hbm, ⟨15, _⟩ => ⟨S8x32768, .i32⟩
  | .hbm, ⟨16, _⟩ => ⟨S8x32768, .i1⟩
  | .hbm, ⟨17, _⟩ => ⟨S_, .i32⟩
  | .hbm, ⟨18, _⟩ => ⟨S8x32768, .i32⟩
  | .hbm, ⟨19, _⟩ => ⟨S8x32768, .i32⟩
  | .hbm, ⟨20, _⟩ => ⟨S8x32768, .i32⟩
  | .hbm, ⟨21, _⟩ => ⟨S8x32768x1, .i32⟩
  | .hbm, ⟨22, _⟩ => ⟨S8x32768x1024, .bf16⟩
  | .hbm, ⟨23, _⟩ => ⟨S8x32768x1024, .f32⟩
  | .hbm, ⟨24, _⟩ => ⟨S8x32768x1, .f32⟩
  | .hbm, ⟨25, _⟩ => ⟨S8x32768x1024, .f32⟩
  | .hbm, ⟨26, _⟩ => ⟨S8x32768x1024, .f32⟩
  | .hbm, ⟨27, _⟩ => ⟨S_, .f32⟩
  | .hbm, ⟨28, _⟩ => ⟨S32768x1024, .f32⟩
  | .hbm, ⟨29, _⟩ => ⟨S_, .i32⟩
  | .hbm, ⟨30, _⟩ => ⟨S8x32768, .i32⟩
  | .hbm, ⟨31, _⟩ => ⟨S8x32768, .i1⟩
  | .hbm, ⟨32, _⟩ => ⟨S_, .i32⟩
  | .hbm, ⟨33, _⟩ => ⟨S8x32768, .i32⟩
  | .hbm, ⟨34, _⟩ => ⟨S8x32768, .i32⟩
  | .hbm, ⟨35, _⟩ => ⟨S8x32768, .i32⟩
  | .hbm, ⟨36, _⟩ => ⟨S8x32768x1, .i32⟩
  | .hbm, ⟨37, _⟩ => ⟨S8x32768x1024, .bf16⟩
  | .hbm, ⟨38, _⟩ => ⟨S8x32768x1024, .f32⟩
  | .hbm, ⟨39, _⟩ => ⟨S8x32768x1, .f32⟩
  | .hbm, ⟨40, _⟩ => ⟨S8x32768x1024, .f32⟩
  | .hbm, ⟨41, _⟩ => ⟨S8x32768x1024, .f32⟩
  | .hbm, ⟨42, _⟩ => ⟨S_, .f32⟩
  | .hbm, ⟨43, _⟩ => ⟨S32768x1024, .f32⟩
  | .hbm, ⟨44, _⟩ => ⟨S65536x1024, .f32⟩
  | .hbm, ⟨45, _⟩ => ⟨S_, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S_, .f32⟩
  | .hbm, ⟨51, _⟩ => ⟨S65536, .f32⟩
  | .hbm, ⟨52, _⟩ => ⟨S65536x1, .f32⟩
  | .hbm, ⟨53, _⟩ => ⟨S_, .f32⟩
  | .hbm, ⟨54, _⟩ => ⟨S65536x1, .f32⟩
  | .hbm, ⟨55, _⟩ => ⟨S65536x1, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S_, .f32⟩
  | .hbm, ⟨60, _⟩ => ⟨S65536, .f32⟩
  | .hbm, ⟨61, _⟩ => ⟨S65536x1, .f32⟩
  | .hbm, ⟨62, _⟩ => ⟨S_, .f32⟩
  | .hbm, ⟨63, _⟩ => ⟨S65536x1, .f32⟩
  | .hbm, ⟨64, _⟩ => ⟨S65536x1, .f32⟩
  | .hbm, ⟨65, _⟩ => ⟨S65536x1024, .f32⟩
  | .hbm, ⟨66, _⟩ => ⟨S65536x1024, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S65536x1, .f32⟩
  | .hbm, ⟨71, _⟩ => ⟨S65536x1024, .f32⟩
  | .hbm, ⟨72, _⟩ => ⟨S65536x1024, .f32⟩
  | .hbm, ⟨73, _⟩ => ⟨S1x1024, .f32⟩
  | .hbm, ⟨74, _⟩ => ⟨S65536x1024, .f32⟩
  | .hbm, ⟨75, _⟩ => ⟨S65536x1024, .f32⟩
  | .hbm, ⟨76, _⟩ => ⟨S1x1024, .f32⟩
  | .hbm, ⟨77, _⟩ => ⟨S65536x1024, .f32⟩
  | .hbm, ⟨78, _⟩ => ⟨S65536x1024, .f32⟩
  | .hbm, ⟨79, _⟩ => ⟨S65536x1024, .f32⟩
  | .hbm, ⟨80, _⟩ => ⟨S65536x1024, .f32⟩
  | .hbm, ⟨81, _⟩ => ⟨S_, .f32⟩
  | .hbm, ⟨82, _⟩ => ⟨S65536, .f32⟩
  | .hbm, ⟨83, _⟩ => ⟨S65536x1, .f32⟩
  | .hbm, ⟨84, _⟩ => ⟨S_, .f32⟩
  | .hbm, ⟨85, _⟩ => ⟨S65536x1, .f32⟩
  | .hbm, ⟨86, _⟩ => ⟨S65536x1, .f32⟩
  | .hbm, ⟨87, _⟩ => ⟨S_, .f32⟩
  | .hbm, ⟨88, _⟩ => ⟨S65536x1, .f32⟩
  | .hbm, ⟨89, _⟩ => ⟨S65536x1, .f32⟩
  | .hbm, ⟨90, _⟩ => ⟨S65536x1, .f32⟩
  | .hbm, ⟨91, _⟩ => ⟨S65536x1024, .f32⟩
  | .hbm, ⟨92, _⟩ => ⟨S65536x1024, .f32⟩
  | .hbm, ⟨93, _⟩ => ⟨S1x1024, .f32⟩
  | .hbm, ⟨94, _⟩ => ⟨S65536x1024, .f32⟩
  | .hbm, ⟨95, _⟩ => ⟨S65536x1024, .f32⟩
  | .hbm, ⟨96, _⟩ => ⟨S65536x1024, .f32⟩
  | .hbm, ⟨97, _⟩ => ⟨S65536x1024, .f32⟩
  | .hbm, ⟨98, _⟩ => ⟨S65536x1024, .f32⟩
  | .hbm, ⟨99, _⟩ => ⟨S_, .f32⟩
  | .hbm, ⟨100, _⟩ => ⟨S65536x1024, .f32⟩
  | .hbm, ⟨101, _⟩ => ⟨S65536x1024, .f32⟩
  | .hbm, ⟨102, _⟩ => ⟨S_, .f32⟩
  | .hbm, ⟨103, _⟩ => ⟨S65536x1024, .f32⟩
  | .hbm, ⟨104, _⟩ => ⟨S65536x1024, .f32⟩
  | .hbm, ⟨105, _⟩ => ⟨S65536x1024, .f32⟩
  | .hbm, ⟨106, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Mid.lean ====
abbrev S65536x1024 : Shape := ⟨2, ![65536, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S1024x64 : Shape := ⟨2, ![1024, 64]⟩
abbrev S1x1024 : Shape := ⟨2, ![1, 1024]⟩
abbrev S64x1024 : Shape := ⟨2, ![64, 1024]⟩
abbrev S64x65536 : Shape := ⟨2, ![64, 65536]⟩
abbrev S512x1024 : Shape := ⟨2, ![512, 1024]⟩
abbrev S64x512 : Shape := ⟨2, ![64, 512]⟩
abbrev S512 : Shape := ⟨1, ![512]⟩
abbrev S512x1 : Shape := ⟨2, ![512, 1]⟩
abbrev S512x256 : Shape := ⟨2, ![512, 256]⟩

abbrev nBuf : Space → Nat
  | .hbm => 21
  | .vmem => 19
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S1024x64, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x256, .bf16⟩
  | .hbm, ⟨13, _⟩ => ⟨S1024x256, .bf16⟩
  | .hbm, ⟨14, _⟩ => ⟨S256x1024, .bf16⟩
  | .hbm, ⟨15, _⟩ => ⟨S64x1024, .f32⟩
  | .hbm, ⟨16, _⟩ => ⟨S64x1024, .bf16⟩
  | .hbm, ⟨17, _⟩ => ⟨S65536x1024, .f32⟩
  | .hbm, ⟨18, _⟩ => ⟨S65536x1024, .bf16⟩
  | .hbm, ⟨19, _⟩ => ⟨S65536x1024, .f32⟩
  | .hbm, ⟨20, _⟩ => ⟨S64x65536, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S64x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S64x512, .f32⟩
  | .local _ .vmem, ⟨18, _⟩ => ⟨S64x512, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MidReferenceIdeal.lean ====
abbrev S65536x1024 : Shape := ⟨2, ![65536, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x256 : Shape := ⟨2, ![65536, 256]⟩
abbrev S65536x64 : Shape := ⟨2, ![65536, 64]⟩
abbrev S64x65536 : Shape := ⟨2, ![64, 65536]⟩

abbrev nBuf : Space → Nat
  | .hbm => 60
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S1024x64, .f32⟩
  | .hbm, ⟨9, _⟩ => ⟨S_, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x1, .f32⟩
  | .hbm, ⟨36, _⟩ => ⟨S65536x1024, .f32⟩
  | .hbm, ⟨37, _⟩ => ⟨S65536x1024, .f32⟩
  | .hbm, ⟨38, _⟩ => ⟨S1x1024, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S_, .f32⟩
  | .hbm, ⟨48, _⟩ => ⟨S65536x256, .f32⟩
  | .hbm, ⟨49, _⟩ => ⟨S65536x256, .f32⟩
  | .hbm, ⟨50, _⟩ => ⟨S_, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x1024, .f32⟩
  | .hbm, ⟨57, _⟩ => ⟨S65536x64, .f32⟩
  | .hbm, ⟨58, _⟩ => ⟨S65536x1024, .bf16⟩
  | .hbm, ⟨59, _⟩ => ⟨S64x65536, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]
-- ==== OddProj.lean ====
abbrev S65536x1024 : Shape := ⟨2, ![65536, 1024]⟩
abbrev S1024x3088 : Shape := ⟨2, ![1024, 3088]⟩
abbrev S_ : Shape := ⟨0, ![]⟩
abbrev S1024x3200 : Shape := ⟨2, ![1024, 3200]⟩
abbrev S65536x3200 : Shape := ⟨2, ![65536, 3200]⟩
abbrev S512x1024 : Shape := ⟨2, ![512, 1024]⟩
abbrev S512x3200 : Shape := ⟨2, ![512, 3200]⟩
abbrev S65536x3088 : Shape := ⟨2, ![65536, 3088]⟩

abbrev nBuf : Space → Nat
  | .hbm => 8
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x3088, .f32⟩
  | .hbm, ⟨2, _⟩ => ⟨S_, .i32⟩
  | .hbm, ⟨3, _⟩ => ⟨S_, .f32⟩
  | .hbm, ⟨4, _⟩ => ⟨S1024x3200, .f32⟩
  | .hbm, ⟨5, _⟩ => ⟨S1024x3200, .bf16⟩
  | .hbm, ⟨6, _⟩ => ⟨S65536x3200, .f32⟩
  | .hbm, ⟨7, _⟩ => ⟨S65536x3088, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S512x3200, .f32⟩
  | .local _ .vmem, ⟨4, _⟩ => ⟨S512x3200, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OddProjReferenceIdeal.lean ====
abbrev S65536x1024 : Shape := ⟨2, ![65536, 1024]⟩
abbrev S1024x3088 : Shape := ⟨2, ![1024, 3088]⟩
abbrev S65536x3088 : Shape := ⟨2, ![65536, 3088]⟩

abbrev nBuf : Space → Nat
  | .hbm => 3
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3088, .f32⟩
  | .hbm, ⟨2, _⟩ => ⟨S65536x3088, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== EvenProj.lean ====
abbrev S65536x1024 : Shape := ⟨2, ![65536, 1024]⟩
abbrev S1024x2144 : Shape := ⟨2, ![1024, 2144]⟩
abbrev S608 : Shape := ⟨1, ![608]⟩
abbrev S128 : Shape := ⟨1, ![128]⟩
abbrev S1x128 : Shape := ⟨2, ![1, 128]⟩
abbrev S1024x512 : Shape := ⟨2, ![1024, 512]⟩
abbrev S1x1024x512 : Shape := ⟨3, ![1, 1024, 512]⟩
abbrev S3x1024x512 : Shape := ⟨3, ![3, 1024, 512]⟩
abbrev S_ : Shape := ⟨0, ![]⟩
abbrev S608x1 : Shape := ⟨2, ![608, 1]⟩
abbrev S1024x608 : Shape := ⟨2, ![1024, 608]⟩
abbrev S1024x640 : Shape := ⟨2, ![1024, 640]⟩
abbrev S2048 : Shape := ⟨1, ![2048]⟩
abbrev S2048x1 : Shape := ⟨2, ![2048, 1]⟩
abbrev S2048x128 : Shape := ⟨2, ![2048, 128]⟩
abbrev S65536x512 : Shape := ⟨2, ![65536, 512]⟩
abbrev S65536x640 : Shape := ⟨2, ![65536, 640]⟩
abbrev S512x1024 : Shape := ⟨2, ![512, 1024]⟩
abbrev S512x128 : Shape := ⟨2, ![512, 128]⟩
abbrev S512x512 : Shape := ⟨2, ![512, 512]⟩
abbrev S512x640 : Shape := ⟨2, ![512, 640]⟩
abbrev S65536x608 : Shape := ⟨2, ![65536, 608]⟩

abbrev nBuf : Space → Nat
  | .hbm => 40
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024x2144, .f32⟩
  | .hbm, ⟨2, _⟩ => ⟨S608, .i32⟩
  | .hbm, ⟨3, _⟩ => ⟨S608, .i1⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1x1024x512, .f32⟩
  | .hbm, ⟨11, _⟩ => ⟨S1x1024x512, .f32⟩
  | .hbm, ⟨12, _⟩ => ⟨S1x1024x512, .f32⟩
  | .hbm, ⟨13, _⟩ => ⟨S3x1024x512, .f32⟩
  | .hbm, ⟨14, _⟩ => ⟨S3x1024x512, .bf16⟩
  | .hbm, ⟨15, _⟩ => ⟨S_, .i32⟩
  | .hbm, ⟨16, _⟩ => ⟨S608, .i32⟩
  | .hbm, ⟨17, _⟩ => ⟨S608, .i32⟩
  | .hbm, ⟨18, _⟩ => ⟨S608, .i32⟩
  | .hbm, ⟨19, _⟩ => ⟨S608x1, .i32⟩
  | .hbm, ⟨20, _⟩ => ⟨S1024x608, .f32⟩
  | .hbm, ⟨21, _⟩ => ⟨S_, .i32⟩
  | .hbm, ⟨22, _⟩ => ⟨S_, .f32⟩
  | .hbm, ⟨23, _⟩ => ⟨S1024x640, .f32⟩
  | .hbm, ⟨24, _⟩ => ⟨S1024x640, .bf16⟩
  | .hbm, ⟨25, _⟩ => ⟨S2048, .f32⟩
  | .hbm, ⟨26, _⟩ => ⟨S2048x1, .f32⟩
  | .hbm, ⟨27, _⟩ => ⟨S1x128, .f32⟩
  | .hbm, ⟨28, _⟩ => ⟨S2048x128, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S65536x512, .bf16⟩
  | .hbm, ⟨36, _⟩ => ⟨S65536x512, .bf16⟩
  | .hbm, ⟨37, _⟩ => ⟨S65536x512, .bf16⟩
  | .hbm, ⟨38, _⟩ => ⟨S65536x640, .f32⟩
  | .hbm, ⟨39, _⟩ => ⟨S65536x608, .f32⟩
  | .local _ .vmem, ⟨0, _⟩ => ⟨S512x1024, .f32⟩
  | .local _ .vmem, ⟨1, _⟩ => ⟨S512x1024, .f32⟩
  | .local _ .vmem, ⟨2, _⟩ => ⟨S3x1024x512, .bf16⟩
  | .local _ .vmem, ⟨3, _⟩ => ⟨S1024x640, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x640, .f32⟩
  | .local _ .vmem, ⟨15, _⟩ => ⟨S512x640, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v26_3 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenProjReferenceIdeal.lean ====
abbrev S65536x1024 : Shape := ⟨2, ![65536, 1024]⟩
abbrev S1024x2144 : Shape := ⟨2, ![1024, 2144]⟩
abbrev S32 : Shape := ⟨1, ![32]⟩
abbrev S65536x2144 : Shape := ⟨2, ![65536, 2144]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S65536x512 : Shape := ⟨2, ![65536, 512]⟩
abbrev S65536x64 : Shape := ⟨2, ![65536, 64]⟩
abbrev S65536x8 : Shape := ⟨2, ![65536, 8]⟩
abbrev S65536x384 : Shape := ⟨2, ![65536, 384]⟩
abbrev S65536x24 : Shape := ⟨2, ![65536, 24]⟩
abbrev S32x2048x8x64 : Shape := ⟨4, ![32, 2048, 8, 64]⟩
abbrev S32x2048x8x32 : Shape := ⟨4, ![32, 2048, 8, 32]⟩
abbrev S1x2048x1x32 : Shape := ⟨4, ![1, 2048, 1, 32]⟩
abbrev S_ : Shape := ⟨0, ![]⟩
abbrev S65536x608 : Shape := ⟨2, ![65536, 608]⟩

abbrev nBuf : Space → Nat
  | .hbm => 90
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2144, .f32⟩
  | .hbm, ⟨2, _⟩ => ⟨S32, .f32⟩
  | .hbm, ⟨3, _⟩ => ⟨S65536x2144, .f32⟩
  | .hbm, ⟨4, _⟩ => ⟨S2048, .f32⟩
  | .hbm, ⟨5, _⟩ => ⟨S2048x1, .f32⟩
  | .hbm, ⟨6, _⟩ => ⟨S1x32, .f32⟩
  | .hbm, ⟨7, _⟩ => ⟨S2048x32, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S2048x1x32, .f32⟩
  | .hbm, ⟨12, _⟩ => ⟨S2048x32, .f32⟩
  | .hbm, ⟨13, _⟩ => ⟨S2048x1x32, .f32⟩
  | .hbm, ⟨14, _⟩ => ⟨S65536x512, .f32⟩
  | .hbm, ⟨15, _⟩ => ⟨S65536x64, .f32⟩
  | .hbm, ⟨16, _⟩ => ⟨S65536x64, .f32⟩
  | .hbm, ⟨17, _⟩ => ⟨S65536x512, .f32⟩
  | .hbm, ⟨18, _⟩ => ⟨S65536x64, .f32⟩
  | .hbm, ⟨19, _⟩ => ⟨S65536x8, .f32⟩
  | .hbm, ⟨20, _⟩ => ⟨S65536x512, .f32⟩
  | .hbm, ⟨21, _⟩ => ⟨S65536x384, .f32⟩
  | .hbm, ⟨22, _⟩ => ⟨S65536x24, .f32⟩
  | .hbm, ⟨23, _⟩ => ⟨S32x2048x8x64, .f32⟩
  | .hbm, ⟨24, _⟩ => ⟨S32x2048x8x32, .f32⟩
  | .hbm, ⟨25, _⟩ => ⟨S32x2048x8x32, .f32⟩
  | .hbm, ⟨26, _⟩ => ⟨S1x2048x1x32, .f32⟩
  | .hbm, ⟨27, _⟩ => ⟨S32x2048x8x32, .f32⟩
  | .hbm, ⟨28, _⟩ => ⟨S32x2048x8x32, .f32⟩
  | .hbm, ⟨29, _⟩ => ⟨S1x2048x1x32, .f32⟩
  | .hbm, ⟨30, _⟩ => ⟨S32x2048x8x32, .f32⟩
  | .hbm, ⟨31, _⟩ => ⟨S32x2048x8x32, .f32⟩
  | .hbm, ⟨32, _⟩ => ⟨S32x2048x8x32, .f32⟩
  | .hbm, ⟨33, _⟩ => ⟨S1x2048x1x32, .f32⟩
  | .hbm, ⟨34, _⟩ => ⟨S32x2048x8x32, .f32⟩
  | .hbm, ⟨35, _⟩ => ⟨S32x2048x8x32, .f32⟩
  | .hbm, ⟨36, _⟩ => ⟨S1x2048x1x32, .f32⟩
  | .hbm, ⟨37, _⟩ => ⟨S32x2048x8x32, .f32⟩
  | .hbm, ⟨38, _⟩ => ⟨S32x2048x8x32, .f32⟩
  | .hbm, ⟨39, _⟩ => ⟨S32x2048x8x32, .f32⟩
  | .hbm, ⟨40, _⟩ => ⟨S32x2048x8x64, .f32⟩
  | .hbm, ⟨41, _⟩ => ⟨S65536x512, .f32⟩
  | .hbm, ⟨42, _⟩ => ⟨S_, .f32⟩
  | .hbm, ⟨43, _⟩ => ⟨S65536x512, .f32⟩
  | .hbm, ⟨44, _⟩ => ⟨S65536x512, .f32⟩
  | .hbm, ⟨45, _⟩ => ⟨S65536x512, .bf16⟩
  | .hbm, ⟨46, _⟩ => ⟨S32x2048x8x64, .f32⟩
  | .hbm, ⟨47, _⟩ => ⟨S32x2048x8x32, .f32⟩
  | .hbm, ⟨48, _⟩ => ⟨S32x2048x8x32, .f32⟩
  | .hbm, ⟨49, _⟩ => ⟨S1x2048x1x32, .f32⟩
  | .hbm, ⟨50, _⟩ => ⟨S32x2048x8x32, .f32⟩
  | .hbm, ⟨51, _⟩ => ⟨S32x2048x8x32, .f32⟩
  | .hbm, ⟨52, _⟩ => ⟨S1x2048x1x32, .f32⟩
  | .hbm, ⟨53, _⟩ => ⟨S32x2048x8x32, .f32⟩
  | .hbm, ⟨54, _⟩ => ⟨S32x2048x8x32, .f32⟩
  | .hbm, ⟨55, _⟩ => ⟨S32x2048x8x32, .f32⟩
  | .hbm, ⟨56, _⟩ => ⟨S1x2048x1x32, .f32⟩
  | .hbm, ⟨57, _⟩ => ⟨S32x2048x8x32, .f32⟩
  | .hbm, ⟨58, _⟩ => ⟨S32x2048x8x32, .f32⟩
  | .hbm, ⟨59, _⟩ => ⟨S1x2048x1x32, .f32⟩
  | .hbm, ⟨60, _⟩ => ⟨S32x2048x8x32, .f32⟩
  | .hbm, ⟨61, _⟩ => ⟨S32x2048x8x32, .f32⟩
  | .hbm, ⟨62, _⟩ => ⟨S32x2048x8x32, .f32⟩
  | .hbm, ⟨63, _⟩ => ⟨S32x2048x8x64, .f32⟩
  | .hbm, ⟨64, _⟩ => ⟨S65536x512, .f32⟩
  | .hbm, ⟨65, _⟩ => ⟨S65536x512, .bf16⟩
  | .hbm, ⟨66, _⟩ => ⟨S32x2048x8x64, .f32⟩
  | .hbm, ⟨67, _⟩ => ⟨S32x2048x8x32, .f32⟩
  | .hbm, ⟨68, _⟩ => ⟨S32x2048x8x32, .f32⟩
  | .hbm, ⟨69, _⟩ => ⟨S1x2048x1x32, .f32⟩
  | .hbm, ⟨70, _⟩ => ⟨S32x2048x8x32, .f32⟩
  | .hbm, ⟨71, _⟩ => ⟨S32x2048x8x32, .f32⟩
  | .hbm, ⟨72, _⟩ => ⟨S1x2048x1x32, .f32⟩
  | .hbm, ⟨73, _⟩ => ⟨S32x2048x8x32, .f32⟩
  | .hbm, ⟨74, _⟩ => ⟨S32x2048x8x32, .f32⟩
  | .hbm, ⟨75, _⟩ => ⟨S32x2048x8x32, .f32⟩
  | .hbm, ⟨76, _⟩ => ⟨S1x2048x1x32, .f32⟩
  | .hbm, ⟨77, _⟩ => ⟨S32x2048x8x32, .f32⟩
  | .hbm, ⟨78, _⟩ => ⟨S32x2048x8x32, .f32⟩
  | .hbm, ⟨79, _⟩ => ⟨S1x2048x1x32, .f32⟩
  | .hbm, ⟨80, _⟩ => ⟨S32x2048x8x32, .f32⟩
  | .hbm, ⟨81, _⟩ => ⟨S32x2048x8x32, .f32⟩
  | .hbm, ⟨82, _⟩ => ⟨S32x2048x8x32, .f32⟩
  | .hbm, ⟨83, _⟩ => ⟨S32x2048x8x64, .f32⟩
  | .hbm, ⟨84, _⟩ => ⟨S65536x512, .f32⟩
  | .hbm, ⟨85, _⟩ => ⟨S_, .f32⟩
  | .hbm, ⟨86, _⟩ => ⟨S65536x512, .f32⟩
  | .hbm, ⟨87, _⟩ => ⟨S65536x512, .f32⟩
  | .hbm, ⟨88, _⟩ => ⟨S65536x512, .bf16⟩
  | .hbm, ⟨89, _⟩ => ⟨S65536x608, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_cst_0 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_cst_1 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩

abbrev nD : Nat := 1
abbrev τ : Topo := Topo.v7x

variable {F : FTy → Type} [FloatOps F]
-- ==== Compress.lean ====
abbrev S32x2048x64 : Shape := ⟨3, ![32, 2048, 64]⟩
abbrev S32x64 : Shape := ⟨2, ![32, 64]⟩
abbrev S2048x64 : Shape := ⟨2, ![2048, 64]⟩
abbrev S64x64 : Shape := ⟨2, ![64, 64]⟩
abbrev S32x128x1024 : Shape := ⟨3, ![32, 128, 1024]⟩
abbrev S2x1024 : Shape := ⟨2, ![2, 1024]⟩
abbrev S32x128x64 : Shape := ⟨3, ![32, 128, 64]⟩
abbrev S1x128x1024 : Shape := ⟨3, ![1, 128, 1024]⟩
abbrev S1x128x64 : Shape := ⟨3, ![1, 128, 64]⟩
abbrev S128x1024 : Shape := ⟨2, ![128, 1024]⟩
abbrev S1x1024 : Shape := ⟨2, ![1, 1024]⟩
abbrev S1024x64 : Shape := ⟨2, ![1024, 64]⟩
abbrev S128x64 : Shape := ⟨2, ![128, 64]⟩
abbrev S32x127x64 : Shape := ⟨3, ![32, 127, 64]⟩

abbrev nBuf : Space → Nat
  | .hbm => 10
  | .vmem => 7
  | .smem => 0
  | _ => 0

abbrev bufTy : (tb : Table) → Fin (tcTables nBuf tb) → BufTy
  | .hbm, ⟨0, _⟩ => ⟨S32x2048x64, .f32⟩
  | .hbm, ⟨1, _⟩ => ⟨S32x64, .f32⟩
  | .hbm, ⟨2, _⟩ => ⟨S2048x64, .f32⟩
  | .hbm, ⟨3, _⟩ => ⟨S64x64, .f32⟩
  | .hbm, ⟨4, _⟩ => ⟨S32x128x1024, .f32⟩
  | .hbm, ⟨5, _⟩ => ⟨S2x1024, .f32⟩
  | .hbm, ⟨6, _⟩ => ⟨S2048x64, .bf16⟩
  | .hbm, ⟨7, _⟩ => ⟨S64x64, .bf16⟩
  | .hbm, ⟨8, _⟩ => ⟨S32x128x64, .f32⟩
  | .hbm, ⟨9, _⟩ => ⟨S32x127x64, .f32⟩
  | .local _ .vmem, ⟨0, _⟩ => ⟨S1x128x1024, .f32⟩
  | .local _ .vmem, ⟨1, _⟩ => ⟨S1x128x1024, .f32⟩
  | .local _ .vmem, ⟨2, _⟩ => ⟨S2x1024, .f32⟩
  | .local _ .vmem, ⟨3, _⟩ => ⟨S2048x64, .bf16⟩
  | .local _ .vmem, ⟨4, _⟩ => ⟨S64x64, .bf16⟩
  | .local _ .vmem, ⟨5, _⟩ => ⟨S1x128x64, .f32⟩
  | .local _ .vmem, ⟨6, _⟩ => ⟨S1x128x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CompressReferenceIdeal.lean ====
abbrev S32x2048x64 : Shape := ⟨3, ![32, 2048, 64]⟩
abbrev S32x64 : Shape := ⟨2, ![32, 64]⟩
abbrev S2048x64 : Shape := ⟨2, ![2048, 64]⟩
abbrev S64x64 : Shape := ⟨2, ![64, 64]⟩
abbrev S127x32 : Shape := ⟨2, ![127, 32]⟩
abbrev S_ : Shape := ⟨0, ![]⟩
abbrev S127x32x1 : Shape := ⟨3, ![127, 32, 1]⟩
abbrev S32x127x32x64 : Shape := ⟨4, ![32, 127, 32, 64]⟩
abbrev S1x1x32x64 : Shape := ⟨4, ![1, 1, 32, 64]⟩
abbrev S32x127x2048 : Shape := ⟨3, ![32, 127, 2048]⟩
abbrev S32x127x64 : Shape := ⟨3, ![32, 127, 64]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x64, .f32⟩
  | .hbm, ⟨2, _⟩ => ⟨S2048x64, .f32⟩
  | .hbm, ⟨3, _⟩ => ⟨S64x64, .f32⟩
  | .hbm, ⟨4, _⟩ => ⟨S127x32, .i32⟩
  | .hbm, ⟨5, _⟩ => ⟨S127x32, .i1⟩
  | .hbm, ⟨6, _⟩ => ⟨S_, .i32⟩
  | .hbm, ⟨7, _⟩ => ⟨S127x32, .i32⟩
  | .hbm, ⟨8, _⟩ => ⟨S127x32, .i32⟩
  | .hbm, ⟨9, _⟩ => ⟨S127x32, .i32⟩
  | .hbm, ⟨10, _⟩ => ⟨S127x32x1, .i32⟩
  | .hbm, ⟨11, _⟩ => ⟨S32x127x32x64, .f32⟩
  | .hbm, ⟨12, _⟩ => ⟨S1x1x32x64, .f32⟩
  | .hbm, ⟨13, _⟩ => ⟨S32x127x32x64, .f32⟩
  | .hbm, ⟨14, _⟩ => ⟨S32x127x32x64, .f32⟩
  | .hbm, ⟨15, _⟩ => ⟨S32x127x2048, .f32⟩
  | .hbm, ⟨16, _⟩ => ⟨S32x127x64, .f32⟩
  | .hbm, ⟨17, _⟩ => ⟨S32x127x64, .f32⟩
  | .hbm, ⟨18, _⟩ => ⟨S32x127x64, .f32⟩
  | .hbm, ⟨19, _⟩ => ⟨S_, .f32⟩
  | .hbm, ⟨20, _⟩ => ⟨S32x127x64, .f32⟩
  | .hbm, ⟨21, _⟩ => ⟨S32x127x64, .f32⟩
  | .hbm, ⟨22, _⟩ => ⟨S_, .f32⟩
  | .hbm, ⟨23, _⟩ => ⟨S32x127x64, .f32⟩
  | .hbm, ⟨24, _⟩ => ⟨S32x127x64, .f32⟩
  | .hbm, ⟨25, _⟩ => ⟨S32x127x64, .f32⟩
  | .hbm, ⟨26, _⟩ => ⟨S32x127x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩

abbrev nD : Nat := 1
abbrev τ : Topo := Topo.v7x

variable {F : FTy → Type} [FloatOps F]
-- ==== Route.lean ====
abbrev S64x65536 : Shape := ⟨2, ![64, 65536]⟩
abbrev S64 : Shape := ⟨1, ![64]⟩
abbrev S512x512 : Shape := ⟨2, ![512, 512]⟩
abbrev S64x1 : Shape := ⟨2, ![64, 1]⟩
abbrev S8x32768 : Shape := ⟨2, ![8, 32768]⟩
abbrev S64x512 : Shape := ⟨2, ![64, 512]⟩
abbrev S8x512 : Shape := ⟨2, ![8, 512]⟩
abbrev S512 : Shape := ⟨1, ![512]⟩
abbrev S1x512 : Shape := ⟨2, ![1, 512]⟩

abbrev nBuf : Space → Nat
  | .hbm => 13
  | .vmem => 12
  | .smem => 0
  | _ => 0

abbrev bufTy : (tb : Table) → Fin (tcTables nBuf tb) → BufTy
  | .hbm, ⟨0, _⟩ => ⟨S64x65536, .f32⟩
  | .hbm, ⟨1, _⟩ => ⟨S64, .f32⟩
  | .hbm, ⟨2, _⟩ => ⟨S512x512, .i32⟩
  | .hbm, ⟨3, _⟩ => ⟨S512x512, .i32⟩
  | .hbm, ⟨4, _⟩ => ⟨S512x512, .i1⟩
  | .hbm, ⟨5, _⟩ => ⟨S512x512, .bf16⟩
  | .hbm, ⟨6, _⟩ => ⟨S64x1, .f32⟩
  | .hbm, ⟨7, _⟩ => ⟨S8x32768, .i32⟩
  | .hbm, ⟨8, _⟩ => ⟨S8x32768, .f32⟩
  | .hbm, ⟨9, _⟩ => ⟨S8x32768, .i32⟩
  | .hbm, ⟨10, _⟩ => ⟨S64x1, .f32⟩
  | .hbm, ⟨11, _⟩ => ⟨S64, .f32⟩
  | .hbm, ⟨12, _⟩ => ⟨S64, .i32⟩
  | .local _ .vmem, ⟨0, _⟩ => ⟨S64x512, .f32⟩
  | .local _ .vmem, ⟨1, _⟩ => ⟨S64x512, .f32⟩
  | .local _ .vmem, ⟨2, _⟩ => ⟨S64x1, .f32⟩
  | .local _ .vmem, ⟨3, _⟩ => ⟨S512x512, .bf16⟩
  | .local _ .vmem, ⟨4, _⟩ => ⟨S8x512, .i32⟩
  | .local _ .vmem, ⟨5, _⟩ => ⟨S8x512, .i32⟩
  | .local _ .vmem, ⟨6, _⟩ => ⟨S8x512, .f32⟩
  | .local _ .vmem, ⟨7, _⟩ => ⟨S8x512, .f32⟩
  | .local _ .vmem, ⟨8, _⟩ => ⟨S8x512, .i32⟩
  | .local _ .vmem, ⟨9, _⟩ => ⟨S8x512, .i32⟩
  | .local _ .vmem, ⟨10, _⟩ => ⟨S64x1, .f32⟩
  | .local _ .vmem, ⟨11, _⟩ => ⟨S64x1, .f32⟩
  | _, _ => ⟨S64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev main_v5_3 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RouteReferenceIdeal.lean ====
abbrev S64x65536 : Shape := ⟨2, ![64, 65536]⟩
abbrev S64 : Shape := ⟨1, ![64]⟩
abbrev S64x32768 : Shape := ⟨2, ![64, 32768]⟩
abbrev S32768x64 : Shape := ⟨2, ![32768, 64]⟩
abbrev S_ : Shape := ⟨0, ![]⟩
abbrev S1x64 : Shape := ⟨2, ![1, 64]⟩
abbrev S32768x8x8 : Shape := ⟨3, ![32768, 8, 8]⟩
abbrev S32768x8x2 : Shape := ⟨3, ![32768, 8, 2]⟩
abbrev S32768x8 : Shape := ⟨2, ![32768, 8]⟩
abbrev S32768x4 : Shape := ⟨2, ![32768, 4]⟩
abbrev S32768x4x1 : Shape := ⟨3, ![32768, 4, 1]⟩
abbrev S8 : Shape := ⟨1, ![8]⟩
abbrev S1x1x8 : Shape := ⟨3, ![1, 1, 8]⟩
abbrev S32768x4x8 : Shape := ⟨3, ![32768, 4, 8]⟩
abbrev S8x32768 : Shape := ⟨2, ![8, 32768]⟩

abbrev nBuf : Space → Nat
  | .hbm => 39
  | .vmem => 0
  | .smem => 0
  | _ => 0

abbrev bufTy : (tb : Table) → Fin (tcTables nBuf tb) → BufTy
  | .hbm, ⟨0, _⟩ => ⟨S64x65536, .f32⟩
  | .hbm, ⟨1, _⟩ => ⟨S64, .f32⟩
  | .hbm, ⟨2, _⟩ => ⟨S64x32768, .f32⟩
  | .hbm, ⟨3, _⟩ => ⟨S32768x64, .f32⟩
  | .hbm, ⟨4, _⟩ => ⟨S32768x64, .f32⟩
  | .hbm, ⟨5, _⟩ => ⟨S32768x64, .f32⟩
  | .hbm, ⟨6, _⟩ => ⟨S_, .f32⟩
  | .hbm, ⟨7, _⟩ => ⟨S32768x64, .f32⟩
  | .hbm, ⟨8, _⟩ => ⟨S32768x64, .f32⟩
  | .hbm, ⟨9, _⟩ => ⟨S_, .f32⟩
  | .hbm, ⟨10, _⟩ => ⟨S32768x64, .f32⟩
  | .hbm, ⟨11, _⟩ => ⟨S32768x64, .f32⟩
  | .hbm, ⟨12, _⟩ => ⟨S1x64, .f32⟩
  | .hbm, ⟨13, _⟩ => ⟨S32768x64, .f32⟩
  | .hbm, ⟨14, _⟩ => ⟨S32768x64, .f32⟩
  | .hbm, ⟨15, _⟩ => ⟨S32768x8x8, .f32⟩
  | .hbm, ⟨16, _⟩ => ⟨S32768x8x2, .f32⟩
  | .hbm, ⟨17, _⟩ => ⟨S32768x8x2, .i32⟩
  | .hbm, ⟨18, _⟩ => ⟨S_, .f32⟩
  | .hbm, ⟨19, _⟩ => ⟨S32768x8, .f32⟩
  | .hbm, ⟨20, _⟩ => ⟨S32768x4, .f32⟩
  | .hbm, ⟨21, _⟩ => ⟨S32768x4, .i32⟩
  | .hbm, ⟨22, _⟩ => ⟨S32768x4x1, .i32⟩
  | .hbm, ⟨23, _⟩ => ⟨S8, .i32⟩
  | .hbm, ⟨24, _⟩ => ⟨S1x1x8, .i32⟩
  | .hbm, ⟨25, _⟩ => ⟨S32768x4x8, .i32⟩
  | .hbm, ⟨26, _⟩ => ⟨S32768x4x8, .i32⟩
  | .hbm, ⟨27, _⟩ => ⟨S32768x4x8, .i1⟩
  | .hbm, ⟨28, _⟩ => ⟨S_, .i1⟩
  | .hbm, ⟨29, _⟩ => ⟨S32768x8, .i1⟩
  | .hbm, ⟨30, _⟩ => ⟨S32768x8x8, .i1⟩
  | .hbm, ⟨31, _⟩ => ⟨S32768x64, .i1⟩
  | .hbm, ⟨32, _⟩ => ⟨S_, .f32⟩
  | .hbm, ⟨33, _⟩ => ⟨S_, .f32⟩
  | .hbm, ⟨34, _⟩ => ⟨S32768x64, .f32⟩
  | .hbm, ⟨35, _⟩ => ⟨S32768x64, .f32⟩
  | .hbm, ⟨36, _⟩ => ⟨S32768x8, .f32⟩
  | .hbm, ⟨37, _⟩ => ⟨S32768x8, .i32⟩
  | .hbm, ⟨38, _⟩ => ⟨S8x32768, .i32⟩
  | _, _ => ⟨S64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_values : Ref sig .tc := ⟨.hbm, 16, rfl⟩
abbrev main_indices : Ref sig .tc := ⟨.hbm, 17, rfl⟩
abbrev main_cst_1 : Ref sig .tc := ⟨.hbm, 18, rfl⟩
abbrev main_v12 : Ref sig .tc := ⟨.hbm, 19, rfl⟩
abbrev main_values_2 : Ref sig .tc := ⟨.hbm, 20, rfl⟩
abbrev main_indices_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_values_5 : Ref sig .tc := ⟨.hbm, 36, rfl⟩
abbrev main_indices_6 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Proof.ExpertsOk.lean ====
/- The routed experts: the precondition bounds every word of the block-to-expert table, and with it every block that an
   index map reads off the table lies inside its array. -/
module

public import proofs.«01_k».proof.Defs
public import proofs.«01_k».proof.Proof.Gen.Experts.Frame
public import proofs.«01_k».proof.Proof.Gen.ExpertsIdeal.Frame
public import proofs.«01_k».proof.Proof.Gen.Pre_table_in_range

@[expose] public section

noncomputable section

namespace Cert.ExpertsOk

open Idealize.ShloMosaic Idealize.ShloMosaic.TcCoe Idealize.SL.Sem

/-- A table whose signed words lie in `[0, 64)`. -/
def InRange {s : Shape} (t : IVec s 32) : Prop := ∀ w, (t w).toNat < 64

theorem word_lt (v : BitVec 32) (h0 : IntOp.cmpi .sge v 0#32 = 1#1) (h1 : IntOp.cmpi .slt v 64#32 = 1#1) : v.toNat < 64 := by
  have ofBool_one : ∀ p : Bool, BitVec.ofBool p = 1#1 → p = true := by decide
  have e1 : (0#32 : BitVec 32).toInt ≤ v.toInt := of_decide_eq_true (ofBool_one _ h0)
  have e2 : v.toInt < (64#32 : BitVec 32).toInt := of_decide_eq_true (ofBool_one _ h1)
  rw [show (0#32 : BitVec 32).toInt = 0 from rfl] at e1
  rw [show (64#32 : BitVec 32).toInt = 64 from rfl] at e2
  rw [BitVec.toInt_eq_toNat_cond] at e1 e2
  have := v.isLt
  split at e1 <;> omega

theorem inRange_of_fn {F : FTy → Type} [FloatOps F] (x0 : FVec F Cert.Pre_table_in_range.S65536x1024 .bf16)
    (x1 : IVec Cert.Pre_table_in_range.S294912 32) (x2 : IVec Cert.Pre_table_in_range.S576 32)
    (x3 x4 : FVec F Cert.Pre_table_in_range.S64x1024x256 .f32) (x5 : FVec F Cert.Pre_table_in_range.S64x256x1024 .f32)
    (h : Cert.Pre_table_in_range.fn (F := F) x0 x1 x2 x3 x4 x5 = fun _ => 1#1) : InRange x2 := by
  intro w
  have e := congrFun h w
  have andi_one : ∀ a b : BitVec 1, IntOp.andi a b = 1#1 → a = 1#1 ∧ b = 1#1 := by decide
  obtain ⟨e1, e2⟩ := andi_one (IntOp.cmpi .sge (x2 w) 0#32) (IntOp.cmpi .slt (x2 w) 64#32) e
  exact word_lt (x2 w) e1 e2

/-- The block condition from a table in range, for either program's windows: stated for one block shape at a time. -/
theorem block_ok {n a b : Nat} (hb : b % 2 = 0 ∧ 0 < a) (e : Nat) (he : e < n) (ix : Fin 3 → Nat) (hix : ix = ![e, 0, 0]) :
    ∀ k, (ix k + 1) * (⟨3, ![1, a, b]⟩ : Shape).size k ≤ (⟨3, ![n, a, b]⟩ : Shape).size k := by
  subst hix
  intro k
  fin_cases k <;> simp <;> omega

end Cert.ExpertsOk

namespace Cert.Experts.Gen

open Idealize.ShloMosaic Idealize.ShloMosaic.TcCoe Idealize.SL.Sem Cert.ExpertsOk

variable {F : FTy → Type} [FloatOps F]

theorem at_lt (pf : pre0.Contents (Elt F)) (h : InRange (s := S576) (pf 0)) (i : grid0.Coords) :
    (pf.at 0 (Rect.unit (s := S576) (k0_off1 i) S1.size (k0_off1_inb i)) numel1_S1).toNat < 64 := h _

theorem ok_of_range (m : (ℓ : Loc nD τ sig) → Buf (Elt F) ℓ)
    (h : InRange (s := S576) (m (((0 : Dev nD) : Thread nD τ).loc main_arg2))) : Ok m := by
  have ht : InRange (s := S576) (tbl m 0) := by
    have e : tbl m 0 = m (((0 : Dev nD) : Thread nD τ).loc main_arg2) := V_main_arg2 m 0
    rw [e]; exact h
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · exact block_ok ⟨rfl, by omega⟩ _ (at_lt (tbl m) ht i) _ rfl
  · exact block_ok ⟨rfl, by omega⟩ _ (at_lt (tbl m) ht i) _ rfl
  · exact block_ok ⟨rfl, by omega⟩ _ (at_lt (tbl m) ht i) _ rfl

end Cert.Experts.Gen

namespace Cert.ExpertsIdeal.Gen

open Idealize.ShloMosaic Idealize.ShloMosaic.TcCoe Idealize.SL.Sem Cert.ExpertsOk

variable {F : FTy → Type} [FloatOps F]

theorem at_lt (pf : pre0.Contents (Elt F)) (h : InRange (s := S576) (pf 0)) (i : grid0.Coords) :
    (pf.at 0 (Rect.unit (s := S576) (k0_off1 i) S1.size (k0_off1_inb i)) numel1_S1).toNat < 64 := h _

theorem ok_of_range (m : (ℓ : Loc nD τ sig) → Buf (Elt F) ℓ)
    (h : InRange (s := S576) (m (((0 : Dev nD) : Thread nD τ).loc main_arg2))) : Ok m := by
  have ht : InRange (s := S576) (tbl m 0) := by
    have e : tbl m 0 = m (((0 : Dev nD) : Thread nD τ).loc main_arg2) := V_main_arg2 m 0
    rw [e]; exact h
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · exact block_ok ⟨rfl, by omega⟩ _ (at_lt (tbl m) ht i) _ rfl
  · exact block_ok ⟨rfl, by omega⟩ _ (at_lt (tbl m) ht i) _ rfl
  · exact block_ok ⟨rfl, by omega⟩ _ (at_lt (tbl m) ht i) _ rfl

end Cert.ExpertsIdeal.Gen

end
-- ==== Proof.ExpertsPay.lean ====
module

public import proofs.«01_k».proof.Proof.ExpertsOk
public import Idealize.ShloMosaic.Lib.Pointwise
public import Idealize.ShloMosaic.Lib.Pipeline.ValueKit
public import Idealize.ShloMosaic.PureOps.Ideal.Laws

@[expose] public section

noncomputable section

namespace Cert.ExpertsIdeal.Gen

open Idealize.ShloMosaic Idealize.ShloMosaic.TcCoe Idealize.SL.Sem Cert.ExpertsOk

/-- The gated product of one row against one expert's three weight slices: `x` the row, `u`, `g` the two up projections'
    columns, `d` the down projection's column. -/
def gated (x : Fin 1024 → EReal) (u g : Fin 256 → Fin 1024 → EReal) (d : Fin 256 → EReal) : EReal :=
  ∑ f : Fin 256, ((∑ k, x k * u f k) * Ideal.div 1 (1 + Ideal.exp (0 - ∑ k, x k * u f k)) * ∑ k, x k * g f k) * d f

theorem pay_apply (x0 : Vec Ideal S512x1024 .bf16) (x1 x2 : Vec Ideal S1x1024x256 .bf16) (x3 : Vec Ideal S1x256x1024 .bf16)
    (r : Fin 512) (c : Fin 1024) : k0_pay1 (F := Ideal) x0 x1 x2 x3 (ix2 r c)
      = gated (fun k => x0 (ix2 r k)) (fun f k => x1 (ix3 0 k f)) (fun f k => x2 (ix3 0 k f)) (fun f => x3 (ix3 0 f c)) := by
  pointwise [k0_pay1]
  rfl

/-- The expert of a row: its block's table word, kept below 64. -/
def expert (t : IVec S576 32) (n : Nat) (h : n < 576) : Fin 64 := ⟨min (t (ix1 ⟨n, h⟩)).toNat 63, by omega⟩

/-- What the call computes, from the gathered rows, the table and the weights. -/
def G (X : S294912x1024.Idx → EReal) (t : IVec S576 32) (w1 w3 : S64x1024x256.Idx → EReal) (w2 : S64x256x1024.Idx → EReal)
    (i : S294912x1024.Idx) : EReal :=
  have h : (i 0).val / 512 < 576 := by have : (i 0).val < 294912 := (i 0).isLt; omega
  gated (fun k => X (ix2 (i 0) k)) (fun f k => w1 (ix3 (expert t _ h) k f)) (fun f k => w3 (ix3 (expert t _ h) k f))
    (fun f => w2 (ix3 (expert t _ h) f (i 1)))

variable (m : (ℓ : Loc nD τ sig) → Buf (Elt Ideal) ℓ)

theorem coord_val : ∀ t : Fin grid0.N, (grid0.coords t 0).val = t.val := by decide +kernel

theorem out_eq (c : Dev nD) (i : grid0.Coords) (arg2 : Memref sig .tc .vmem S512x1024 .bf16) (harg2 : arg2.IsWhole)
    (arg3 : Memref sig .tc .vmem S1x1024x256 .bf16) (harg3 : arg3.IsWhole) (arg4 : Memref sig .tc .vmem S1x1024x256 .bf16)
    (harg4 : arg4.IsWhole) (arg5 : Memref sig .tc .vmem S1x256x1024 .bf16) (harg5 : arg5.IsWhole)
    (arg6 : Memref sig .tc .vmem S512x1024 .bf16) (harg6 : arg6.IsWhole)
    (x0 : Vec Ideal S512x1024 .bf16) (x1 x2 : Vec Ideal S1x1024x256 .bf16) (x3 : Vec Ideal S1x256x1024 .bf16)
    (xt : TbBuf0 (F := Ideal) c tbM0_0) (y : S512x1024.Idx) :
    out0_A_4 c i arg2 harg2 arg3 harg3 arg4 harg4 arg5 harg5 arg6 harg6 x0 x1 x2 x3 xt y = k0_pay1 x0 x1 x2 x3 y := by
  frame_out

/-- The table's word at a point. -/
theorem word_at (pf : pre0.Contents (Elt Ideal)) (t : Fin grid0.N) (h : t.val < 576) :
    pf.at 0 (Rect.unit (s := S576) (k0_off1 (grid0.coords t)) S1.size (k0_off1_inb (grid0.coords t))) numel1_S1
      = (pf 0 : IVec S576 32) (ix1 ⟨t.val, h⟩) := by
  refine congrArg (pf 0 : IVec S576 32) (funext fun a => Fin.ext ?_)
  obtain rfl : a = (0 : Fin 1) := (Subsingleton.elim (α := Fin 1) a 0)
  refine (ValueKit.rect_emb_unit_val (s := S576) _ _ _ _ (0 : Fin 1)).trans ?_
  have hc := coord_val t
  have e : k0_off1 (grid0.coords t) 0 = t.val := by
    show (Scalar.indexCast (BitVec.ofNat 32 (grid0.coords t 0).val)).toNat = t.val
    rw [hc]
    simp [Scalar.indexCast]
    omega
  have ef : (Shape.Idx.first (s := S1) (by decide) (0 : Fin 1)).val = 0 := by
    have : (Shape.Idx.first (s := S1) (by decide) (0 : Fin 1)).val < 1 := Fin.isLt _
    omega
  show k0_off1 (grid0.coords t) 0 + _ = t.val
  rw [e]
  exact congrArg (t.val + ·) ef

theorem tr0 (t : Fin grid0.N) (h : t.val < 576) : cc0_transform_0 (grid0.coords t) = ![t.val, 0] := by
  have e : (BitVec.ofNat 32 (grid0.coords t 0).val).toNat = t.val := by
    rw [coord_val t]; simp; omega
  unfold cc0_transform_0
  show ![(BitVec.ofNat 32 (grid0.coords t 0).val).toNat, 0] = _
  rw [e]

theorem tr1 (pf : pre0.Contents (Elt Ideal)) (t : Fin grid0.N) (h : t.val < 576) :
    cc0_transform_1 k0_off1_inb numel1_S1 pf (grid0.coords t) = ![((pf 0 : IVec S576 32) (ix1 ⟨t.val, h⟩)).toNat, 0, 0] := by
  rw [← word_at pf t h]; rfl
theorem tr2 (pf : pre0.Contents (Elt Ideal)) (t : Fin grid0.N) (h : t.val < 576) :
    cc0_transform_2 k0_off1_inb numel1_S1 pf (grid0.coords t) = ![((pf 0 : IVec S576 32) (ix1 ⟨t.val, h⟩)).toNat, 0, 0] := by
  rw [← word_at pf t h]; rfl
theorem tr3 (pf : pre0.Contents (Elt Ideal)) (t : Fin grid0.N) (h : t.val < 576) :
    cc0_transform_3 k0_off1_inb numel1_S1 pf (grid0.coords t) = ![((pf 0 : IVec S576 32) (ix1 ⟨t.val, h⟩)).toNat, 0, 0] := by
  rw [← word_at pf t h]; rfl

theorem blk0 (hO : Ok m) (c : Dev nD) (t : Fin grid0.N) (h5 : t.val < 576) (r : Fin 512) (k : Fin 1024) (h : t.val * 512 + r.val < 294912) :
    (iblk m hO c 0 t : S512x1024.Idx → EReal) (ix2 r k) = V m c main_v6 (ix2 ⟨t.val * 512 + r.val, h⟩ k : S294912x1024.Idx) := by
  refine congrArg (V m c main_v6) (funext fun a => Fin.ext ?_)
  refine (ValueKit.view_emb_slice_whole_unit_val main_v6 _ _ _ _ a).trans ?_
  change cc0_transform_0 (grid0.coords t) a * S512x1024.size a + _ = _
  rw [tr0 t h5]
  match a with
  | ⟨0, _⟩ => rfl
  | ⟨1, _⟩ => show 0 * 1024 + k.val = k.val; omega

theorem blk1 (hO : Ok m) (c : Dev nD) (t : Fin grid0.N) (h5 : t.val < 576) (e : Fin 64)
    (he : e.val = ((tbl m 0 : IVec S576 32) (ix1 ⟨t.val, h5⟩)).toNat) (k : Fin 1024) (f : Fin 256) :
    (iblk m hO c 1 t : S1x1024x256.Idx → EReal) (ix3 0 k f) = V m c main_v7 (ix3 e k f : S64x1024x256.Idx) := by
  refine congrArg (V m c main_v7) (funext fun a => Fin.ext ?_)
  refine (ValueKit.view_emb_slice_whole_unit_val main_v7 _ _ _ _ a).trans ?_
  change cc0_transform_1 k0_off1_inb numel1_S1 (tbl m) (grid0.coords t) a * S1x1024x256.size a + _ = _
  rw [tr1 (tbl m) t h5, ← he]
  match a with
  | ⟨0, _⟩ => show e.val * 1 + 0 = e.val; omega
  | ⟨1, _⟩ => show 0 * 1024 + k.val = k.val; omega
  | ⟨2, _⟩ => show 0 * 256 + f.val = f.val; omega

theorem blk2 (hO : Ok m) (c : Dev nD) (t : Fin grid0.N) (h5 : t.val < 576) (e : Fin 64)
    (he : e.val = ((tbl m 0 : IVec S576 32) (ix1 ⟨t.val, h5⟩)).toNat) (k : Fin 1024) (f : Fin 256) :
    (iblk m hO c 2 t : S1x1024x256.Idx → EReal) (ix3 0 k f) = V m c main_v8 (ix3 e k f : S64x1024x256.Idx) := by
  refine congrArg (V m c main_v8) (funext fun a => Fin.ext ?_)
  refine (ValueKit.view_emb_slice_whole_unit_val main_v8 _ _ _ _ a).trans ?_
  change cc0_transform_2 k0_off1_inb numel1_S1 (tbl m) (grid0.coords t) a * S1x1024x256.size a + _ = _
  rw [tr2 (tbl m) t h5, ← he]
  match a with
  | ⟨0, _⟩ => show e.val * 1 + 0 = e.val; omega
  | ⟨1, _⟩ => show 0 * 1024 + k.val = k.val; omega
  | ⟨2, _⟩ => show 0 * 256 + f.val = f.val; omega

theorem blk3 (hO : Ok m) (c : Dev nD) (t : Fin grid0.N) (h5 : t.val < 576) (e : Fin 64)
    (he : e.val = ((tbl m 0 : IVec S576 32) (ix1 ⟨t.val, h5⟩)).toNat) (f : Fin 256) (k : Fin 1024) :
    (iblk m hO c 3 t : S1x256x1024.Idx → EReal) (ix3 0 f k) = V m c main_v9 (ix3 e f k : S64x256x1024.Idx) := by
  refine congrArg (V m c main_v9) (funext fun a => Fin.ext ?_)
  refine (ValueKit.view_emb_slice_whole_unit_val main_v9 _ _ _ _ a).trans ?_
  change cc0_transform_3 k0_off1_inb numel1_S1 (tbl m) (grid0.coords t) a * S1x256x1024.size a + _ = _
  rw [tr3 (tbl m) t h5, ← he]
  match a with
  | ⟨0, _⟩ => show e.val * 1 + 0 = e.val; omega
  | ⟨1, _⟩ => show 0 * 256 + f.val = f.val; omega
  | ⟨2, _⟩ => show 0 * 1024 + k.val = k.val; omega

theorem emb4 (hO : Ok m) (t : Fin grid0.N) (h5 : t.val < 576) (r : Fin 512) (k : Fin 1024) (h : t.val * 512 + r.val < 294912) :
    (((cfgM m hO).win 4).blk t).view.emb (ix2 r k : S512x1024.Idx) = (ix2 ⟨t.val * 512 + r.val, h⟩ k : S294912x1024.Idx) := by
  refine funext fun a => Fin.ext ?_
  refine (ValueKit.view_emb_slice_whole_unit_val main_v10 _ _ _ _ a).trans ?_
  change cc0_transform_0 (grid0.coords t) a * S512x1024.size a + _ = _
  rw [tr0 t h5]
  match a with
  | ⟨0, _⟩ => rfl
  | ⟨1, _⟩ => show 0 * 1024 + k.val = k.val; omega

theorem covers4 (hO : Ok m) : ((cfgM m hO).win 4).Covers := of_decide_eq_true (by sl_kernel_rfl)

/-- The result array after the run, from what the region finds. -/
theorem final (hO : Ok m) (hr : InRange (s := S576) (tbl m 0)) (c : Dev nD) :
    (dats m hO 0 c).arrAt 4 (cfgM m hO).N = G (V m c main_v6) (tbl m 0) (V m c main_v7) (V m c main_v8) (V m c main_v9) := by
  refine (dats m hO 0 c).arrAt_eq_of_covers 4 _ (covers4 m hO) (fun t hf y => ?_)
  blk_simp
  rw [after0_4]
  refine (out_eq c _ _ _ _ _ _ _ _ _ _ _ (iblk m hO c 0 t) (iblk m hO c 1 t) (iblk m hO c 2 t) (iblk m hO c 3 t) _ y).trans ?_
  have h5 : t.val < 576 := N_0 ▸ t.isLt
  obtain ⟨r, k, rfl⟩ : ∃ (r : Fin 512) (k : Fin 1024), y = (ix2 r k : S512x1024.Idx) :=
    ⟨y (0 : Fin 2), y (1 : Fin 2), funext fun a => by match a with | ⟨0, _⟩ => rfl | ⟨1, _⟩ => rfl⟩
  have h : t.val * 512 + r.val < 294912 := by have := r.isLt; omega
  refine (pay_apply (iblk m hO c 0 t) (iblk m hO c 1 t) (iblk m hO c 2 t) (iblk m hO c 3 t) r k).trans ?_
  rw [emb4 m hO t h5 r k h]
  have hd : (t.val * 512 + r.val) / 512 = t.val := by have := r.isLt; omega
  have he : (expert (tbl m 0) ((t.val * 512 + r.val) / 512) (by omega)).val = ((tbl m 0 : IVec S576 32) (ix1 ⟨t.val, h5⟩)).toNat := by
    unfold expert
    simp only [hd]
    exact min_eq_left (Nat.le_of_lt_succ (hr _))
  unfold G
  refine congr (congr (congr (congrArg gated ?_) ?_) ?_) ?_
  · exact funext fun k' => blk0 m hO c t h5 r k' h
  · exact funext fun f => funext fun k' => blk1 m hO c t h5 _ he k' f
  · exact funext fun f => funext fun k' => blk2 m hO c t h5 _ he k' f
  · exact funext fun f => blk3 m hO c t h5 _ he f k

theorem V_v7 (c : Dev nD) : V m c main_v7 = (m ((c : Thread nD τ).loc main_arg3) : S64x1024x256.Idx → EReal) := by
  dsimp only [V, hostOps0]; after_results; rfl
theorem V_v8 (c : Dev nD) : V m c main_v8 = (m ((c : Thread nD τ).loc main_arg4) : S64x1024x256.Idx → EReal) := by
  dsimp only [V, hostOps0]; after_results; rfl
theorem V_v9 (c : Dev nD) : V m c main_v9 = (m ((c : Thread nD τ).loc main_arg5) : S64x256x1024.Idx → EReal) := by
  dsimp only [V, hostOps0]; after_results; rfl

end Cert.ExpertsIdeal.Gen

end
-- ==== Proof.ExpertsRef.lean ====
/- The routed experts: the reference's result at an index. -/
module

public import proofs.«01_k».proof.Proof.ExpertsPay
public import proofs.«01_k».proof.Proof.Gen.ExpertsReferenceIdeal.Read

@[expose] public section

noncomputable section

namespace Cert.ExpertsReferenceIdeal.Read

open Cert.ExpertsReferenceIdeal Cert.ExpertsReferenceIdeal.Gen Idealize.ShloMosaic Idealize.ShloMosaic.TcCoe Idealize.SL.Sem Idealize.ShloMosaic.StableHlo
open Cert.ExpertsOk
open Cert.ExpertsIdeal.Gen (gated expert)

/-- A gather of whole slices `[1, a, b]` of a rank-3 operand by a column of slice numbers, at an index. -/
theorem slices_apply {α : Type} {n a b N : Nat} (d : GatherDims ⟨3, ![n, a, b]⟩ ⟨2, ![N, 1]⟩ ⟨3, ![N, a, b]⟩) (hoff : d.offsetDims = [1, 2])
    (hcoll : d.collapsedSliceDims = [0]) (hob : d.operandBatchingDims = [])
    (hsim : d.startIndexMap = [0]) (hivd : d.indexVectorDim = 1) (x : (⟨3, ![n, a, b]⟩ : Shape).Idx → α) (idx : IVec ⟨2, ![N, 1]⟩ 32)
    (c : Fin N) (y : Fin a) (z : Fin b) (e : Fin n) (he : min (idx (ix2 c (0 : Fin 1))).toInt.toNat (n - 1) = e.val) :
    Host.gather d x idx (ix3 c y z) = x (ix3 e y z) := by
  unfold Host.gather
  refine congrArg x (funext fun k => Fin.ext ?_)
  have hbN : ∀ k', k' ∉ d.operandBatchingDims := fun k' => by rw [hob]; exact List.not_mem_nil
  have hsK : d.sKept = [1, 2] := by
    unfold GatherDims.sKept Shape.kept
    rw [hcoll, hob]; rfl
  have hbD : d.batchDims = [0] := by
    unfold GatherDims.batchDims Shape.kept
    rw [hoff]; rfl
  match k with
  | ⟨0, _⟩ =>
    have hk : (0 : Fin 3) ∉ d.sKept := by rw [hsK]; show (0 : Fin 3) ∉ ([1, 2] : List (Fin 3)); decide
    have hm : (0 : Fin 3) ∈ d.startIndexMap := by rw [hsim]; exact List.mem_singleton.2 rfl
    have hsl : d.sliceSizes 0 = 1 := d.slice_collapsed 0 (by rw [hcoll]; exact List.mem_singleton.2 rfl)
    show d.start (ix3 c y z) idx 0 + d.batchCoord (ix3 c y z) 0 + d.offCoord (ix3 c y z) 0 = e.val
    rw [d.batchCoord_eq_zero _ _ (hbN 0), d.offCoord_eq_zero _ _ hk]
    simp only [Nat.add_zero]
    unfold GatherDims.start
    rw [dif_pos hm, hsl]
    have hsi : d.siIdx (ix3 c y z) ⟨d.startIndexMap.idxOf 0, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        have e0 : ∀ X : Fin 3, X = 0 → (ix3 c y z X).val = c.val := fun X h => by subst h; rfl
        have hb : ∀ k ∈ d.batchDims, k = (0 : Fin 3) := fun k hk => by rw [hbD] at hk; exact List.mem_singleton.1 hk
        exact e0 _ (hb _ (List.getElem_mem _))
      | ⟨1, _⟩ =>
        have : (d.siIdx (ix3 c y z) ⟨d.startIndexMap.idxOf 0, List.idxOf_lt_length_iff.2 hm⟩ (1 : Fin 2)).val < 1 := Fin.isLt _
        show (d.siIdx (ix3 c y z) ⟨d.startIndexMap.idxOf 0, List.idxOf_lt_length_iff.2 hm⟩ (1 : Fin 2)).val = 0
        omega
    rw [hsi]
    exact he
  | ⟨1, _⟩ =>
    have hk : (1 : Fin 3) ∈ d.sKept := by rw [hsK]; show (1 : Fin 3) ∈ ([1, 2] : List (Fin 3)); decide
    have hm : (1 : Fin 3) ∉ d.startIndexMap := by rw [hsim]; show (1 : Fin 3) ∉ ([0] : List (Fin 3)); decide
    show d.start (ix3 c y z) idx 1 + d.batchCoord (ix3 c y z) 1 + d.offCoord (ix3 c y z) 1 = y.val
    rw [d.batchCoord_eq_zero _ _ (hbN 1)]
    unfold GatherDims.start GatherDims.offCoord
    rw [dif_neg hm, dif_pos hk]
    have e1 : ∀ X : Fin 3, X = 1 → (ix3 c y z X).val = y.val := fun X h => by subst h; rfl
    rw [e1 _ (by simp [hoff, hsK, List.idxOf_cons])]
    omega
  | ⟨2, _⟩ =>
    have hk : (2 : Fin 3) ∈ d.sKept := by rw [hsK]; show (2 : Fin 3) ∈ ([1, 2] : List (Fin 3)); decide
    have hm : (2 : Fin 3) ∉ d.startIndexMap := by rw [hsim]; show (2 : Fin 3) ∉ ([0] : List (Fin 3)); decide
    show d.start (ix3 c y z) idx 2 + d.batchCoord (ix3 c y z) 2 + d.offCoord (ix3 c y z) 2 = z.val
    rw [d.batchCoord_eq_zero _ _ (hbN 2)]
    unfold GatherDims.start GatherDims.offCoord
    rw [dif_neg hm, dif_pos hk]
    have e1 : ∀ X : Fin 3, X = 2 → (ix3 c y z X).val = z.val := fun X h => by subst h; rfl
    rw [e1 _ (by simp [hoff, hsK, List.idxOf_cons])]
    omega

theorem clamp_eq (t : IVec S576 32) (hr : InRange t) (n : Fin 576) :
    min (t (ix1 n)).toInt.toNat (64 - 1) = (expert t n.val n.isLt).val := by
  have h := hr (ix1 n)
  have e : (t (ix1 n)).toInt = ((t (ix1 n)).toNat : Int) := by
    rw [BitVec.toInt_eq_toNat_cond, if_pos (by omega)]
  rw [e]
  rfl

variable (x0 : (⟨S65536x1024, .bf16⟩ : BufTy).Contents (Elt Ideal)) (x1 : (⟨S294912, .i32⟩ : BufTy).Contents (Elt Ideal))
  (x2 : (⟨S576, .i32⟩ : BufTy).Contents (Elt Ideal)) (x3 x4 : (⟨S64x1024x256, .f32⟩ : BufTy).Contents (Elt Ideal))
  (x5 : (⟨S64x256x1024, .f32⟩ : BufTy).Contents (Elt Ideal))

theorem v9_at (hr : InRange (s := S576) x2) (n : Fin 576) (k : Fin 1024) (f : Fin 256) :
    val_main_v9 (F := Ideal) x2 x3 (ix3 n k f) = x3 (ix3 (expert x2 n.val n.isLt) k f) := by
  unfold val_main_v9
  refine slices_apply _ rfl rfl rfl rfl rfl _ _ n k f _ ?_
  rw [val_main_call0_v0_apply, show idx_main_call0_v0 (ix2 n 0) = ix1 n from funext fun a => by match a with | ⟨0, _⟩ => rfl]
  exact clamp_eq x2 hr n

theorem v12_at (hr : InRange (s := S576) x2) (n : Fin 576) (k : Fin 1024) (f : Fin 256) :
    val_main_v12 (F := Ideal) x2 x4 (ix3 n k f) = x4 (ix3 (expert x2 n.val n.isLt) k f) := by
  unfold val_main_v12
  refine slices_apply _ rfl rfl rfl rfl rfl _ _ n k f _ ?_
  rw [val_main_call2_v0_apply, show idx_main_call2_v0 (ix2 n 0) = ix1 n from funext fun a => by match a with | ⟨0, _⟩ => rfl]
  exact clamp_eq x2 hr n

theorem v15_at (hr : InRange (s := S576) x2) (n : Fin 576) (f : Fin 256) (k : Fin 1024) :
    val_main_v15 (F := Ideal) x2 x5 (ix3 n f k) = x5 (ix3 (expert x2 n.val n.isLt) f k) := by
  unfold val_main_v15
  refine slices_apply _ rfl rfl rfl rfl rfl _ _ n f k _ ?_
  rw [val_main_call3_v0_apply, show idx_main_call3_v0 (ix2 n 0) = ix1 n from funext fun a => by match a with | ⟨0, _⟩ => rfl]
  exact clamp_eq x2 hr n

theorem v8_at (n : Fin 576) (r : Fin 512) (k : Fin 1024) (h : n.val * 512 + r.val < 294912) :
    val_main_v8 (F := Ideal) x0 x1 (ix3 n r k) = val_main_v6 (F := Ideal) x0 x1 (ix2 ⟨n.val * 512 + r.val, h⟩ k) := by
  rw [val_main_v8_apply, val_main_v7_apply]
  show val_main_v6 (F := Ideal) x0 x1 _ = _
  refine congrArg _ (funext fun a => Fin.ext ?_)
  have := k.isLt
  match a with
  | ⟨0, _⟩ => show ((n.val * 512 + r.val) * 1024 + k.val) / 1024 = n.val * 512 + r.val; omega
  | ⟨1, _⟩ => show ((n.val * 512 + r.val) * 1024 + k.val) % 1024 = k.val; omega

theorem v10_at (hr : InRange (s := S576) x2) (n : Fin 576) (r : Fin 512) (f : Fin 256) (h : n.val * 512 + r.val < 294912) :
    val_main_v10 (F := Ideal) x0 x1 x2 x3 (ix3 n r f)
      = ∑ k : Fin 1024, val_main_v6 (F := Ideal) x0 x1 (ix2 ⟨n.val * 512 + r.val, h⟩ k) * x3 (ix3 (expert x2 n.val n.isLt) k f) := by
  rw [val_main_v10_apply]
  refine Finset.sum_congr rfl fun k _ => ?_
  have e1 : lidx_main_v10 (ix3 n r f) k = ix3 n r k := funext fun a => by match a with | ⟨0, _⟩ => rfl | ⟨1, _⟩ => rfl | ⟨2, _⟩ => rfl
  have e2 : ridx_main_v10 (ix3 n r f) k = ix3 n k f := funext fun a => by match a with | ⟨0, _⟩ => rfl | ⟨1, _⟩ => rfl | ⟨2, _⟩ => rfl
  rw [e1, e2, v8_at x0 x1 n r k h, v9_at x2 x3 hr n k f]

theorem v13_at (hr : InRange (s := S576) x2) (n : Fin 576) (r : Fin 512) (f : Fin 256) (h : n.val * 512 + r.val < 294912) :
    val_main_v13 (F := Ideal) x0 x1 x2 x4 (ix3 n r f)
      = ∑ k : Fin 1024, val_main_v6 (F := Ideal) x0 x1 (ix2 ⟨n.val * 512 + r.val, h⟩ k) * x4 (ix3 (expert x2 n.val n.isLt) k f) := by
  rw [val_main_v13_apply]
  refine Finset.sum_congr rfl fun k _ => ?_
  have e1 : lidx_main_v13 (ix3 n r f) k = ix3 n r k := funext fun a => by match a with | ⟨0, _⟩ => rfl | ⟨1, _⟩ => rfl | ⟨2, _⟩ => rfl
  have e2 : ridx_main_v13 (ix3 n r f) k = ix3 n k f := funext fun a => by match a with | ⟨0, _⟩ => rfl | ⟨1, _⟩ => rfl | ⟨2, _⟩ => rfl
  rw [e1, e2, v8_at x0 x1 n r k h, v12_at x2 x4 hr n k f]

theorem gate_scalar (a b : EReal) :
    (FloatOps.mulf (F := Ideal) (φ := .f32) (FloatOps.mulf (F := Ideal) (φ := .f32) a (FloatOps.hostDivf (F := Ideal) (φ := .f32) (FloatOps.ofBits .f32 0x3F800000#32)
      (FloatOps.addf (F := Ideal) (φ := .f32) (FloatOps.ofBits .f32 0x3F800000#32) (FloatOps.hostUnary (F := Ideal) (φ := .f32) .exp (FloatOps.hostNegf (F := Ideal) (φ := .f32) a))))) b : EReal)
      = (a * Ideal.div 1 (1 + Ideal.exp (0 - a))) * b := by
  rw [zero_sub]
  have h1 : (FloatOps.ofBits (F := Ideal) .f32 0x3F800000#32 : EReal) = 1 := Ideal.ofBits_one_f32
  rw [h1]
  rfl

theorem v14_at (j : S576x512x256.Idx) : val_main_v14 (F := Ideal) x0 x1 x2 x3 x4 j
      = (val_main_v10 (F := Ideal) x0 x1 x2 x3 j * Ideal.div 1 (1 + Ideal.exp (0 - val_main_v10 (F := Ideal) x0 x1 x2 x3 j)))
        * val_main_v13 (F := Ideal) x0 x1 x2 x4 j := by
  rw [val_main_v14_apply, val_main_v11_apply, val_main_call1_v5_apply, val_main_call1_v4_apply, val_main_call1_cst_0_apply,
    val_main_call1_v3_apply, val_main_call1_v2_apply, val_main_call1_cst_apply, val_main_call1_v1_apply, val_main_call1_v0_apply]
  exact gate_scalar _ _

theorem left_at (p : Fin 294912) (q : Fin 1024) (n : Fin 576) (r : Fin 512) (f : Fin 256) (hn : p.val = n.val * 512 + r.val) :
    lidx_main_v16 (idx_main_v17 (ix2 p q)) f = ix3 n r f := funext fun a => Fin.ext (by
    have h1 := q.isLt
    have h2 := r.isLt
    match a with
    | ⟨0, _⟩ => show (p.val * 1024 + q.val) / 524288 = n.val; omega
    | ⟨1, _⟩ => show (p.val * 1024 + q.val) / 1024 % 512 = r.val; omega
    | ⟨2, _⟩ => rfl)

theorem right_at (p : Fin 294912) (q : Fin 1024) (n : Fin 576) (r : Fin 512) (f : Fin 256) (hn : p.val = n.val * 512 + r.val) :
    ridx_main_v16 (idx_main_v17 (ix2 p q)) f = ix3 n f q := funext fun a => Fin.ext (by
    have h1 := q.isLt
    have h2 := r.isLt
    match a with
    | ⟨0, _⟩ => show (p.val * 1024 + q.val) / 524288 = n.val; omega
    | ⟨1, _⟩ => rfl
    | ⟨2, _⟩ => show (p.val * 1024 + q.val) % 1024 = q.val; omega)

theorem v18_at (p : Fin 294912) (q : Fin 1024) :
    val_main_v18 (F := Ideal) x0 x1 x2 x3 x4 x5 (ix2 p q)
      = ∑ f : Fin 256, val_main_v14 (F := Ideal) x0 x1 x2 x3 x4 (lidx_main_v16 (idx_main_v17 (ix2 p q)) f)
          * val_main_v15 (F := Ideal) x2 x5 (ridx_main_v16 (idx_main_v17 (ix2 p q)) f) :=
  (val_main_v18_apply x0 x1 x2 x3 x4 x5 (ix2 p q)).trans
    ((val_main_v17_apply (F := Ideal) x0 x1 x2 x3 x4 x5 (ix2 p q)).trans (val_main_v16_apply x0 x1 x2 x3 x4 x5 _))

theorem result_at (hr : InRange (s := S576) x2) (p : Fin 294912) (q : Fin 1024) (n : Fin 576) (r : Fin 512)
    (hn : p.val = n.val * 512 + r.val) :
    val_main_v18 (F := Ideal) x0 x1 x2 x3 x4 x5 (ix2 p q)
      = Cert.ExpertsIdeal.Gen.gated (fun k => val_main_v6 (F := Ideal) x0 x1 (ix2 p k))
          (fun f k => x3 (ix3 (expert x2 n.val n.isLt) k f)) (fun f k => x4 (ix3 (expert x2 n.val n.isLt) k f))
          (fun f => x5 (ix3 (expert x2 n.val n.isLt) f q)) := by
  rw [v18_at]
  unfold Cert.ExpertsIdeal.Gen.gated
  have hlt : n.val * 512 + r.val < 294912 := hn ▸ p.isLt
  have hi : (⟨n.val * 512 + r.val, hlt⟩ : Fin 294912) = p := Fin.ext hn.symm
  refine Finset.sum_congr rfl fun f _ => ?_
  rw [left_at p q n r f hn, right_at p q n r f hn, v14_at, v15_at x2 x5 hr n f q, v10_at x0 x1 x2 x3 hr n r f hlt,
    v13_at x0 x1 x2 x4 hr n r f hlt, hi]

/-- The reference's result array, from the gathered rows, the table and the weights. -/
theorem result (hr : InRange (s := S576) x2) :
    val_main_v18 (F := Ideal) x0 x1 x2 x3 x4 x5 = Cert.ExpertsIdeal.Gen.G (val_main_v6 (F := Ideal) x0 x1) x2 x3 x4 x5 := by
  refine funext fun (i : S294912x1024.Idx) => ?_
  have h0 : (i (0 : Fin 2)).val < 294912 := (i (0 : Fin 2)).isLt
  have e : (ix2 (i (0 : Fin 2)) (i (1 : Fin 2)) : S294912x1024.Idx) = i := funext fun a => by match a with | ⟨0, _⟩ => rfl | ⟨1, _⟩ => rfl
  have h := result_at x0 x1 x2 x3 x4 x5 hr (i (0 : Fin 2)) (i (1 : Fin 2)) ⟨(i (0 : Fin 2)).val / 512, by omega⟩
    ⟨(i (0 : Fin 2)).val % 512, Nat.mod_lt _ (by decide)⟩ (Nat.div_add_mod' _ _).symm
  rw [e] at h
  exact h

end Cert.ExpertsReferenceIdeal.Read

end
-- ==== Proof.ExpertsValue.lean ====
/- The routed experts: the kernel's result array and the reference's, of arguments that agree. -/
module

public import proofs.«01_k».proof.Proof.ExpertsPay
public import proofs.«01_k».proof.Proof.ExpertsRef
public import proofs.«01_k».proof.Proof.Gen.ExpertsReferenceIdeal.Run

@[expose] public section

noncomputable section

namespace Cert.ExpertsValue

open Idealize.ShloMosaic Idealize.ShloMosaic.TcCoe Idealize.SL.Sem Cert.ExpertsOk

theorem V_v6 (m : (ℓ : Loc Cert.ExpertsIdeal.nD Cert.ExpertsIdeal.τ Cert.ExpertsIdeal.sig) → Buf (Elt Ideal) ℓ) (c : Dev Cert.ExpertsIdeal.nD) :
    Cert.ExpertsIdeal.Gen.V m c Cert.ExpertsIdeal.main_v6
      = Cert.ExpertsReferenceIdeal.Read.val_main_v6 (F := Ideal) (m ((c : Thread Cert.ExpertsIdeal.nD Cert.ExpertsIdeal.τ).loc Cert.ExpertsIdeal.main_arg0)) (m ((c : Thread Cert.ExpertsIdeal.nD Cert.ExpertsIdeal.τ).loc Cert.ExpertsIdeal.main_arg1)) := by
  dsimp only [Cert.ExpertsIdeal.Gen.V, Cert.ExpertsIdeal.Gen.hostOps0]; after_results; rfl

/-- Both programs' result, on a device. -/
def out (m : (ℓ : Loc Cert.ExpertsIdeal.nD Cert.ExpertsIdeal.τ Cert.ExpertsIdeal.sig) → Buf (Elt Ideal) ℓ) (c : Dev Cert.ExpertsIdeal.nD) :
    Cert.ExpertsIdeal.S294912x1024.Idx → EReal :=
  Cert.ExpertsIdeal.Gen.G (Cert.ExpertsReferenceIdeal.Read.val_main_v6 (F := Ideal) (m ((c : Thread Cert.ExpertsIdeal.nD Cert.ExpertsIdeal.τ).loc Cert.ExpertsIdeal.main_arg0)) (m ((c : Thread Cert.ExpertsIdeal.nD Cert.ExpertsIdeal.τ).loc Cert.ExpertsIdeal.main_arg1)))
    (m ((c : Thread Cert.ExpertsIdeal.nD Cert.ExpertsIdeal.τ).loc Cert.ExpertsIdeal.main_arg2)) (m ((c : Thread Cert.ExpertsIdeal.nD Cert.ExpertsIdeal.τ).loc Cert.ExpertsIdeal.main_arg3))
    (m ((c : Thread Cert.ExpertsIdeal.nD Cert.ExpertsIdeal.τ).loc Cert.ExpertsIdeal.main_arg4)) (m ((c : Thread Cert.ExpertsIdeal.nD Cert.ExpertsIdeal.τ).loc Cert.ExpertsIdeal.main_arg5))

theorem kernel_run (m : (ℓ : Loc Cert.ExpertsIdeal.nD Cert.ExpertsIdeal.τ Cert.ExpertsIdeal.sig) → Buf (Elt Ideal) ℓ) (g : Dev Cert.ExpertsIdeal.nD → PrngReg)
    (hr : InRange (s := Cert.ExpertsIdeal.S576) (m (((0 : Dev Cert.ExpertsIdeal.nD) : Thread Cert.ExpertsIdeal.nD Cert.ExpertsIdeal.τ).loc Cert.ExpertsIdeal.main_arg2))) :
    θ_run (Cert.ExpertsIdeal.defs (F := Ideal)) (onTc (τ := Cert.ExpertsIdeal.τ) (Cert.ExpertsIdeal.main (F := Ideal))) ⟨m, fun _ => 0, g⟩
      (fun r => ∀ c : Dev Cert.ExpertsIdeal.nD, r.2.mem ((c.tc : Thread Cert.ExpertsIdeal.nD Cert.ExpertsIdeal.τ).loc Cert.ExpertsIdeal.main_v10) = out m c) := by
  have hO := Cert.ExpertsIdeal.Gen.ok_of_range m hr
  have ht : (Cert.ExpertsIdeal.Gen.tbl m 0 : IVec _ 32) = m (((0 : Dev Cert.ExpertsIdeal.nD) : Thread Cert.ExpertsIdeal.nD Cert.ExpertsIdeal.τ).loc Cert.ExpertsIdeal.main_arg2) :=
    Cert.ExpertsIdeal.Gen.V_main_arg2 m 0
  refine (θ_run _ _ _).mono (fun r h c => ?_) (Cert.ExpertsIdeal.Gen.run_main m g hO)
  have hc : c = 0 := Subsingleton.elim (α := Fin 1) c 0
  refine (Pipeline.FramePost.out_eq h c 4).trans ?_
  refine (Cert.ExpertsIdeal.Gen.final m hO (by rw [ht]; exact hr) c).trans ?_
  rw [V_v6, Cert.ExpertsIdeal.Gen.V_v7, Cert.ExpertsIdeal.Gen.V_v8, Cert.ExpertsIdeal.Gen.V_v9, ht, hc]
  rfl

end Cert.ExpertsValue

end
-- ==== Proof.CombinePay.lean ====
/- The combination of the expert slots, the layer norm and the gated embedding of one row, and the two calls' bodies as that. -/
module

public import proofs.«01_k».proof.Proof.Gen.CombineIdeal.Frame
public import Idealize.ShloMosaic.Lib.Pointwise
public import Idealize.ShloMosaic.Lib.Pipeline.ValueKit
public import Idealize.ShloMosaic.PureOps.Ideal.Laws

@[expose] public section

noncomputable section

namespace Cert.CombineRow

open Idealize.ShloMosaic

/-- The residual sum of one element: the scaled residual, the shared expert and the eight gated slots. -/
def resid (x s : EReal) (y g : Fin 8 → EReal) : EReal := Ideal.ofBits FTy.f32 0x3FD744FD#32 * x + (s + ∑ k, y k * g k)

/-- A row's mean over its 1024 elements. -/
def mean (h : Fin 1024 → EReal) : EReal := Ideal.div (∑ x, h x) (Ideal.ofBits FTy.f32 0x44800000#32)

/-- A row less its mean. -/
def centred (h : Fin 1024 → EReal) (c : Fin 1024) : EReal := h c - mean h

/-- The layer norm of a row. -/
def layerNorm (h lg lb : Fin 1024 → EReal) (c : Fin 1024) : EReal :=
  centred h c * Ideal.rsqrt (mean (fun x => centred h x * centred h x) + Ideal.ofBits FTy.f32 0x3727C5AC#32) * lg c + lb c

/-- A row of the embedding's projection. -/
def proj (p : Fin 256 → EReal) (w : Fin 256 → Fin 1024 → EReal) (c : Fin 1024) : EReal := ∑ x, p x * w x c

/-- The projected embedding over its root mean square. -/
def embed (e ng : Fin 1024 → EReal) (c : Fin 1024) : EReal :=
  e c * Ideal.rsqrt (mean (fun x => e x * e x) + Ideal.ofBits FTy.f32 0x358637BD#32) * ng c

/-- The normalized row with the gated embedding added. -/
def gatedSum (n e : Fin 1024 → EReal) (w : Fin 1024 → Fin 1024 → EReal) (c : Fin 1024) : EReal :=
  n c + Ideal.div 1 (1 + Ideal.exp (0 - ∑ x, n x * w x c)) * e c

/-- One row of the result. -/
def row (x s : Fin 1024 → EReal) (y : Fin 8 → Fin 1024 → EReal) (g : Fin 8 → EReal) (p : Fin 256 → EReal) (lg lb : Fin 1024 → EReal)
    (wp : Fin 256 → Fin 1024 → EReal) (ng : Fin 1024 → EReal) (wg : Fin 1024 → Fin 1024 → EReal) : Fin 1024 → EReal :=
  gatedSum (layerNorm (fun c => resid (x c) (s c) (fun k => y k c) g) lg lb) (embed (proj p wp) ng) wg

end Cert.CombineRow

namespace Cert.CombineIdeal.Gen

open Idealize.ShloMosaic Idealize.ShloMosaic.TcCoe Idealize.SL.Sem Cert.CombineRow

/-- A block loaded whole. -/
theorem ld_whole {S : Shape} {e : EltTy} (X : Vec Ideal S e) (off : Fin S.rank → Nat) (inb) (h : ∀ a, off a = 0) :
    View.ld X (Rect.unit (s := S) off S.size inb) = X := by
  funext y
  refine congrArg X (funext fun a => Fin.ext ?_)
  refine (ValueKit.rect_emb_unit_val _ _ _ _ a).trans ?_
  rw [h a]; exact Nat.zero_add _

/-- One slot of the block of eight, loaded. -/
theorem ld_slot (X : Vec Ideal S8x256x1024 .bf16) (k : Fin 8) (off : Fin 3 → Nat) (h : off = ![k.val, 0, 0]) (inb) (r : Fin 256) (c : Fin 1024) :
    View.ld X (Rect.unit (s := S8x256x1024) off S1x256x1024.size inb) (ix3 0 r c) = X (ix3 k r c) := by
  subst h
  refine congrArg X (funext fun a => Fin.ext ?_)
  refine (ValueKit.rect_emb_unit_val _ _ _ _ a).trans ?_
  match a with
  | ⟨0, _⟩ => rfl
  | ⟨1, _⟩ => show 0 + r.val = r.val; omega
  | ⟨2, _⟩ => show 0 + c.val = c.val; omega

section Region0

variable (x0 x1 : Vec Ideal S256x1024 .f32) (x2 : Vec Ideal S8x256x1024 .bf16) (x3 : Vec Ideal S256x8 .f32) (x4 : Vec Ideal S256x256 .f32)
  (x5 x6 : Vec Ideal S1x1024 .f32) (x7 : Vec Ideal S256x1024 .bf16) (x8 : Vec Ideal S1x1024 .f32) (x9 : Vec Ideal S1024x1024 .bf16)

theorem first0 (r : Fin 256) (c : Fin 1024) :
    k0_pay2 (F := Ideal) (View.ld x3 r0_0) (View.ld x2 r0_1) (View.ld x2 r0_2) (View.ld x2 r0_3) (View.ld x2 r0_4) (View.ld x2 r0_5) (ix2 r c)
      = x2 (ix3 0 r c) * x3 (ix2 r 0) + x2 (ix3 1 r c) * x3 (ix2 r 1) + x2 (ix3 2 r c) * x3 (ix2 r 2)
        + x2 (ix3 3 r c) * x3 (ix2 r 3) + x2 (ix3 4 r c) * x3 (ix2 r 4) := by
  rw [show View.ld x3 r0_0 = x3 from ld_whole x3 _ _ (by decide)]
  pointwise [k0_pay2, k0_pay1]

theorem centred0 (r : Fin 256) (c : Fin 1024) :
    k0_pay6 (F := Ideal) (k0_pay1 (View.ld x3 r0_0)) (k0_pay2 (View.ld x3 r0_0) (View.ld x2 r0_1) (View.ld x2 r0_2) (View.ld x2 r0_3) (View.ld x2 r0_4) (View.ld x2 r0_5))
        (k0_pay3 (View.ld x2 r0_6)) (View.ld x2 r0_7) (View.ld x2 r0_8) (View.ld x0 r0_9) (View.ld x1 r0_9) (ix2 r c)
      = centred (fun c => resid (x0 (ix2 r c)) (x1 (ix2 r c)) (fun k => x2 (ix3 k r c)) (fun k => x3 (ix2 r k))) c := by
  have e1 : ∀ c, (x2 (ix3 0 r c) * x3 (ix2 r 0) + x2 (ix3 1 r c) * x3 (ix2 r 1) + x2 (ix3 2 r c) * x3 (ix2 r 2)
        + x2 (ix3 3 r c) * x3 (ix2 r 3) + x2 (ix3 4 r c) * x3 (ix2 r 4) + x2 (ix3 5 r c) * x3 (ix2 r 5)
        + x2 (ix3 6 r c) * x3 (ix2 r 6) + x2 (ix3 7 r c) * x3 (ix2 r 7) : EReal) = ∑ k : Fin 8, x2 (ix3 k r c) * x3 (ix2 r k) :=
    fun c => (Fin.sum_univ_eight (fun k => (x2 (ix3 k r c) * x3 (ix2 r k) : EReal))).symm
  have e2 : ∀ c, k0_pay3 (F := Ideal) (View.ld x2 r0_6) (ix2 r c) = x2 (ix3 5 r c) := fun c => by
    pointwise [k0_pay3]
  have e3 : ∀ c, k0_pay1 (F := Ideal) (View.ld x3 r0_0) (ix2 r c) = x3 (ix2 r c) := fun c => by
    rw [show View.ld x3 r0_0 = x3 from ld_whole x3 _ _ (by decide)]
    pointwise [k0_pay1]
  have e6 : ∀ c, View.ld x2 r0_7 (ix3 0 r c) = x2 (ix3 6 r c) := fun c => ld_slot x2 6 _ rfl _ r c
  have e7 : ∀ c, View.ld x2 r0_8 (ix3 0 r c) = x2 (ix3 7 r c) := fun c => ld_slot x2 7 _ rfl _ r c
  rw [show View.ld x0 r0_9 = x0 from ld_whole x0 _ _ (by decide), show View.ld x1 r0_9 = x1 from ld_whole x1 _ _ (by decide)]
  pointwise [k0_pay6]
  simp only [first0, e2, e3, e6, e7, e1]
  rfl

theorem square0 (r : Fin 256) :
    k0_pay7 (F := Ideal) (k0_pay1 (View.ld x3 r0_0)) (k0_pay2 (View.ld x3 r0_0) (View.ld x2 r0_1) (View.ld x2 r0_2) (View.ld x2 r0_3) (View.ld x2 r0_4) (View.ld x2 r0_5))
        (k0_pay3 (View.ld x2 r0_6)) (View.ld x2 r0_7) (View.ld x2 r0_8) (View.ld x0 r0_9) (View.ld x1 r0_9) (ix2 r 0)
      = mean (fun x => centred (fun c => resid (x0 (ix2 r c)) (x1 (ix2 r c)) (fun k => x2 (ix3 k r c)) (fun k => x3 (ix2 r k))) x
          * centred (fun c => resid (x0 (ix2 r c)) (x1 (ix2 r c)) (fun k => x2 (ix3 k r c)) (fun k => x3 (ix2 r k))) x) := by
  pointwise [k0_pay7]
  simp only [centred0]
  rfl

theorem last0 (h : Fin 1024 → EReal) (v72 : FVec Ideal S256x1024 .f32) (v77 : FVec Ideal S256x1 .f32) (r : Fin 256) (c : Fin 1024)
    (h72 : ∀ c, v72 (ix2 r c) = centred h c) (h77 : v77 (ix2 r 0) = mean (fun x => centred h x * centred h x)) :
    k0_pay9 (F := Ideal) (k0_pay4 x5) (k0_pay5 x6) v72 v77 (k0_pay8 (F := Ideal)) x4 x7 x8 x9 (ix2 r c)
      = gatedSum (layerNorm h (fun c => x5 (ix2 0 c)) (fun c => x6 (ix2 0 c)))
          (embed (proj (fun k => x4 (ix2 r k)) (fun k c => x7 (ix2 k c))) (fun c => x8 (ix2 0 c))) (fun k c => x9 (ix2 k c)) c := by
  pointwise [k0_pay9, k0_pay4, k0_pay5, k0_pay8]
  simp only [h72, h77]
  rfl

/-- The body's output block, at a row and a column. -/
theorem pay0 (r : Fin 256) (c : Fin 1024) : out0_10 (F := Ideal) x0 x1 x2 x3 x4 x5 x6 x7 x8 x9 (ix2 r c)
      = row (fun c => x0 (ix2 r c)) (fun c => x1 (ix2 r c)) (fun k c => x2 (ix3 k r c)) (fun k => x3 (ix2 r k)) (fun k => x4 (ix2 r k))
          (fun c => x5 (ix2 0 c)) (fun c => x6 (ix2 0 c)) (fun k c => x7 (ix2 k c)) (fun c => x8 (ix2 0 c)) (fun k c => x9 (ix2 k c)) c := by
  unfold_out out0_10
  rw [show View.ld x5 r0_10 = x5 from ld_whole x5 _ _ (by decide), show View.ld x6 r0_10 = x6 from ld_whole x6 _ _ (by decide),
    show View.ld x4 r0_11 = x4 from ld_whole x4 _ _ (by decide), show View.ld x7 r0_9 = x7 from ld_whole x7 _ _ (by decide),
    show View.ld x8 r0_10 = x8 from ld_whole x8 _ _ (by decide), show View.ld x9 r0_12 = x9 from ld_whole x9 _ _ (by decide)]
  rw [View.canon_cons_unit_lit']
  · exact last0 x4 x5 x6 x7 x8 x9 _ _ _ r c (fun c => centred0 x0 x1 x2 x3 r c) (square0 x0 x1 x2 x3 r)
  · decide

end Region0

section Region1

variable (x0 x1 : Vec Ideal S256x1024 .f32) (x2 : Vec Ideal S8x256x1024 .bf16) (x3 : Vec Ideal S256x8 .f32) (x4 : Vec Ideal S256x256 .f32)
  (x5 x6 : Vec Ideal S1x1024 .f32) (x7 : Vec Ideal S256x1024 .bf16) (x8 : Vec Ideal S1x1024 .f32) (x9 : Vec Ideal S1024x1024 .bf16)

theorem first1 (r : Fin 256) (c : Fin 1024) :
    k1_pay2 (F := Ideal) (View.ld x3 r1_0) (View.ld x2 r1_1) (View.ld x2 r1_2) (View.ld x2 r1_3) (View.ld x2 r1_4) (View.ld x2 r1_5) (ix2 r c)
      = x2 (ix3 0 r c) * x3 (ix2 r 0) + x2 (ix3 1 r c) * x3 (ix2 r 1) + x2 (ix3 2 r c) * x3 (ix2 r 2)
        + x2 (ix3 3 r c) * x3 (ix2 r 3) + x2 (ix3 4 r c) * x3 (ix2 r 4) := by
  rw [show View.ld x3 r1_0 = x3 from ld_whole x3 _ _ (by decide)]
  pointwise [k1_pay2, k1_pay1]

theorem centred1 (r : Fin 256) (c : Fin 1024) :
    k1_pay6 (F := Ideal) (k1_pay1 (View.ld x3 r1_0)) (k1_pay2 (View.ld x3 r1_0) (View.ld x2 r1_1) (View.ld x2 r1_2) (View.ld x2 r1_3) (View.ld x2 r1_4) (View.ld x2 r1_5))
        (k1_pay3 (View.ld x2 r1_6)) (View.ld x2 r1_7) (View.ld x2 r1_8) (View.ld x0 r1_9) (View.ld x1 r1_9) (ix2 r c)
      = centred (fun c => resid (x0 (ix2 r c)) (x1 (ix2 r c)) (fun k => x2 (ix3 k r c)) (fun k => x3 (ix2 r k))) c := by
  have e1 : ∀ c, (x2 (ix3 0 r c) * x3 (ix2 r 0) + x2 (ix3 1 r c) * x3 (ix2 r 1) + x2 (ix3 2 r c) * x3 (ix2 r 2)
        + x2 (ix3 3 r c) * x3 (ix2 r 3) + x2 (ix3 4 r c) * x3 (ix2 r 4) + x2 (ix3 5 r c) * x3 (ix2 r 5)
        + x2 (ix3 6 r c) * x3 (ix2 r 6) + x2 (ix3 7 r c) * x3 (ix2 r 7) : EReal) = ∑ k : Fin 8, x2 (ix3 k r c) * x3 (ix2 r k) :=
    fun c => (Fin.sum_univ_eight (fun k => (x2 (ix3 k r c) * x3 (ix2 r k) : EReal))).symm
  have e2 : ∀ c, k1_pay3 (F := Ideal) (View.ld x2 r1_6) (ix2 r c) = x2 (ix3 5 r c) := fun c => by
    pointwise [k1_pay3]
  have e3 : ∀ c, k1_pay1 (F := Ideal) (View.ld x3 r1_0) (ix2 r c) = x3 (ix2 r c) := fun c => by
    rw [show View.ld x3 r1_0 = x3 from ld_whole x3 _ _ (by decide)]
    pointwise [k1_pay1]
  have e6 : ∀ c, View.ld x2 r1_7 (ix3 0 r c) = x2 (ix3 6 r c) := fun c => ld_slot x2 6 _ rfl _ r c
  have e7 : ∀ c, View.ld x2 r1_8 (ix3 0 r c) = x2 (ix3 7 r c) := fun c => ld_slot x2 7 _ rfl _ r c
  rw [show View.ld x0 r1_9 = x0 from ld_whole x0 _ _ (by decide), show View.ld x1 r1_9 = x1 from ld_whole x1 _ _ (by decide)]
  pointwise [k1_pay6]
  simp only [first1, e2, e3, e6, e7, e1]
  rfl

theorem square1 (r : Fin 256) :
    k1_pay7 (F := Ideal) (k1_pay1 (View.ld x3 r1_0)) (k1_pay2 (View.ld x3 r1_0) (View.ld x2 r1_1) (View.ld x2 r1_2) (View.ld x2 r1_3) (View.ld x2 r1_4) (View.ld x2 r1_5))
        (k1_pay3 (View.ld x2 r1_6)) (View.ld x2 r1_7) (View.ld x2 r1_8) (View.ld x0 r1_9) (View.ld x1 r1_9) (ix2 r 0)
      = mean (fun x => centred (fun c => resid (x0 (ix2 r c)) (x1 (ix2 r c)) (fun k => x2 (ix3 k r c)) (fun k => x3 (ix2 r k))) x
          * centred (fun c => resid (x0 (ix2 r c)) (x1 (ix2 r c)) (fun k => x2 (ix3 k r c)) (fun k => x3 (ix2 r k))) x) := by
  pointwise [k1_pay7]
  simp only [centred1]
  rfl

theorem last1 (h : Fin 1024 → EReal) (v72 : FVec Ideal S256x1024 .f32) (v77 : FVec Ideal S256x1 .f32) (r : Fin 256) (c : Fin 1024)
    (h72 : ∀ c, v72 (ix2 r c) = centred h c) (h77 : v77 (ix2 r 0) = mean (fun x => centred h x * centred h x)) :
    k1_pay9 (F := Ideal) (k1_pay4 x5) (k1_pay5 x6) v72 v77 (k1_pay8 (F := Ideal)) x4 x7 x8 x9 (ix2 r c)
      = gatedSum (layerNorm h (fun c => x5 (ix2 0 c)) (fun c => x6 (ix2 0 c)))
          (embed (proj (fun k => x4 (ix2 r k)) (fun k c => x7 (ix2 k c))) (fun c => x8 (ix2 0 c))) (fun k c => x9 (ix2 k c)) c := by
  pointwise [k1_pay9, k1_pay4, k1_pay5, k1_pay8]
  simp only [h72, h77]
  rfl

/-- The body's output block, at a row and a column. -/
theorem pay1 (r : Fin 256) (c : Fin 1024) : out1_10 (F := Ideal) x0 x1 x2 x3 x4 x5 x6 x7 x8 x9 (ix2 r c)
      = row (fun c => x0 (ix2 r c)) (fun c => x1 (ix2 r c)) (fun k c => x2 (ix3 k r c)) (fun k => x3 (ix2 r k)) (fun k => x4 (ix2 r k))
          (fun c => x5 (ix2 0 c)) (fun c => x6 (ix2 0 c)) (fun k c => x7 (ix2 k c)) (fun c => x8 (ix2 0 c)) (fun k c => x9 (ix2 k c)) c := by
  unfold_out out1_10
  rw [show View.ld x5 r1_10 = x5 from ld_whole x5 _ _ (by decide), show View.ld x6 r1_10 = x6 from ld_whole x6 _ _ (by decide),
    show View.ld x4 r1_11 = x4 from ld_whole x4 _ _ (by decide), show View.ld x7 r1_9 = x7 from ld_whole x7 _ _ (by decide),
    show View.ld x8 r1_10 = x8 from ld_whole x8 _ _ (by decide), show View.ld x9 r1_12 = x9 from ld_whole x9 _ _ (by decide)]
  rw [View.canon_cons_unit_lit']
  · exact last1 x4 x5 x6 x7 x8 x9 _ _ _ r c (fun c => centred1 x0 x1 x2 x3 r c) (square1 x0 x1 x2 x3 r)
  · decide

end Region1

end Cert.CombineIdeal.Gen

end
-- ==== Proof.CombineRegion.lean ====
/- The combination's two calls: what each leaves in the result array, from what it finds. -/
module

public import proofs.«01_k».proof.Proof.CombinePay

@[expose] public section

noncomputable section

namespace Cert.CombineIdeal.Gen

open Idealize.ShloMosaic Idealize.ShloMosaic.TcCoe Idealize.SL.Sem Cert.CombineRow

/-- The result's element, from one half's gathered slots and gates: the row of the half is the token's, less the half's start. -/
def G (X S : S65536x1024.Idx → EReal) (Y : S8x32768x1024.Idx → EReal) (g : S32768x8.Idx → EReal) (P : S65536x256.Idx → EReal)
    (lg lb : S1x1024.Idx → EReal) (wp : S256x1024.Idx → EReal) (ng : S1x1024.Idx → EReal) (wg : S1024x1024.Idx → EReal)
    (p : Fin 65536) (q : Fin 1024) : EReal :=
  row (fun c => X (ix2 p c)) (fun c => S (ix2 p c)) (fun k c => Y (ix3 k ⟨p.val % 32768, Nat.mod_lt _ (by decide)⟩ c))
    (fun k => g (ix2 ⟨p.val % 32768, Nat.mod_lt _ (by decide)⟩ k)) (fun k => P (ix2 p k))
    (fun c => lg (ix2 0 c)) (fun c => lb (ix2 0 c)) (fun k c => wp (ix2 k c)) (fun c => ng (ix2 0 c)) (fun k c => wg (ix2 k c)) q

section Region0

variable (V : (c : Dev nD) → (b : Ref sig .tc) → Buf (Elt Ideal) ((c : Thread nD τ).loc b))
theorem tr0_0 : ∀ t : Fin grid0.N, cc0_transform_0 (grid0.coords t) = ![t.val + 0, 0] := by decide +kernel
theorem tr0_1 : ∀ t : Fin grid0.N, cc0_transform_1 (grid0.coords t) = ![t.val + 0, 0] := by decide +kernel
theorem tr0_2 : ∀ t : Fin grid0.N, cc0_transform_2 (grid0.coords t) = ![0, t.val, 0] := by decide +kernel
theorem tr0_3 : ∀ t : Fin grid0.N, cc0_transform_3 (grid0.coords t) = ![t.val, 0] := by decide +kernel
theorem tr0_4 : ∀ t : Fin grid0.N, cc0_transform_4 (grid0.coords t) = ![t.val + 0, 0] := by decide +kernel
theorem tr0_5 : ∀ t : Fin grid0.N, cc0_transform_5 (grid0.coords t) = ![0, 0] := by decide +kernel
theorem tr0_6 : ∀ t : Fin grid0.N, cc0_transform_6 (grid0.coords t) = ![0, 0] := by decide +kernel
theorem tr0_7 : ∀ t : Fin grid0.N, cc0_transform_7 (grid0.coords t) = ![0, 0] := by decide +kernel
theorem tr0_8 : ∀ t : Fin grid0.N, cc0_transform_8 (grid0.coords t) = ![0, 0] := by decide +kernel
theorem tr0_9 : ∀ t : Fin grid0.N, cc0_transform_9 (grid0.coords t) = ![0, 0] := by decide +kernel
theorem tr0_10 : ∀ t : Fin grid0.N, cc0_transform_10 (grid0.coords t) = ![t.val + 0, 0] := by decide +kernel

theorem blk0_0 (c : Dev nD) (t : Fin grid0.N) (r : Fin 256) (k : Fin 1024) (p : Fin 65536) (h : p.val = (t.val + 0) * 256 + r.val) :
    (iblk0 V c 0 t : S256x1024.Idx → EReal) (ix2 r k) = V c main_arg0 (ix2 p k : S65536x1024.Idx) := by
  refine congrArg (V c main_arg0) (funext fun a => Fin.ext ?_)
  refine (ValueKit.view_emb_slice_whole_unit_val main_arg0 _ _ _ _ a).trans ?_
  change cc0_transform_0 (grid0.coords t) a * S256x1024.size a + _ = _
  rw [tr0_0 t]
  match a with
  | ⟨0, _⟩ => show (t.val + 0) * 256 + r.val = p.val; omega
  | ⟨1, _⟩ => show 0 * 1024 + k.val = k.val; omega

theorem blk0_1 (c : Dev nD) (t : Fin grid0.N) (r : Fin 256) (k : Fin 1024) (p : Fin 65536) (h : p.val = (t.val + 0) * 256 + r.val) :
    (iblk0 V c 1 t : S256x1024.Idx → EReal) (ix2 r k) = V c main_arg1 (ix2 p k : S65536x1024.Idx) := by
  refine congrArg (V c main_arg1) (funext fun a => Fin.ext ?_)
  refine (ValueKit.view_emb_slice_whole_unit_val main_arg1 _ _ _ _ a).trans ?_
  change cc0_transform_1 (grid0.coords t) a * S256x1024.size a + _ = _
  rw [tr0_1 t]
  match a with
  | ⟨0, _⟩ => show (t.val + 0) * 256 + r.val = p.val; omega
  | ⟨1, _⟩ => show 0 * 1024 + k.val = k.val; omega

theorem blk0_4 (c : Dev nD) (t : Fin grid0.N) (r : Fin 256) (k : Fin 256) (p : Fin 65536) (h : p.val = (t.val + 0) * 256 + r.val) :
    (iblk0 V c 4 t : S256x256.Idx → EReal) (ix2 r k) = V c main_arg8 (ix2 p k : S65536x256.Idx) := by
  refine congrArg (V c main_arg8) (funext fun a => Fin.ext ?_)
  refine (ValueKit.view_emb_slice_whole_unit_val main_arg8 _ _ _ _ a).trans ?_
  change cc0_transform_4 (grid0.coords t) a * S256x256.size a + _ = _
  rw [tr0_4 t]
  match a with
  | ⟨0, _⟩ => show (t.val + 0) * 256 + r.val = p.val; omega
  | ⟨1, _⟩ => show 0 * 256 + k.val = k.val; omega

theorem blk0_2 (c : Dev nD) (t : Fin grid0.N) (e : Fin 8) (r : Fin 256) (k : Fin 1024) (n : Fin 32768) (h : n.val = t.val * 256 + r.val) :
    (iblk0 V c 2 t : S8x256x1024.Idx → EReal) (ix3 e r k) = V c main_v6 (ix3 e n k : S8x32768x1024.Idx) := by
  refine congrArg (V c main_v6) (funext fun a => Fin.ext ?_)
  refine (ValueKit.view_emb_slice_whole_unit_val main_v6 _ _ _ _ a).trans ?_
  change cc0_transform_2 (grid0.coords t) a * S8x256x1024.size a + _ = _
  rw [tr0_2 t]
  match a with
  | ⟨0, _⟩ => show 0 * 8 + e.val = e.val; omega
  | ⟨1, _⟩ => show t.val * 256 + r.val = n.val; omega
  | ⟨2, _⟩ => show 0 * 1024 + k.val = k.val; omega

theorem blk0_3 (c : Dev nD) (t : Fin grid0.N) (r : Fin 256) (e : Fin 8) (n : Fin 32768) (h : n.val = t.val * 256 + r.val) :
    (iblk0 V c 3 t : S256x8.Idx → EReal) (ix2 r e) = V c main_v7 (ix2 n e : S32768x8.Idx) := by
  refine congrArg (V c main_v7) (funext fun a => Fin.ext ?_)
  refine (ValueKit.view_emb_slice_whole_unit_val main_v7 _ _ _ _ a).trans ?_
  change cc0_transform_3 (grid0.coords t) a * S256x8.size a + _ = _
  rw [tr0_3 t]
  match a with
  | ⟨0, _⟩ => show t.val * 256 + r.val = n.val; omega
  | ⟨1, _⟩ => show 0 * 8 + e.val = e.val; omega

theorem blk0_5 (c : Dev nD) (t : Fin grid0.N) (r : Fin 1) (k : Fin 1024) :
    (iblk0 V c 5 t : S1x1024.Idx → EReal) (ix2 r k) = V c main_v8 (ix2 r k : S1x1024.Idx) := by
  refine congrArg (V c main_v8) (funext fun a => Fin.ext ?_)
  refine (ValueKit.view_emb_slice_whole_unit_val main_v8 _ _ _ _ a).trans ?_
  change cc0_transform_5 (grid0.coords t) a * S1x1024.size a + _ = _
  rw [tr0_5 t]
  match a with
  | ⟨0, _⟩ => show 0 * 1 + r.val = r.val; omega
  | ⟨1, _⟩ => show 0 * 1024 + k.val = k.val; omega

theorem blk0_6 (c : Dev nD) (t : Fin grid0.N) (r : Fin 1) (k : Fin 1024) :
    (iblk0 V c 6 t : S1x1024.Idx → EReal) (ix2 r k) = V c main_v9 (ix2 r k : S1x1024.Idx) := by
  refine congrArg (V c main_v9) (funext fun a => Fin.ext ?_)
  refine (ValueKit.view_emb_slice_whole_unit_val main_v9 _ _ _ _ a).trans ?_
  change cc0_transform_6 (grid0.coords t) a * S1x1024.size a + _ = _
  rw [tr0_6 t]
  match a with
  | ⟨0, _⟩ => show 0 * 1 + r.val = r.val; omega
  | ⟨1, _⟩ => show 0 * 1024 + k.val = k.val; omega

theorem blk0_8 (c : Dev nD) (t : Fin grid0.N) (r : Fin 1) (k : Fin 1024) :
    (iblk0 V c 8 t : S1x1024.Idx → EReal) (ix2 r k) = V c main_v11 (ix2 r k : S1x1024.Idx) := by
  refine congrArg (V c main_v11) (funext fun a => Fin.ext ?_)
  refine (ValueKit.view_emb_slice_whole_unit_val main_v11 _ _ _ _ a).trans ?_
  change cc0_transform_8 (grid0.coords t) a * S1x1024.size a + _ = _
  rw [tr0_8 t]
  match a with
  | ⟨0, _⟩ => show 0 * 1 + r.val = r.val; omega
  | ⟨1, _⟩ => show 0 * 1024 + k.val = k.val; omega

theorem blk0_7 (c : Dev nD) (t : Fin grid0.N) (r : Fin 256) (k : Fin 1024) :
    (iblk0 V c 7 t : S256x1024.Idx → EReal) (ix2 r k) = V c main_v10 (ix2 r k : S256x1024.Idx) := by
  refine congrArg (V c main_v10) (funext fun a => Fin.ext ?_)
  refine (ValueKit.view_emb_slice_whole_unit_val main_v10 _ _ _ _ a).trans ?_
  change cc0_transform_7 (grid0.coords t) a * S256x1024.size a + _ = _
  rw [tr0_7 t]
  match a with
  | ⟨0, _⟩ => show 0 * 256 + r.val = r.val; omega
  | ⟨1, _⟩ => show 0 * 1024 + k.val = k.val; omega

theorem blk0_9 (c : Dev nD) (t : Fin grid0.N) (r : Fin 1024) (k : Fin 1024) :
    (iblk0 V c 9 t : S1024x1024.Idx → EReal) (ix2 r k) = V c main_v12 (ix2 r k : S1024x1024.Idx) := by
  refine congrArg (V c main_v12) (funext fun a => Fin.ext ?_)
  refine (ValueKit.view_emb_slice_whole_unit_val main_v12 _ _ _ _ a).trans ?_
  change cc0_transform_9 (grid0.coords t) a * S1024x1024.size a + _ = _
  rw [tr0_9 t]
  match a with
  | ⟨0, _⟩ => show 0 * 1024 + r.val = r.val; omega
  | ⟨1, _⟩ => show 0 * 1024 + k.val = k.val; omega

theorem emb0 (t : Fin grid0.N) (r : Fin 256) (k : Fin 1024) (p : Fin 65536) (h : p.val = (t.val + 0) * 256 + r.val) :
    ((cfg0.win 10).blk t).view.emb (ix2 r k : S256x1024.Idx) = (ix2 p k : S65536x1024.Idx) := by
  refine funext fun a => Fin.ext ?_
  refine (ValueKit.view_emb_slice_whole_unit_val main_v13 _ _ _ _ a).trans ?_
  change cc0_transform_10 (grid0.coords t) a * S256x1024.size a + _ = _
  rw [tr0_10 t]
  match a with
  | ⟨0, _⟩ => show (t.val + 0) * 256 + r.val = p.val; omega
  | ⟨1, _⟩ => show 0 * 1024 + k.val = k.val; omega

/-- The written rows. -/
theorem covers0 : (cfg0.win 10).CoversWhere (fun β => β (0 : Fin 2) < 128) := by decide +kernel

theorem point0 (c : Dev nD) (t : Fin grid0.N) (r : Fin 256) (q : Fin 1024) (p : Fin 65536) (h : p.val = (t.val + 0) * 256 + r.val) :
    out0_10 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (ix2 r q)
      = G (V c main_arg0) (V c main_arg1) (V c main_v6) (V c main_v7) (V c main_arg8) (V c main_v8) (V c main_v9) (V c main_v10)
          (V c main_v11) (V c main_v12) p q := by
  have ht : t.val < 128 := t.isLt
  have hn : (⟨p.val % 32768, Nat.mod_lt _ (by decide)⟩ : Fin 32768).val = t.val * 256 + r.val := by
    have := r.isLt
    show p.val % 32768 = _
    omega
  refine (pay0 _ _ _ _ _ _ _ _ _ _ r q).trans ?_
  unfold G
  have e0 := fun k => blk0_0 V c t r k p h
  have e1 := fun k => blk0_1 V c t r k p h
  have e2 := fun e k => blk0_2 V c t e r k _ hn
  have e3 := fun e => blk0_3 V c t r e _ hn
  have e4 := fun k => blk0_4 V c t r k p h
  have e5 := fun k => blk0_5 V c t 0 k
  have e6 := fun k => blk0_6 V c t 0 k
  have e7 := fun r k => blk0_7 V c t r k
  have e8 := fun k => blk0_8 V c t 0 k
  have e9 := fun r k => blk0_9 V c t r k
  simp only [e0, e1, e2, e3, e4, e5, e6, e7, e8, e9]

/-- The result array after the call. -/
theorem final0 (c : Dev nD) : (dat0 V c).arrAt 10 cfg0.N = fun i : S65536x1024.Idx => if (i (0 : Fin 2)).val / 256 < 128 then
      G (V c main_arg0) (V c main_arg1) (V c main_v6) (V c main_v7) (V c main_arg8) (V c main_v8) (V c main_v9) (V c main_v10)
        (V c main_v11) (V c main_v12) (i 0) (i 1)
    else V c main_v13 i := by
  refine (dat0 V c).arrAt_eq_of_coversWhere 10 (fun i : S65536x1024.Idx => G (V c main_arg0) (V c main_arg1) (V c main_v6) (V c main_v7) (V c main_arg8)
      (V c main_v8) (V c main_v9) (V c main_v10) (V c main_v11) (V c main_v12) (i 0) (i 1)) (fun β => β (0 : Fin 2) < 128) covers0 (fun t hf y => ?_) (fun j => Iff.rfl)
  blk_simp
  rw [after0_10]
  have ht : t.val < 128 := t.isLt
  obtain ⟨r, q, rfl⟩ : ∃ (r : Fin 256) (q : Fin 1024), y = ix2 r q :=
    ⟨y (0 : Fin 2), y (1 : Fin 2), funext fun a => by match a with | ⟨0, _⟩ => rfl | ⟨1, _⟩ => rfl⟩
  have hr := r.isLt
  have hp : (t.val + 0) * 256 + r.val < 65536 := by omega
  rw [emb0 t r q ⟨_, hp⟩ rfl]
  exact point0 V c t r q ⟨_, hp⟩ rfl

end Region0

section Region1

variable (V : (c : Dev nD) → (b : Ref sig .tc) → Buf (Elt Ideal) ((c : Thread nD τ).loc b))
theorem tr1_0 : ∀ t : Fin grid1.N, cc1_transform_0 (grid1.coords t) = ![t.val + 128, 0] := by decide +kernel
theorem tr1_1 : ∀ t : Fin grid1.N, cc1_transform_1 (grid1.coords t) = ![t.val + 128, 0] := by decide +kernel
theorem tr1_2 : ∀ t : Fin grid1.N, cc1_transform_2 (grid1.coords t) = ![0, t.val, 0] := by decide +kernel
theorem tr1_3 : ∀ t : Fin grid1.N, cc1_transform_3 (grid1.coords t) = ![t.val, 0] := by decide +kernel
theorem tr1_4 : ∀ t : Fin grid1.N, cc1_transform_4 (grid1.coords t) = ![t.val + 128, 0] := by decide +kernel
theorem tr1_5 : ∀ t : Fin grid1.N, cc1_transform_5 (grid1.coords t) = ![0, 0] := by decide +kernel
theorem tr1_6 : ∀ t : Fin grid1.N, cc1_transform_6 (grid1.coords t) = ![0, 0] := by decide +kernel
theorem tr1_7 : ∀ t : Fin grid1.N, cc1_transform_7 (grid1.coords t) = ![0, 0] := by decide +kernel
theorem tr1_8 : ∀ t : Fin grid1.N, cc1_transform_8 (grid1.coords t) = ![0, 0] := by decide +kernel
theorem tr1_9 : ∀ t : Fin grid1.N, cc1_transform_9 (grid1.coords t) = ![0, 0] := by decide +kernel
theorem tr1_10 : ∀ t : Fin grid1.N, cc1_transform_10 (grid1.coords t) = ![t.val + 128, 0] := by decide +kernel

theorem blk1_0 (c : Dev nD) (t : Fin grid1.N) (r : Fin 256) (k : Fin 1024) (p : Fin 65536) (h : p.val = (t.val + 128) * 256 + r.val) :
    (iblk1 V c 0 t : S256x1024.Idx → EReal) (ix2 r k) = V c main_v13 (ix2 p k : S65536x1024.Idx) := by
  refine congrArg (V c main_v13) (funext fun a => Fin.ext ?_)
  refine (ValueKit.view_emb_slice_whole_unit_val main_v13 _ _ _ _ a).trans ?_
  change cc1_transform_0 (grid1.coords t) a * S256x1024.size a + _ = _
  rw [tr1_0 t]
  match a with
  | ⟨0, _⟩ => show (t.val + 128) * 256 + r.val = p.val; omega
  | ⟨1, _⟩ => show 0 * 1024 + k.val = k.val; omega

theorem blk1_1 (c : Dev nD) (t : Fin grid1.N) (r : Fin 256) (k : Fin 1024) (p : Fin 65536) (h : p.val = (t.val + 128) * 256 + r.val) :
    (iblk1 V c 1 t : S256x1024.Idx → EReal) (ix2 r k) = V c main_arg1 (ix2 p k : S65536x1024.Idx) := by
  refine congrArg (V c main_arg1) (funext fun a => Fin.ext ?_)
  refine (ValueKit.view_emb_slice_whole_unit_val main_arg1 _ _ _ _ a).trans ?_
  change cc1_transform_1 (grid1.coords t) a * S256x1024.size a + _ = _
  rw [tr1_1 t]
  match a with
  | ⟨0, _⟩ => show (t.val + 128) * 256 + r.val = p.val; omega
  | ⟨1, _⟩ => show 0 * 1024 + k.val = k.val; omega

theorem blk1_4 (c : Dev nD) (t : Fin grid1.N) (r : Fin 256) (k : Fin 256) (p : Fin 65536) (h : p.val = (t.val + 128) * 256 + r.val) :
    (iblk1 V c 4 t : S256x256.Idx → EReal) (ix2 r k) = V c main_arg8 (ix2 p k : S65536x256.Idx) := by
  refine congrArg (V c main_arg8) (funext fun a => Fin.ext ?_)
  refine (ValueKit.view_emb_slice_whole_unit_val main_arg8 _ _ _ _ a).trans ?_
  change cc1_transform_4 (grid1.coords t) a * S256x256.size a + _ = _
  rw [tr1_4 t]
  match a with
  | ⟨0, _⟩ => show (t.val + 128) * 256 + r.val = p.val; omega
  | ⟨1, _⟩ => show 0 * 256 + k.val = k.val; omega

theorem blk1_2 (c : Dev nD) (t : Fin grid1.N) (e : Fin 8) (r : Fin 256) (k : Fin 1024) (n : Fin 32768) (h : n.val = t.val * 256 + r.val) :
    (iblk1 V c 2 t : S8x256x1024.Idx → EReal) (ix3 e r k) = V c main_v20 (ix3 e n k : S8x32768x1024.Idx) := by
  refine congrArg (V c main_v20) (funext fun a => Fin.ext ?_)
  refine (ValueKit.view_emb_slice_whole_unit_val main_v20 _ _ _ _ a).trans ?_
  change cc1_transform_2 (grid1.coords t) a * S8x256x1024.size a + _ = _
  rw [tr1_2 t]
  match a with
  | ⟨0, _⟩ => show 0 * 8 + e.val = e.val; omega
  | ⟨1, _⟩ => show t.val * 256 + r.val = n.val; omega
  | ⟨2, _⟩ => show 0 * 1024 + k.val = k.val; omega

theorem blk1_3 (c : Dev nD) (t : Fin grid1.N) (r : Fin 256) (e : Fin 8) (n : Fin 32768) (h : n.val = t.val * 256 + r.val) :
    (iblk1 V c 3 t : S256x8.Idx → EReal) (ix2 r e) = V c main_v21 (ix2 n e : S32768x8.Idx) := by
  refine congrArg (V c main_v21) (funext fun a => Fin.ext ?_)
  refine (ValueKit.view_emb_slice_whole_unit_val main_v21 _ _ _ _ a).trans ?_
  change cc1_transform_3 (grid1.coords t) a * S256x8.size a + _ = _
  rw [tr1_3 t]
  match a with
  | ⟨0, _⟩ => show t.val * 256 + r.val = n.val; omega
  | ⟨1, _⟩ => show 0 * 8 + e.val = e.val; omega

theorem blk1_5 (c : Dev nD) (t : Fin grid1.N) (r : Fin 1) (k : Fin 1024) :
    (iblk1 V c 5 t : S1x1024.Idx → EReal) (ix2 r k) = V c main_v22 (ix2 r k : S1x1024.Idx) := by
  refine congrArg (V c main_v22) (funext fun a => Fin.ext ?_)
  refine (ValueKit.view_emb_slice_whole_unit_val main_v22 _ _ _ _ a).trans ?_
  change cc1_transform_5 (grid1.coords t) a * S1x1024.size a + _ = _
  rw [tr1_5 t]
  match a with
  | ⟨0, _⟩ => show 0 * 1 + r.val = r.val; omega
  | ⟨1, _⟩ => show 0 * 1024 + k.val = k.val; omega

theorem blk1_6 (c : Dev nD) (t : Fin grid1.N) (r : Fin 1) (k : Fin 1024) :
    (iblk1 V c 6 t : S1x1024.Idx → EReal) (ix2 r k) = V c main_v23 (ix2 r k : S1x1024.Idx) := by
  refine congrArg (V c main_v23) (funext fun a => Fin.ext ?_)
  refine (ValueKit.view_emb_slice_whole_unit_val main_v23 _ _ _ _ a).trans ?_
  change cc1_transform_6 (grid1.coords t) a * S1x1024.size a + _ = _
  rw [tr1_6 t]
  match a with
  | ⟨0, _⟩ => show 0 * 1 + r.val = r.val; omega
  | ⟨1, _⟩ => show 0 * 1024 + k.val = k.val; omega

theorem blk1_8 (c : Dev nD) (t : Fin grid1.N) (r : Fin 1) (k : Fin 1024) :
    (iblk1 V c 8 t : S1x1024.Idx → EReal) (ix2 r k) = V c main_v25 (ix2 r k : S1x1024.Idx) := by
  refine congrArg (V c main_v25) (funext fun a => Fin.ext ?_)
  refine (ValueKit.view_emb_slice_whole_unit_val main_v25 _ _ _ _ a).trans ?_
  change cc1_transform_8 (grid1.coords t) a * S1x1024.size a + _ = _
  rw [tr1_8 t]
  match a with
  | ⟨0, _⟩ => show 0 * 1 + r.val = r.val; omega
  | ⟨1, _⟩ => show 0 * 1024 + k.val = k.val; omega

theorem blk1_7 (c : Dev nD) (t : Fin grid1.N) (r : Fin 256) (k : Fin 1024) :
    (iblk1 V c 7 t : S256x1024.Idx → EReal) (ix2 r k) = V c main_v24 (ix2 r k : S256x1024.Idx) := by
  refine congrArg (V c main_v24) (funext fun a => Fin.ext ?_)
  refine (ValueKit.view_emb_slice_whole_unit_val main_v24 _ _ _ _ a).trans ?_
  change cc1_transform_7 (grid1.coords t) a * S256x1024.size a + _ = _
  rw [tr1_7 t]
  match a with
  | ⟨0, _⟩ => show 0 * 256 + r.val = r.val; omega
  | ⟨1, _⟩ => show 0 * 1024 + k.val = k.val; omega

theorem blk1_9 (c : Dev nD) (t : Fin grid1.N) (r : Fin 1024) (k : Fin 1024) :
    (iblk1 V c 9 t : S1024x1024.Idx → EReal) (ix2 r k) = V c main_v26 (ix2 r k : S1024x1024.Idx) := by
  refine congrArg (V c main_v26) (funext fun a => Fin.ext ?_)
  refine (ValueKit.view_emb_slice_whole_unit_val main_v26 _ _ _ _ a).trans ?_
  change cc1_transform_9 (grid1.coords t) a * S1024x1024.size a + _ = _
  rw [tr1_9 t]
  match a with
  | ⟨0, _⟩ => show 0 * 1024 + r.val = r.val; omega
  | ⟨1, _⟩ => show 0 * 1024 + k.val = k.val; omega

theorem emb1 (t : Fin grid1.N) (r : Fin 256) (k : Fin 1024) (p : Fin 65536) (h : p.val = (t.val + 128) * 256 + r.val) :
    ((cfg1.win 10).blk t).view.emb (ix2 r k : S256x1024.Idx) = (ix2 p k : S65536x1024.Idx) := by
  refine funext fun a => Fin.ext ?_
  refine (ValueKit.view_emb_slice_whole_unit_val main_v27 _ _ _ _ a).trans ?_
  change cc1_transform_10 (grid1.coords t) a * S256x1024.size a + _ = _
  rw [tr1_10 t]
  match a with
  | ⟨0, _⟩ => show (t.val + 128) * 256 + r.val = p.val; omega
  | ⟨1, _⟩ => show 0 * 1024 + k.val = k.val; omega

/-- The written rows. -/
theorem covers1 : (cfg1.win 10).CoversWhere (fun β => 128 ≤ β (0 : Fin 2)) := by decide +kernel

theorem point1 (c : Dev nD) (t : Fin grid1.N) (r : Fin 256) (q : Fin 1024) (p : Fin 65536) (h : p.val = (t.val + 128) * 256 + r.val) :
    out1_10 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (ix2 r q)
      = G (V c main_v13) (V c main_arg1) (V c main_v20) (V c main_v21) (V c main_arg8) (V c main_v22) (V c main_v23) (V c main_v24)
          (V c main_v25) (V c main_v26) p q := by
  have ht : t.val < 128 := t.isLt
  have hn : (⟨p.val % 32768, Nat.mod_lt _ (by decide)⟩ : Fin 32768).val = t.val * 256 + r.val := by
    have := r.isLt
    show p.val % 32768 = _
    omega
  refine (pay1 _ _ _ _ _ _ _ _ _ _ r q).trans ?_
  unfold G
  have e0 := fun k => blk1_0 V c t r k p h
  have e1 := fun k => blk1_1 V c t r k p h
  have e2 := fun e k => blk1_2 V c t e r k _ hn
  have e3 := fun e => blk1_3 V c t r e _ hn
  have e4 := fun k => blk1_4 V c t r k p h
  have e5 := fun k => blk1_5 V c t 0 k
  have e6 := fun k => blk1_6 V c t 0 k
  have e7 := fun r k => blk1_7 V c t r k
  have e8 := fun k => blk1_8 V c t 0 k
  have e9 := fun r k => blk1_9 V c t r k
  simp only [e0, e1, e2, e3, e4, e5, e6, e7, e8, e9]

/-- The result array after the call. -/
theorem final1 (c : Dev nD) : (dat1 V c).arrAt 10 cfg1.N = fun i : S65536x1024.Idx => if 128 ≤ (i (0 : Fin 2)).val / 256 then
      G (V c main_v13) (V c main_arg1) (V c main_v20) (V c main_v21) (V c main_arg8) (V c main_v22) (V c main_v23) (V c main_v24)
        (V c main_v25) (V c main_v26) (i 0) (i 1)
    else V c main_v27 i := by
  refine (dat1 V c).arrAt_eq_of_coversWhere 10 (fun i : S65536x1024.Idx => G (V c main_v13) (V c main_arg1) (V c main_v20) (V c main_v21) (V c main_arg8)
      (V c main_v22) (V c main_v23) (V c main_v24) (V c main_v25) (V c main_v26) (i 0) (i 1)) (fun β => 128 ≤ β (0 : Fin 2)) covers1 (fun t hf y => ?_) (fun j => Iff.rfl)
  blk_simp
  rw [after1_10]
  have ht : t.val < 128 := t.isLt
  obtain ⟨r, q, rfl⟩ : ∃ (r : Fin 256) (q : Fin 1024), y = ix2 r q :=
    ⟨y (0 : Fin 2), y (1 : Fin 2), funext fun a => by match a with | ⟨0, _⟩ => rfl | ⟨1, _⟩ => rfl⟩
  have hr := r.isLt
  have hp : (t.val + 128) * 256 + r.val < 65536 := by omega
  rw [emb1 t r q ⟨_, hp⟩ rfl]
  exact point1 V c t r q ⟨_, hp⟩ rfl

end Region1

end Cert.CombineIdeal.Gen

end
-- ==== Proof.CombineRef.lean ====
/- The combination: the reference's result at an index. -/
module

public import proofs.«01_k».proof.Proof.CombinePay
public import proofs.«01_k».proof.Proof.Gen.CombineReferenceIdeal.Read

@[expose] public section

noncomputable section

namespace Cert.CombineReferenceIdeal.Read

open Cert.CombineReferenceIdeal Cert.CombineReferenceIdeal.Gen Idealize.ShloMosaic Idealize.ShloMosaic.TcCoe Idealize.SL.Sem Idealize.ShloMosaic.StableHlo
open Cert.CombineRow

theorem zero_word : (FloatOps.ofBits (F := Ideal) .f32 0x00000000#32 : EReal) = 0 := Ideal.ofBits_zero_f32

variable (x0 x1 : (⟨S65536x1024, .f32⟩ : BufTy).Contents (Elt Ideal)) (x2 : (⟨S294912x1024, .bf16⟩ : BufTy).Contents (Elt Ideal))
  (x3 : (⟨S8x32768, .i32⟩ : BufTy).Contents (Elt Ideal)) (x4 : (⟨S8x32768, .f32⟩ : BufTy).Contents (Elt Ideal))
  (x5 : (⟨S294912x1024, .bf16⟩ : BufTy).Contents (Elt Ideal)) (x6 : (⟨S8x32768, .i32⟩ : BufTy).Contents (Elt Ideal))
  (x7 : (⟨S8x32768, .f32⟩ : BufTy).Contents (Elt Ideal)) (x8 : (⟨S65536x256, .f32⟩ : BufTy).Contents (Elt Ideal))
  (x9 x10 : (⟨S1024, .f32⟩ : BufTy).Contents (Elt Ideal)) (x11 : (⟨S256x1024, .f32⟩ : BufTy).Contents (Elt Ideal))
  (x12 : (⟨S1024, .f32⟩ : BufTy).Contents (Elt Ideal)) (x13 : (⟨S1024x1024, .f32⟩ : BufTy).Contents (Elt Ideal))

theorem v11_at (n : Fin 32768) (c : Fin 1024) : val_main_v11 (F := Ideal) x2 x3 x4 (ix2 n c)
      = ∑ k : Fin 8, val_main_v6 (F := Ideal) x2 x3 (ix3 k n c) * x4 (ix2 k n) := by
  rw [val_main_v11_apply, val_main_cst_apply, zero_word, zero_add]
  refine Finset.sum_congr rfl fun k _ => ?_
  rw [show idx_main_v11 (ix2 n c) k = ix3 k n c from funext fun a => by match a with | ⟨0, _⟩ => rfl | ⟨1, _⟩ => rfl | ⟨2, _⟩ => rfl, val_main_v10_apply, val_main_v7_apply, val_main_v9_apply, val_main_v8_apply,
    show idx_main_v8 (idx_main_v9 (ix3 k n c)) = ix2 k n from funext fun a => by match a with | ⟨0, _⟩ => rfl | ⟨1, _⟩ => rfl]
  rfl

theorem v23_at (n : Fin 32768) (c : Fin 1024) : val_main_v23 (F := Ideal) x5 x6 x7 (ix2 n c)
      = ∑ k : Fin 8, val_main_v18 (F := Ideal) x5 x6 (ix3 k n c) * x7 (ix2 k n) := by
  rw [val_main_v23_apply, val_main_cst_3_apply, zero_word, zero_add]
  refine Finset.sum_congr rfl fun k _ => ?_
  rw [show idx_main_v23 (ix2 n c) k = ix3 k n c from funext fun a => by match a with | ⟨0, _⟩ => rfl | ⟨1, _⟩ => rfl | ⟨2, _⟩ => rfl, val_main_v22_apply, val_main_v19_apply, val_main_v21_apply, val_main_v20_apply,
    show idx_main_v20 (idx_main_v21 (ix3 k n c)) = ix2 k n from funext fun a => by match a with | ⟨0, _⟩ => rfl | ⟨1, _⟩ => rfl]
  rfl

theorem v24_left (p : Fin 65536) (c : Fin 1024) (n : Fin 32768) (h : p.val = n.val) :
    val_main_v24 (F := Ideal) x2 x3 x4 x5 x6 x7 (ix2 p c) = ∑ k : Fin 8, val_main_v6 (F := Ideal) x2 x3 (ix3 k n c) * x4 (ix2 k n) := by
  rw [← v11_at]
  unfold val_main_v24
  exact concatenate_pair_apply_left (t := S65536x1024) (s₁ := S32768x1024) (s₂ := S32768x1024) (0 : Fin 2) _ _ _ (ix2 p c) rfl (ix2 n c)
    (fun a => by match a with | ⟨0, _⟩ => exact h.symm | ⟨1, _⟩ => rfl)

theorem v24_right (p : Fin 65536) (c : Fin 1024) (n : Fin 32768) (h : p.val = n.val + 32768) :
    val_main_v24 (F := Ideal) x2 x3 x4 x5 x6 x7 (ix2 p c) = ∑ k : Fin 8, val_main_v18 (F := Ideal) x5 x6 (ix3 k n c) * x7 (ix2 k n) := by
  rw [← v23_at]
  unfold val_main_v24
  exact concatenate_pair_apply_right (t := S65536x1024) (s₁ := S32768x1024) (s₂ := S32768x1024) (0 : Fin 2) _ _ _ (ix2 p c) rfl rfl (ix2 n c)
    (fun a ha => by match a with | ⟨0, _⟩ => exact absurd rfl ha | ⟨1, _⟩ => rfl) h.symm

theorem v28_left (p : Fin 65536) (c : Fin 1024) (n : Fin 32768) (h : p.val = n.val) :
    val_main_v28 (F := Ideal) x0 x1 x2 x3 x4 x5 x6 x7 (ix2 p c) = resid (x0 (ix2 p c)) (x1 (ix2 p c)) (fun k => val_main_v6 (F := Ideal) x2 x3 (ix3 k n c)) (fun k => x4 (ix2 k n)) := by
  rw [val_main_v28_apply, val_main_v26_apply, val_main_v27_apply, val_main_v25_apply, val_main_cst_4_apply, v24_left x2 x3 x4 x5 x6 x7 p c n h]
  rfl

theorem v28_right (p : Fin 65536) (c : Fin 1024) (n : Fin 32768) (h : p.val = n.val + 32768) :
    val_main_v28 (F := Ideal) x0 x1 x2 x3 x4 x5 x6 x7 (ix2 p c) = resid (x0 (ix2 p c)) (x1 (ix2 p c)) (fun k => val_main_v18 (F := Ideal) x5 x6 (ix3 k n c)) (fun k => x7 (ix2 k n)) := by
  rw [val_main_v28_apply, val_main_v26_apply, val_main_v27_apply, val_main_v25_apply, val_main_cst_4_apply, v24_right x2 x3 x4 x5 x6 x7 p c n h]
  rfl

theorem v32_at (p : Fin 65536) : val_main_v32 (F := Ideal) x0 x1 x2 x3 x4 x5 x6 x7 (ix2 p (0 : Fin 1)) = mean (fun c => val_main_v28 (F := Ideal) x0 x1 x2 x3 x4 x5 x6 x7 (ix2 p c)) := by
  rw [val_main_v32_apply, val_main_v30_apply, val_main_v31_apply, val_main_cst_6_apply, val_main_v29_apply, val_main_cst_5_apply, zero_word, zero_add]
  have e : ∀ k, idx_main_v29 (idx_main_v30 (ix2 p (0 : Fin 1))) k = ix2 p k := fun k => funext fun a => by match a with | ⟨0, _⟩ => rfl | ⟨1, _⟩ => rfl
  simp only [e]
  rfl

theorem v34_at (p : Fin 65536) (c : Fin 1024) : val_main_v34 (F := Ideal) x0 x1 x2 x3 x4 x5 x6 x7 (ix2 p c) = centred (fun c => val_main_v28 (F := Ideal) x0 x1 x2 x3 x4 x5 x6 x7 (ix2 p c)) c := by
  rw [val_main_v34_apply, val_main_v33_apply, show idx_main_v33 (ix2 p c) = ix2 p (0 : Fin 1) from funext fun a => by match a with | ⟨0, _⟩ => rfl | ⟨1, _⟩ => rfl, v32_at]
  rfl

theorem v41_at (p : Fin 65536) (c : Fin 1024) : val_main_v41 (F := Ideal) x0 x1 x2 x3 x4 x5 x6 x7 (ix2 p c) = centred (fun c => val_main_v28 (F := Ideal) x0 x1 x2 x3 x4 x5 x6 x7 (ix2 p c)) c := by
  rw [val_main_v41_apply, val_main_v40_apply, show idx_main_v40 (ix2 p c) = ix2 p (0 : Fin 1) from funext fun a => by match a with | ⟨0, _⟩ => rfl | ⟨1, _⟩ => rfl, v32_at]
  rfl

theorem v39_at (p : Fin 65536) : val_main_v39 (F := Ideal) x0 x1 x2 x3 x4 x5 x6 x7 (ix2 p (0 : Fin 1))
      = mean (fun x => centred (fun c => val_main_v28 (F := Ideal) x0 x1 x2 x3 x4 x5 x6 x7 (ix2 p c)) x * centred (fun c => val_main_v28 (F := Ideal) x0 x1 x2 x3 x4 x5 x6 x7 (ix2 p c)) x) := by
  rw [val_main_v39_apply, val_main_v37_apply, val_main_v38_apply, val_main_cst_8_apply, val_main_v36_apply, val_main_cst_7_apply, zero_word, zero_add]
  have e : ∀ k, idx_main_v36 (idx_main_v37 (ix2 p (0 : Fin 1))) k = ix2 p k := fun k => funext fun a => by match a with | ⟨0, _⟩ => rfl | ⟨1, _⟩ => rfl
  simp only [e, val_main_v35_apply, v34_at]
  rfl

theorem v52_at (p : Fin 65536) (c : Fin 1024) : val_main_v52 (F := Ideal) x0 x1 x2 x3 x4 x5 x6 x7 x9 x10 (ix2 p c)
      = layerNorm (fun c => val_main_v28 (F := Ideal) x0 x1 x2 x3 x4 x5 x6 x7 (ix2 p c)) (fun c => x9 (ix1 c)) (fun c => x10 (ix1 c)) c := by
  rw [val_main_v52_apply, val_main_v49_apply, val_main_v46_apply, v41_at, val_main_v45_apply, show idx_main_v45 (ix2 p c) = ix2 p (0 : Fin 1) from funext fun a => by match a with | ⟨0, _⟩ => rfl | ⟨1, _⟩ => rfl,
    val_main_v44_apply, val_main_v43_apply, v39_at, val_main_v42_apply, val_main_cst_9_apply, val_main_v48_apply, val_main_v47_apply,
    show idx_main_v47 (idx_main_v48 (ix2 p c)) = ix1 c from funext fun a => by match a with | ⟨0, _⟩ => rfl, val_main_v51_apply, val_main_v50_apply,
    show idx_main_v50 (idx_main_v51 (ix2 p c)) = ix1 c from funext fun a => by match a with | ⟨0, _⟩ => rfl]
  rfl

theorem v53_at (p : Fin 65536) (c : Fin 1024) : val_main_v53 (F := Ideal) x8 x11 (ix2 p c) = proj (fun k => x8 (ix2 p k)) (fun k c => x11 (ix2 k c)) c := by
  rw [val_main_v53_apply]
  refine Finset.sum_congr rfl fun k _ => ?_
  rw [show lidx_main_v53 (ix2 p c) k = ix2 p k from funext fun a => by match a with | ⟨0, _⟩ => rfl | ⟨1, _⟩ => rfl, show ridx_main_v53 (ix2 p c) k = ix2 k c from funext fun a => by match a with | ⟨0, _⟩ => rfl | ⟨1, _⟩ => rfl]

theorem v58_at (p : Fin 65536) : val_main_v58 (F := Ideal) x8 x11 (ix2 p (0 : Fin 1))
      = mean (fun x => proj (fun k => x8 (ix2 p k)) (fun k c => x11 (ix2 k c)) x * proj (fun k => x8 (ix2 p k)) (fun k c => x11 (ix2 k c)) x) := by
  rw [val_main_v58_apply, val_main_v56_apply, val_main_v57_apply, val_main_cst_11_apply, val_main_v55_apply, val_main_cst_10_apply, zero_word, zero_add]
  have e : ∀ k, idx_main_v55 (idx_main_v56 (ix2 p (0 : Fin 1))) k = ix2 p k := fun k => funext fun a => by match a with | ⟨0, _⟩ => rfl | ⟨1, _⟩ => rfl
  simp only [e, val_main_v54_apply, v53_at]
  rfl

theorem v66_at (p : Fin 65536) (c : Fin 1024) : val_main_v66 (F := Ideal) x8 x11 x12 (ix2 p c)
      = embed (proj (fun k => x8 (ix2 p k)) (fun k c => x11 (ix2 k c))) (fun c => x12 (ix1 c)) c := by
  rw [val_main_v66_apply, val_main_v63_apply, v53_at, val_main_v62_apply, show idx_main_v62 (ix2 p c) = ix2 p (0 : Fin 1) from funext fun a => by match a with | ⟨0, _⟩ => rfl | ⟨1, _⟩ => rfl,
    val_main_v61_apply, val_main_v60_apply, v58_at, val_main_v59_apply, val_main_cst_12_apply, val_main_v65_apply, val_main_v64_apply,
    show idx_main_v64 (idx_main_v65 (ix2 p c)) = ix1 c from funext fun a => by match a with | ⟨0, _⟩ => rfl]
  rfl

theorem gate_scalar (n a e : EReal) :
    (FloatOps.addf (F := Ideal) (φ := .f32) n (FloatOps.mulf (F := Ideal) (φ := .f32) (FloatOps.hostDivf (F := Ideal) (φ := .f32) (FloatOps.ofBits .f32 0x3F800000#32)
      (FloatOps.addf (F := Ideal) (φ := .f32) (FloatOps.ofBits .f32 0x3F800000#32) (FloatOps.hostUnary (F := Ideal) (φ := .f32) .exp (FloatOps.hostNegf (F := Ideal) (φ := .f32) a)))) e) : EReal)
      = n + Ideal.div 1 (1 + Ideal.exp (0 - a)) * e := by
  rw [zero_sub]
  have h1 : (FloatOps.ofBits (F := Ideal) .f32 0x3F800000#32 : EReal) = 1 := Ideal.ofBits_one_f32
  rw [h1]
  rfl

theorem v67_at (p : Fin 65536) (c : Fin 1024) : val_main_v67 (F := Ideal) x0 x1 x2 x3 x4 x5 x6 x7 x9 x10 x13 (ix2 p c)
      = ∑ x, layerNorm (fun c => val_main_v28 (F := Ideal) x0 x1 x2 x3 x4 x5 x6 x7 (ix2 p c)) (fun c => x9 (ix1 c)) (fun c => x10 (ix1 c)) x * x13 (ix2 x c) := by
  rw [val_main_v67_apply]
  refine Finset.sum_congr rfl fun k _ => ?_
  rw [show lidx_main_v67 (ix2 p c) k = ix2 p k from funext fun a => by match a with | ⟨0, _⟩ => rfl | ⟨1, _⟩ => rfl, show ridx_main_v67 (ix2 p c) k = ix2 k c from funext fun a => by match a with | ⟨0, _⟩ => rfl | ⟨1, _⟩ => rfl, v52_at]

/-- The result at a row and a column, from the row's residual sum. -/
theorem v75_at (p : Fin 65536) (c : Fin 1024) : val_main_v75 (F := Ideal) x0 x1 x2 x3 x4 x5 x6 x7 x8 x9 x10 x11 x12 x13 (ix2 p c)
      = gatedSum (layerNorm (fun c => val_main_v28 (F := Ideal) x0 x1 x2 x3 x4 x5 x6 x7 (ix2 p c)) (fun c => x9 (ix1 c)) (fun c => x10 (ix1 c)))
          (embed (proj (fun k => x8 (ix2 p k)) (fun k c => x11 (ix2 k c))) (fun c => x12 (ix1 c))) (fun k c => x13 (ix2 k c)) c := by
  rw [val_main_v75_apply, val_main_v74_apply, val_main_v73_apply, val_main_v72_apply, val_main_cst_14_apply, val_main_v71_apply, val_main_v70_apply,
    val_main_cst_13_apply, val_main_v69_apply, val_main_v68_apply, v52_at, v66_at, v67_at]
  exact gate_scalar _ _ _

theorem result_left (p : Fin 65536) (c : Fin 1024) (n : Fin 32768) (h : p.val = n.val) :
    val_main_v75 (F := Ideal) x0 x1 x2 x3 x4 x5 x6 x7 x8 x9 x10 x11 x12 x13 (ix2 p c)
      = row (fun c => x0 (ix2 p c)) (fun c => x1 (ix2 p c)) (fun k c => val_main_v6 (F := Ideal) x2 x3 (ix3 k n c)) (fun k => x4 (ix2 k n)) (fun k => x8 (ix2 p k))
          (fun c => x9 (ix1 c)) (fun c => x10 (ix1 c)) (fun k c => x11 (ix2 k c)) (fun c => x12 (ix1 c)) (fun k c => x13 (ix2 k c)) c := by
  rw [v75_at]
  unfold row
  rw [funext fun c => v28_left x0 x1 x2 x3 x4 x5 x6 x7 p c n h]

theorem result_right (p : Fin 65536) (c : Fin 1024) (n : Fin 32768) (h : p.val = n.val + 32768) :
    val_main_v75 (F := Ideal) x0 x1 x2 x3 x4 x5 x6 x7 x8 x9 x10 x11 x12 x13 (ix2 p c)
      = row (fun c => x0 (ix2 p c)) (fun c => x1 (ix2 p c)) (fun k c => val_main_v18 (F := Ideal) x5 x6 (ix3 k n c)) (fun k => x7 (ix2 k n)) (fun k => x8 (ix2 p k))
          (fun c => x9 (ix1 c)) (fun c => x10 (ix1 c)) (fun k c => x11 (ix2 k c)) (fun c => x12 (ix1 c)) (fun k c => x13 (ix2 k c)) c := by
  rw [v75_at]
  unfold row
  rw [funext fun c => v28_right x0 x1 x2 x3 x4 x5 x6 x7 p c n h]

end Cert.CombineReferenceIdeal.Read

end
-- ==== Proof.CombineRun.lean ====
/- The combination: the kernel's result array after the whole run. -/
module

public import proofs.«01_k».proof.Proof.CombineRegion
public import proofs.«01_k».proof.Proof.CombineRef
public import proofs.«01_k».proof.Proof.Gen.CombineReferenceIdeal.Run

@[expose] public section

noncomputable section

namespace Cert.CombineIdeal.Gen

open Idealize.ShloMosaic Idealize.ShloMosaic.TcCoe Idealize.SL.Sem Cert.CombineRow
open Idealize.SL Idealize.SL.BI

variable (m : (ℓ : Loc nD τ sig) → Buf (Elt Ideal) ℓ) (ρ : Dev nD → PrngReg)

/-! ## What the calls find -/

theorem in0_6 (c : Dev nD) : V1 m ρ c main_v6 = Cert.CombineReferenceIdeal.Read.val_main_v6 (F := Ideal) (m ((c : Thread nD τ).loc main_arg2)) (m ((c : Thread nD τ).loc main_arg3)) := by
  dsimp only [V1, W1, hostOps0]; after_results; rfl
theorem in0_13 (c : Dev nD) : V1 m ρ c main_v13 = (m ((c : Thread nD τ).loc main_arg0)) := by
  dsimp only [V1, W1, hostOps0]; after_results; rfl
theorem in0_7 (c : Dev nD) (n : Fin 32768) (k : Fin 8) : (V1 m ρ c main_v7 : S32768x8.Idx → EReal) (ix2 n k) = (m ((c : Thread nD τ).loc main_arg4)) (ix2 k n : S8x32768.Idx) := by
  dsimp only [V1, W1, hostOps0]; after_results
  pointwise
theorem in0_8 (c : Dev nD) (k : Fin 1024) : (V1 m ρ c main_v8 : S1x1024.Idx → EReal) (ix2 0 k) = (m ((c : Thread nD τ).loc main_arg9)) (ix1 k : S1024.Idx) := by
  dsimp only [V1, W1, hostOps0]; after_results
  pointwise
theorem in0_9 (c : Dev nD) (k : Fin 1024) : (V1 m ρ c main_v9 : S1x1024.Idx → EReal) (ix2 0 k) = (m ((c : Thread nD τ).loc main_arg10)) (ix1 k : S1024.Idx) := by
  dsimp only [V1, W1, hostOps0]; after_results
  pointwise
theorem in0_11 (c : Dev nD) (k : Fin 1024) : (V1 m ρ c main_v11 : S1x1024.Idx → EReal) (ix2 0 k) = (m ((c : Thread nD τ).loc main_arg12)) (ix1 k : S1024.Idx) := by
  dsimp only [V1, W1, hostOps0]; after_results
  pointwise
theorem in0_10 (c : Dev nD) : (V1 m ρ c main_v10 : S256x1024.Idx → EReal) = (m ((c : Thread nD τ).loc main_arg11)) := by
  dsimp only [V1, W1, hostOps0]; after_results; rfl
theorem in0_12 (c : Dev nD) : (V1 m ρ c main_v12 : S1024x1024.Idx → EReal) = (m ((c : Thread nD τ).loc main_arg13)) := by
  dsimp only [V1, W1, hostOps0]; after_results; rfl
theorem in0_a0 (c : Dev nD) : V1 m ρ c main_arg0 = (m ((c : Thread nD τ).loc main_arg0)) := W1_args m ρ c main_arg0 (by decide)
theorem in0_a1 (c : Dev nD) : V1 m ρ c main_arg1 = (m ((c : Thread nD τ).loc main_arg1)) := W1_args m ρ c main_arg1 (by decide)
theorem in0_a8 (c : Dev nD) : V1 m ρ c main_arg8 = (m ((c : Thread nD τ).loc main_arg8)) := W1_args m ρ c main_arg8 (by decide)

/-- An argument at the second call's host prefix. -/
theorem mid_a5 (c : Dev nD) : W2 m ρ c main_arg5 = (m ((c : Thread nD τ).loc main_arg5)) := W2_args m ρ c main_arg5 (by decide)
theorem mid_a6 (c : Dev nD) : W2 m ρ c main_arg6 = (m ((c : Thread nD τ).loc main_arg6)) := W2_args m ρ c main_arg6 (by decide)
theorem mid_a7 (c : Dev nD) : W2 m ρ c main_arg7 = (m ((c : Thread nD τ).loc main_arg7)) := W2_args m ρ c main_arg7 (by decide)
theorem mid_a9 (c : Dev nD) : W2 m ρ c main_arg9 = (m ((c : Thread nD τ).loc main_arg9)) := W2_args m ρ c main_arg9 (by decide)
theorem mid_a10 (c : Dev nD) : W2 m ρ c main_arg10 = (m ((c : Thread nD τ).loc main_arg10)) := W2_args m ρ c main_arg10 (by decide)
theorem mid_a11 (c : Dev nD) : W2 m ρ c main_arg11 = (m ((c : Thread nD τ).loc main_arg11)) := W2_args m ρ c main_arg11 (by decide)
theorem mid_a12 (c : Dev nD) : W2 m ρ c main_arg12 = (m ((c : Thread nD τ).loc main_arg12)) := W2_args m ρ c main_arg12 (by decide)
theorem mid_a13 (c : Dev nD) : W2 m ρ c main_arg13 = (m ((c : Thread nD τ).loc main_arg13)) := W2_args m ρ c main_arg13 (by decide)
theorem in1_a0 (c : Dev nD) : V3 m ρ c main_arg0 = (m ((c : Thread nD τ).loc main_arg0)) := W3_args m ρ c main_arg0 (by decide)
theorem in1_a1 (c : Dev nD) : V3 m ρ c main_arg1 = (m ((c : Thread nD τ).loc main_arg1)) := W3_args m ρ c main_arg1 (by decide)
theorem in1_a8 (c : Dev nD) : V3 m ρ c main_arg8 = (m ((c : Thread nD τ).loc main_arg8)) := W3_args m ρ c main_arg8 (by decide)
theorem in1_13 (c : Dev nD) : V3 m ρ c main_v13 = (dat0 (V1 m ρ) c).arrAt 10 cfg0.N :=
  (W3_of m ρ c main_v13 (by decide)).trans (W2_arr m ρ c 10)
theorem in1_27 (c : Dev nD) : V3 m ρ c main_v27 = (dat0 (V1 m ρ) c).arrAt 10 cfg0.N := by
  refine Eq.trans ?_ (W2_arr m ρ c 10)
  dsimp only [V3, W3, hostOps1]; after_results; rfl
theorem in1_20 (c : Dev nD) : V3 m ρ c main_v20 = Cert.CombineReferenceIdeal.Read.val_main_v18 (F := Ideal) (m ((c : Thread nD τ).loc main_arg5)) (m ((c : Thread nD τ).loc main_arg6)) := by
  rw [← mid_a5 m ρ c, ← mid_a6 m ρ c]
  dsimp only [V3, W3, hostOps1]; after_results; rfl
theorem in1_21 (c : Dev nD) (n : Fin 32768) (k : Fin 8) : (V3 m ρ c main_v21 : S32768x8.Idx → EReal) (ix2 n k) = (m ((c : Thread nD τ).loc main_arg7)) (ix2 k n : S8x32768.Idx) := by
  rw [← mid_a7 m ρ c]
  dsimp only [V3, W3, hostOps1]; after_results
  pointwise
theorem in1_22 (c : Dev nD) (k : Fin 1024) : (V3 m ρ c main_v22 : S1x1024.Idx → EReal) (ix2 0 k) = (m ((c : Thread nD τ).loc main_arg9)) (ix1 k : S1024.Idx) := by
  rw [← mid_a9 m ρ c]
  dsimp only [V3, W3, hostOps1]; after_results
  pointwise
theorem in1_23 (c : Dev nD) (k : Fin 1024) : (V3 m ρ c main_v23 : S1x1024.Idx → EReal) (ix2 0 k) = (m ((c : Thread nD τ).loc main_arg10)) (ix1 k : S1024.Idx) := by
  rw [← mid_a10 m ρ c]
  dsimp only [V3, W3, hostOps1]; after_results
  pointwise
theorem in1_25 (c : Dev nD) (k : Fin 1024) : (V3 m ρ c main_v25 : S1x1024.Idx → EReal) (ix2 0 k) = (m ((c : Thread nD τ).loc main_arg12)) (ix1 k : S1024.Idx) := by
  rw [← mid_a12 m ρ c]
  dsimp only [V3, W3, hostOps1]; after_results
  pointwise
theorem in1_24 (c : Dev nD) : (V3 m ρ c main_v24 : S256x1024.Idx → EReal) = (m ((c : Thread nD τ).loc main_arg11)) := by
  rw [← mid_a11 m ρ c]
  dsimp only [V3, W3, hostOps1]; after_results; rfl
theorem in1_26 (c : Dev nD) : (V3 m ρ c main_v26 : S1024x1024.Idx → EReal) = (m ((c : Thread nD τ).loc main_arg13)) := by
  rw [← mid_a13 m ρ c]
  dsimp only [V3, W3, hostOps1]; after_results; rfl

theorem row_congr {x x' s s' : Fin 1024 → EReal} {y y' : Fin 8 → Fin 1024 → EReal} {g g' : Fin 8 → EReal} {p p' : Fin 256 → EReal}
    {lg lg' lb lb' : Fin 1024 → EReal} {wp wp' : Fin 256 → Fin 1024 → EReal} {ng ng' : Fin 1024 → EReal} {wg wg' : Fin 1024 → Fin 1024 → EReal} (q : Fin 1024)
    (hx : ∀ c, x c = x' c) (hs : ∀ c, s c = s' c) (hy : ∀ k c, y k c = y' k c) (hg : ∀ k, g k = g' k) (hp : ∀ k, p k = p' k) (hlg : ∀ c, lg c = lg' c)
    (hlb : ∀ c, lb c = lb' c) (hwp : ∀ k c, wp k c = wp' k c) (hng : ∀ c, ng c = ng' c) (hwg : ∀ k c, wg k c = wg' k c) :
    row x s y g p lg lb wp ng wg q = row x' s' y' g' p' lg' lb' wp' ng' wg' q := by
  obtain rfl := funext hx
  obtain rfl := funext hs
  obtain rfl := funext fun k => funext (hy k)
  obtain rfl := funext hg
  obtain rfl := funext hp
  obtain rfl := funext hlg
  obtain rfl := funext hlb
  obtain rfl := funext fun k => funext (hwp k)
  obtain rfl := funext hng
  obtain rfl := funext fun k => funext (hwg k)
  rfl

/-- What both programs leave, on a device. -/
def out (c : Dev nD) : S65536x1024.Idx → EReal := Cert.CombineReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The first call's result array. -/
theorem half0 (c : Dev nD) (p : Fin 65536) (q : Fin 1024) : ((dat0 (V1 m ρ) c).arrAt 10 cfg0.N : S65536x1024.Idx → EReal) (ix2 p q)
    = if p.val < 32768 then out m c (ix2 p q) else (m ((c : Thread nD τ).loc main_arg0)) (ix2 p q : S65536x1024.Idx) := by
  rw [final0]
  show (if p.val / 256 < 128 then G _ _ _ _ _ _ _ _ _ _ p q else V1 m ρ c main_v13 (ix2 p q : S65536x1024.Idx)) = _
  by_cases h : p.val < 32768
  · rw [if_pos h, if_pos (by omega)]
    unfold out
    rw [Cert.CombineReferenceIdeal.Read.result_left _ _ _ _ _ _ _ _ _ _ _ _ _ _ p q ⟨p.val % 32768, Nat.mod_lt _ (by decide)⟩ (Nat.mod_eq_of_lt h).symm]
    unfold G
    exact row_congr q (fun k => congrFun (in0_a0 m ρ c) _) (fun k => congrFun (in0_a1 m ρ c) _) (fun e k => congrFun (in0_6 m ρ c) _)
      (fun k => in0_7 m ρ c _ k) (fun k => congrFun (in0_a8 m ρ c) _) (fun k => in0_8 m ρ c k) (fun k => in0_9 m ρ c k)
      (fun e k => congrFun (in0_10 m ρ c) _) (fun k => in0_11 m ρ c k) (fun e k => congrFun (in0_12 m ρ c) _)
  · rw [if_neg h, if_neg (by omega), in0_13]

/-- The second call's result array. -/
theorem half1 (c : Dev nD) (p : Fin 65536) (q : Fin 1024) : ((dat1 (V3 m ρ) c).arrAt 10 cfg1.N : S65536x1024.Idx → EReal) (ix2 p q) = out m c (ix2 p q) := by
  rw [final1]
  show (if 128 ≤ p.val / 256 then G _ _ _ _ _ _ _ _ _ _ p q else V3 m ρ c main_v27 (ix2 p q : S65536x1024.Idx)) = _
  by_cases h : p.val < 32768
  · rw [if_neg (by omega), in1_27, half0, if_pos h]
  · have hp := p.isLt
    rw [if_pos (by omega)]
    unfold out
    rw [Cert.CombineReferenceIdeal.Read.result_right _ _ _ _ _ _ _ _ _ _ _ _ _ _ p q ⟨p.val % 32768, Nat.mod_lt _ (by decide)⟩
      (by show p.val = p.val % 32768 + 32768; omega)]
    have e : ∀ k, (V3 m ρ c main_v13 : S65536x1024.Idx → EReal) (ix2 p k) = (m ((c : Thread nD τ).loc main_arg0)) (ix2 p k : S65536x1024.Idx) := fun k => by
      rw [in1_13, half0, if_neg h]
    unfold G
    exact row_congr q e (fun k => congrFun (in1_a1 m ρ c) _) (fun e k => congrFun (in1_20 m ρ c) _)
      (fun k => in1_21 m ρ c _ k) (fun k => congrFun (in1_a8 m ρ c) _) (fun k => in1_22 m ρ c k) (fun k => in1_23 m ρ c k)
      (fun e k => congrFun (in1_24 m ρ c) _) (fun k => in1_25 m ρ c k) (fun e k => congrFun (in1_26 m ρ c) _)

theorem last_eq (c : Dev nD) : (W4 m ρ c main_v27 : S65536x1024.Idx → EReal) = out m c := by
  refine (W4_arr m ρ c 10).trans (funext fun (i : S65536x1024.Idx) => ?_)
  have e : (ix2 (i (0 : Fin 2)) (i (1 : Fin 2)) : S65536x1024.Idx) = i := funext fun a => by match a with | ⟨0, _⟩ => rfl | ⟨1, _⟩ => rfl
  have h := half1 m ρ c (i (0 : Fin 2)) (i (1 : Fin 2))
  rw [e] at h
  exact h

section Run
open Idealize.SL.RA Idealize.ShloMosaic.Tactic
open scoped Idealize.SL.BI
open Idealize.SL.BI.BIBase Idealize.SL.BI.Laws Idealize.SL.ProofMode
open Idealize.ShloMosaic.Rounds

set_option backward.isDefEq.respectTransparency.types false in
/-- The run's result array is the last boundary's. -/
theorem run_result : θ_run defs (onTc (τ := τ) (main (F := Ideal))) ⟨m, fun _ => 0, ρ⟩ (fun r => ∀ c : Dev nD,
      r.2.mem ((c.tc : Thread nD τ).loc main_v27) = W4 m ρ c main_v27) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c => h c _ (mem_uc main_v27 (by decide)))

theorem run_out : θ_run defs (onTc (τ := τ) (main (F := Ideal))) ⟨m, fun _ => 0, ρ⟩ (fun r => ∀ c : Dev nD,
      r.2.mem ((c.tc : Thread nD τ).loc main_v27) = out m c) :=
  (θ_run _ _ _).mono (fun _ h c => (h c).trans (last_eq m ρ c)) (run_result m ρ)

end Run

end Cert.CombineIdeal.Gen

end
-- ==== Proof.MidPay.lean ====
/- The residual sum, the layer norm, the shared expert and the router's logits of one row, and the body's blocks as those. -/
module

public import proofs.«01_k».proof.Proof.Gen.MidIdeal.Value
public import Idealize.ShloMosaic.Lib.Pointwise
public import Idealize.ShloMosaic.Lib.Pipeline.ValueKit
public import Idealize.ShloMosaic.PureOps.Ideal.Laws

@[expose] public section

noncomputable section

namespace Cert.MidRow

open Idealize.ShloMosaic

/-- The scaled residual with the mixer's output projection added. -/
def resid (x o : Fin 1024 → EReal) (w : Fin 1024 → Fin 1024 → EReal) (c : Fin 1024) : EReal :=
  Ideal.ofBits FTy.f32 0x3FD744FD#32 * x c + ∑ k, o k * w k c

/-- The mean of a row. -/
def mean (h : Fin 1024 → EReal) : EReal := Ideal.div (∑ x, h x) (Ideal.ofBits FTy.f32 0x44800000#32)

/-- A row less its mean. -/
def centred (h : Fin 1024 → EReal) (c : Fin 1024) : EReal := h c - mean h

/-- The layer norm of a row. -/
def norm (h g b : Fin 1024 → EReal) (c : Fin 1024) : EReal :=
  centred h c * Ideal.rsqrt (mean (fun x => centred h x * centred h x) + Ideal.ofBits FTy.f32 0x3727C5AC#32) * g c + b c

/-- The normalized row of the residual sum. -/
def row (x o : Fin 1024 → EReal) (w : Fin 1024 → Fin 1024 → EReal) (g b : Fin 1024 → EReal) : Fin 1024 → EReal := norm (resid x o w) g b

/-- The gated product of the shared expert. -/
def hidden (n : Fin 1024 → EReal) (w1 w3 : Fin 1024 → Fin 256 → EReal) (f : Fin 256) : EReal :=
  (∑ k, n k * w1 k f) * Ideal.div 1 (1 + Ideal.exp (0 - ∑ k, n k * w1 k f)) * ∑ k, n k * w3 k f

/-- The shared expert's row. -/
def shared (n : Fin 1024 → EReal) (w1 w3 : Fin 1024 → Fin 256 → EReal) (w2 : Fin 256 → Fin 1024 → EReal) (c : Fin 1024) : EReal :=
  ∑ f, hidden n w1 w3 f * w2 f c

/-- One of the row's logits. -/
def logit (n : Fin 1024 → EReal) (w : Fin 1024 → EReal) : EReal := ∑ k, n k * w k

end Cert.MidRow

namespace Cert.MidIdeal.Gen

open Idealize.ShloMosaic Idealize.ShloMosaic.TcCoe Idealize.SL.Sem Cert.MidRow

/-- A block read whole is the block. -/
theorem ld_whole {S : Shape} {e : EltTy} (X : Vec Ideal S e) (off : Fin S.rank → Nat) (inb) (h : ∀ a, off a = 0) :
    View.ld X (Rect.unit (s := S) off S.size inb) = X := by
  funext y
  refine congrArg X (funext fun a => Fin.ext ?_)
  refine (ValueKit.rect_emb_unit_val _ _ _ _ a).trans ?_
  rw [h a]; exact Nat.zero_add _

variable (x0 : Vec Ideal S512x1024 .bf16) (x1 : Vec Ideal S512x1024 .f32) (x2 : Vec Ideal S1024x1024 .bf16) (x3 x4 : Vec Ideal S1x1024 .f32)
  (x5 x6 : Vec Ideal S1024x256 .bf16) (x7 : Vec Ideal S256x1024 .bf16) (x8 : Vec Ideal S64x1024 .bf16)

theorem ld0 : View.ld x0 r0_0 = x0 := ld_whole x0 _ _ (by decide)
theorem ld1 : View.ld x1 r0_0 = x1 := ld_whole x1 _ _ (by decide)
theorem ld2 : View.ld x2 r0_1 = x2 := ld_whole x2 _ _ (by decide)
theorem ld3 : View.ld x3 r0_2 = x3 := ld_whole x3 _ _ (by decide)
theorem ld5 : View.ld x5 r0_3 = x5 := ld_whole x5 _ _ (by decide)
theorem ld7 : View.ld x7 r0_4 = x7 := ld_whole x7 _ _ (by decide)
theorem ld8 : View.ld x8 r0_5 = x8 := ld_whole x8 _ _ (by decide)

/-- The row the body normalizes, from its blocks. -/
def blockRow (r : Fin 512) : Fin 1024 → EReal :=
  row (fun c => x1 (ix2 r c)) (fun c => x0 (ix2 r c)) (fun k c => x2 (ix2 k c)) (fun c => x3 (ix2 0 c)) (fun c => x4 (ix2 0 c))

theorem pay3_at (r : Fin 512) (c : Fin 1024) : k0_pay3 (F := Ideal) x1 x0 x2 x3 x4 (ix2 r c) = blockRow x0 x1 x2 x3 x4 r c := by
  pointwise [k0_pay3]
  rfl

theorem pay4_at (r : Fin 512) (c : Fin 1024) : (k0_pay4 (F := Ideal) x1 x0 x2 x3 x4 (ix2 r c) : EReal) = blockRow x0 x1 x2 x3 x4 r c :=
  pay3_at x0 x1 x2 x3 x4 r c

theorem pay1_at (v : FVec Ideal S512x1024 .bf16) (n : Fin 1024 → EReal) (r : Fin 512) (hv : ∀ k, v (ix2 r k) = n k) (c : Fin 1024) :
    k0_pay1 (F := Ideal) v x5 x6 x7 (ix2 r c) = shared n (fun k f => x5 (ix2 k f)) (fun k f => x6 (ix2 k f)) (fun f c => x7 (ix2 f c)) c := by
  pointwise [k0_pay1]
  simp only [hv]
  rfl

theorem pay2_at (v : FVec Ideal S512x1024 .bf16) (n : Fin 1024 → EReal) (r : Fin 512) (hv : ∀ k, v (ix2 r k) = n k) (e : Fin 64) :
    k0_pay2 (F := Ideal) v x8 (ix2 e r) = logit n (fun k => x8 (ix2 e k)) := by
  pointwise [k0_pay2]
  simp only [hv]
  exact Finset.sum_congr rfl fun k _ => mul_comm _ _

theorem out9_at (r : Fin 512) (c : Fin 1024) : out0_9 (F := Ideal) x0 x1 x2 x3 x4 x5 x6 x7 x8 (ix2 r c) = blockRow x0 x1 x2 x3 x4 r c := by
  unfold_out out0_9
  rw [ld0, ld1, ld2, ld3, ld3, View.canon_cons_unit_lit']
  · exact pay3_at x0 x1 x2 x3 x4 r c
  · decide

theorem out10_at (r : Fin 512) (c : Fin 1024) : (out0_10 (F := Ideal) x0 x1 x2 x3 x4 x5 x6 x7 x8 (ix2 r c) : EReal) = blockRow x0 x1 x2 x3 x4 r c := by
  unfold_out out0_10
  rw [ld0, ld1, ld2, ld3, ld3, View.canon_cons_unit_lit']
  · exact pay4_at x0 x1 x2 x3 x4 r c
  · decide

theorem out11_at (r : Fin 512) (c : Fin 1024) : out0_11 (F := Ideal) x0 x1 x2 x3 x4 x5 x6 x7 x8 (ix2 r c)
      = shared (blockRow x0 x1 x2 x3 x4 r) (fun k f => x5 (ix2 k f)) (fun k f => x6 (ix2 k f)) (fun f c => x7 (ix2 f c)) c := by
  unfold_out out0_11
  rw [ld0, ld1, ld2, ld3, ld3, ld5, ld5, ld7, View.canon_cons_unit_lit']
  · exact pay1_at x5 x6 x7 _ _ r (pay4_at x0 x1 x2 x3 x4 r) c
  · decide

theorem out12_at (r : Fin 512) (e : Fin 64) : out0_12 (F := Ideal) x0 x1 x2 x3 x4 x5 x6 x7 x8 (ix2 e r)
      = logit (blockRow x0 x1 x2 x3 x4 r) (fun k => x8 (ix2 e k)) := by
  unfold_out out0_12
  rw [ld0, ld1, ld2, ld3, ld3, ld8, View.canon_cons_unit_lit']
  · exact pay2_at x8 _ _ r (pay4_at x0 x1 x2 x3 x4 r) e
  · decide

end Cert.MidIdeal.Gen

end
-- ==== Proof.MidRef.lean ====
/- The output projection, its layer norm, the shared expert and the router's logits: the reference's results at an index. -/
module

public import proofs.«01_k».proof.Proof.MidPay
public import proofs.«01_k».proof.Proof.Gen.MidReferenceIdeal.Read

@[expose] public section

noncomputable section

namespace Cert.MidReferenceIdeal.Read

open Cert.MidReferenceIdeal Cert.MidReferenceIdeal.Gen Idealize.ShloMosaic Idealize.ShloMosaic.TcCoe Idealize.SL.Sem Idealize.ShloMosaic.StableHlo
open Cert.MidRow

theorem zero_word : (FloatOps.ofBits (F := Ideal) .f32 0x00000000#32 : EReal) = 0 := Ideal.ofBits_zero_f32

variable (x0 : (⟨S65536x1024, .bf16⟩ : BufTy).Contents (Elt Ideal)) (x1 : (⟨S65536x1024, .f32⟩ : BufTy).Contents (Elt Ideal))
  (x2 : (⟨S1024x1024, .f32⟩ : BufTy).Contents (Elt Ideal)) (x3 x4 : (⟨S1024, .f32⟩ : BufTy).Contents (Elt Ideal))
  (x5 x6 : (⟨S1024x256, .f32⟩ : BufTy).Contents (Elt Ideal)) (x7 : (⟨S256x1024, .f32⟩ : BufTy).Contents (Elt Ideal))
  (x8 : (⟨S1024x64, .f32⟩ : BufTy).Contents (Elt Ideal))

theorem v3_at (p : Fin 65536) (c : Fin 1024) : val_main_v3 (F := Ideal) x0 x2 (ix2 p c) = ∑ k : Fin 1024, x0 (ix2 p k) * x2 (ix2 k c) := by
  rw [val_main_v3_apply]
  refine Finset.sum_congr rfl fun k _ => ?_
  rw [show lidx_main_v3 (ix2 p c) k = ix2 p k from funext fun a => by match a with | ⟨0, _⟩ => rfl | ⟨1, _⟩ => rfl, show ridx_main_v3 (ix2 p c) k = ix2 k c from funext fun a => by match a with | ⟨0, _⟩ => rfl | ⟨1, _⟩ => rfl]
  rfl

theorem v4_at (p : Fin 65536) (c : Fin 1024) : val_main_v4 (F := Ideal) x0 x1 x2 (ix2 p c) = (resid (fun c => x1 (ix2 p c)) (fun c => x0 (ix2 p c)) (fun k c => x2 (ix2 k c))) c := by
  rw [val_main_v4_apply, val_main_v1_apply, val_main_v0_apply, val_main_cst_apply, v3_at]
  rfl

theorem v8_at (p : Fin 65536) : val_main_v8 (F := Ideal) x0 x1 x2 (ix2 p (0 : Fin 1)) = mean (resid (fun c => x1 (ix2 p c)) (fun c => x0 (ix2 p c)) (fun k c => x2 (ix2 k c))) := by
  rw [val_main_v8_apply, val_main_v6_apply, val_main_v7_apply, val_main_cst_1_apply, val_main_v5_apply, val_main_cst_0_apply, zero_word, zero_add]
  have e : ∀ k, idx_main_v5 (idx_main_v6 (ix2 p (0 : Fin 1))) k = ix2 p k := fun k => funext fun a => by match a with | ⟨0, _⟩ => rfl | ⟨1, _⟩ => rfl
  simp only [e, v4_at]
  rfl

theorem v10_at (p : Fin 65536) (c : Fin 1024) : val_main_v10 (F := Ideal) x0 x1 x2 (ix2 p c) = centred (resid (fun c => x1 (ix2 p c)) (fun c => x0 (ix2 p c)) (fun k c => x2 (ix2 k c))) c := by
  rw [val_main_v10_apply, val_main_v9_apply, show idx_main_v9 (ix2 p c) = ix2 p (0 : Fin 1) from funext fun a => by match a with | ⟨0, _⟩ => rfl | ⟨1, _⟩ => rfl, v8_at, v4_at]
  rfl

theorem v17_at (p : Fin 65536) (c : Fin 1024) : val_main_v17 (F := Ideal) x0 x1 x2 (ix2 p c) = centred (resid (fun c => x1 (ix2 p c)) (fun c => x0 (ix2 p c)) (fun k c => x2 (ix2 k c))) c := by
  rw [val_main_v17_apply, val_main_v16_apply, show idx_main_v16 (ix2 p c) = ix2 p (0 : Fin 1) from funext fun a => by match a with | ⟨0, _⟩ => rfl | ⟨1, _⟩ => rfl, v8_at, v4_at]
  rfl

theorem v15_at (p : Fin 65536) : val_main_v15 (F := Ideal) x0 x1 x2 (ix2 p (0 : Fin 1)) = mean (fun x => centred (resid (fun c => x1 (ix2 p c)) (fun c => x0 (ix2 p c)) (fun k c => x2 (ix2 k c))) x * centred (resid (fun c => x1 (ix2 p c)) (fun c => x0 (ix2 p c)) (fun k c => x2 (ix2 k c))) x) := by
  rw [val_main_v15_apply, val_main_v13_apply, val_main_v14_apply, val_main_cst_3_apply, val_main_v12_apply, val_main_cst_2_apply, zero_word, zero_add]
  have e : ∀ k, idx_main_v12 (idx_main_v13 (ix2 p (0 : Fin 1))) k = ix2 p k := fun k => funext fun a => by match a with | ⟨0, _⟩ => rfl | ⟨1, _⟩ => rfl
  simp only [e, val_main_v11_apply, v10_at]
  rfl

/-- The normalized row. -/
theorem v28_at (p : Fin 65536) (c : Fin 1024) : val_main_v28 (F := Ideal) x0 x1 x2 x3 x4 (ix2 p c) = (row (fun c => x1 (ix2 p c)) (fun c => x0 (ix2 p c)) (fun k c => x2 (ix2 k c)) (fun c => x3 (ix1 c)) (fun c => x4 (ix1 c))) c := by
  rw [val_main_v28_apply, val_main_v25_apply, val_main_v22_apply, v17_at, val_main_v21_apply, show idx_main_v21 (ix2 p c) = ix2 p (0 : Fin 1) from funext fun a => by match a with | ⟨0, _⟩ => rfl | ⟨1, _⟩ => rfl,
    val_main_v20_apply, val_main_v19_apply, v15_at, val_main_v18_apply, val_main_cst_4_apply, val_main_v24_apply, val_main_v23_apply,
    show idx_main_v23 (idx_main_v24 (ix2 p c)) = ix1 c from funext fun a => by match a with | ⟨0, _⟩ => rfl, val_main_v27_apply, val_main_v26_apply,
    show idx_main_v26 (idx_main_v27 (ix2 p c)) = ix1 c from funext fun a => by match a with | ⟨0, _⟩ => rfl]
  rfl

theorem v35_at (p : Fin 65536) (c : Fin 1024) : (val_main_v35 (F := Ideal) x0 x1 x2 x3 x4 (ix2 p c) : EReal) = (row (fun c => x1 (ix2 p c)) (fun c => x0 (ix2 p c)) (fun k c => x2 (ix2 k c)) (fun c => x3 (ix1 c)) (fun c => x4 (ix1 c))) c := by
  rw [val_main_v35_apply, v28_at]
  rfl

theorem v29_at (p : Fin 65536) (f : Fin 256) : val_main_v29 (F := Ideal) x0 x1 x2 x3 x4 x5 (ix2 p f) = ∑ k, (row (fun c => x1 (ix2 p c)) (fun c => x0 (ix2 p c)) (fun k c => x2 (ix2 k c)) (fun c => x3 (ix1 c)) (fun c => x4 (ix1 c))) k * x5 (ix2 k f) := by
  rw [val_main_v29_apply]
  refine Finset.sum_congr rfl fun k _ => ?_
  rw [show lidx_main_v29 (ix2 p f) k = ix2 p k from funext fun a => by match a with | ⟨0, _⟩ => rfl | ⟨1, _⟩ => rfl, show ridx_main_v29 (ix2 p f) k = ix2 k f from funext fun a => by match a with | ⟨0, _⟩ => rfl | ⟨1, _⟩ => rfl, v28_at]

theorem v31_at (p : Fin 65536) (f : Fin 256) : val_main_v31 (F := Ideal) x0 x1 x2 x3 x4 x6 (ix2 p f) = ∑ k, (row (fun c => x1 (ix2 p c)) (fun c => x0 (ix2 p c)) (fun k c => x2 (ix2 k c)) (fun c => x3 (ix1 c)) (fun c => x4 (ix1 c))) k * x6 (ix2 k f) := by
  rw [val_main_v31_apply]
  refine Finset.sum_congr rfl fun k _ => ?_
  rw [show lidx_main_v31 (ix2 p f) k = ix2 p k from funext fun a => by match a with | ⟨0, _⟩ => rfl | ⟨1, _⟩ => rfl, show ridx_main_v31 (ix2 p f) k = ix2 k f from funext fun a => by match a with | ⟨0, _⟩ => rfl | ⟨1, _⟩ => rfl, v28_at]

theorem silu_scalar (a b : EReal) :
    (FloatOps.mulf (F := Ideal) (φ := .f32) (FloatOps.mulf (F := Ideal) (φ := .f32) a (FloatOps.hostDivf (F := Ideal) (φ := .f32) (FloatOps.ofBits .f32 0x3F800000#32)
      (FloatOps.addf (F := Ideal) (φ := .f32) (FloatOps.ofBits .f32 0x3F800000#32) (FloatOps.hostUnary (F := Ideal) (φ := .f32) .exp (FloatOps.hostNegf (F := Ideal) (φ := .f32) a))))) b : EReal)
      = a * Ideal.div 1 (1 + Ideal.exp (0 - a)) * b := by
  rw [zero_sub]
  have h1 : (FloatOps.ofBits (F := Ideal) .f32 0x3F800000#32 : EReal) = 1 := Ideal.ofBits_one_f32
  rw [h1]
  rfl

theorem v32_at (p : Fin 65536) (f : Fin 256) : val_main_v32 (F := Ideal) x0 x1 x2 x3 x4 x5 x6 (ix2 p f)
      = hidden (row (fun c => x1 (ix2 p c)) (fun c => x0 (ix2 p c)) (fun k c => x2 (ix2 k c)) (fun c => x3 (ix1 c)) (fun c => x4 (ix1 c))) (fun k f => x5 (ix2 k f)) (fun k f => x6 (ix2 k f)) f := by
  rw [val_main_v32_apply, v31_at, val_main_v30_apply, val_main_call0_v5_apply, val_main_call0_v4_apply, val_main_call0_cst_0_apply, val_main_call0_v3_apply,
    val_main_call0_v2_apply, val_main_call0_cst_apply, val_main_call0_v1_apply, val_main_call0_v0_apply, v29_at]
  exact silu_scalar _ _

/-- The shared expert's row. -/
theorem v33_at (p : Fin 65536) (c : Fin 1024) : val_main_v33 (F := Ideal) x0 x1 x2 x3 x4 x5 x6 x7 (ix2 p c)
      = shared (row (fun c => x1 (ix2 p c)) (fun c => x0 (ix2 p c)) (fun k c => x2 (ix2 k c)) (fun c => x3 (ix1 c)) (fun c => x4 (ix1 c))) (fun k f => x5 (ix2 k f)) (fun k f => x6 (ix2 k f)) (fun f c => x7 (ix2 f c)) c := by
  rw [val_main_v33_apply]
  refine Finset.sum_congr rfl fun k _ => ?_
  rw [show lidx_main_v33 (ix2 p c) k = ix2 p k from funext fun a => by match a with | ⟨0, _⟩ => rfl | ⟨1, _⟩ => rfl, show ridx_main_v33 (ix2 p c) k = ix2 k c from funext fun a => by match a with | ⟨0, _⟩ => rfl | ⟨1, _⟩ => rfl, v32_at]

/-- The logits, one row to an expert. -/
theorem v36_at (e : Fin 64) (p : Fin 65536) : val_main_v36 (F := Ideal) x0 x1 x2 x3 x4 x8 (ix2 e p) = logit (row (fun c => x1 (ix2 p c)) (fun c => x0 (ix2 p c)) (fun k c => x2 (ix2 k c)) (fun c => x3 (ix1 c)) (fun c => x4 (ix1 c))) (fun k => x8 (ix2 k e)) := by
  rw [val_main_v36_apply, show idx_main_v36 (ix2 e p) = ix2 p e from funext fun a => by match a with | ⟨0, _⟩ => rfl | ⟨1, _⟩ => rfl, val_main_v34_apply]
  refine Finset.sum_congr rfl fun k _ => ?_
  rw [show lidx_main_v34 (ix2 p e) k = ix2 p k from funext fun a => by match a with | ⟨0, _⟩ => rfl | ⟨1, _⟩ => rfl, show ridx_main_v34 (ix2 p e) k = ix2 k e from funext fun a => by match a with | ⟨0, _⟩ => rfl | ⟨1, _⟩ => rfl, v28_at]

end Cert.MidReferenceIdeal.Read

end
-- ==== Proof.MidRun.lean ====
/- The call's four result arrays are the reference's. -/
module

public import proofs.«01_k».proof.Proof.MidPay
public import proofs.«01_k».proof.Proof.MidRef

@[expose] public section

noncomputable section

namespace Cert.MidIdeal.Gen

open Idealize.ShloMosaic Idealize.ShloMosaic.TcCoe Idealize.SL.Sem Idealize.ShloMosaic.Tactic Cert.MidRow

variable (m : (ℓ : Loc nD τ sig) → Buf (Elt Ideal) ℓ) (ρ : Dev nD → PrngReg)

/-! ## The windows' blocks -/

theorem tr0 : ∀ t : Fin grid0.N, cc0_transform_0 (grid0.coords t) = ![t.val, 0] := by decide +kernel

theorem blk0 (c : Dev nD) (t : Fin grid0.N) (r : Fin 512) (k : Fin 1024) (p : Fin 65536) (h : p.val = t.val * 512 + r.val) :
    (iblk m c 0 t : S512x1024.Idx → EReal) (ix2 r k) = V m c main_arg0 (ix2 p k : S65536x1024.Idx) := by
  refine congrArg (V m c main_arg0) (funext fun a => Fin.ext ?_)
  refine (ValueKit.view_emb_slice_whole_unit_val main_arg0 _ _ _ _ a).trans ?_
  change cc0_transform_0 (grid0.coords t) a * S512x1024.size a + _ = _
  rw [tr0 t]
  match a with
  | ⟨0, _⟩ => show t.val * 512 + r.val = p.val; omega
  | ⟨1, _⟩ => show 0 * 1024 + k.val = k.val; omega

theorem tr1 : ∀ t : Fin grid0.N, cc0_transform_1 (grid0.coords t) = ![t.val, 0] := by decide +kernel

theorem blk1 (c : Dev nD) (t : Fin grid0.N) (r : Fin 512) (k : Fin 1024) (p : Fin 65536) (h : p.val = t.val * 512 + r.val) :
    (iblk m c 1 t : S512x1024.Idx → EReal) (ix2 r k) = V m c main_arg1 (ix2 p k : S65536x1024.Idx) := by
  refine congrArg (V m c main_arg1) (funext fun a => Fin.ext ?_)
  refine (ValueKit.view_emb_slice_whole_unit_val main_arg1 _ _ _ _ a).trans ?_
  change cc0_transform_1 (grid0.coords t) a * S512x1024.size a + _ = _
  rw [tr1 t]
  match a with
  | ⟨0, _⟩ => show t.val * 512 + r.val = p.val; omega
  | ⟨1, _⟩ => show 0 * 1024 + k.val = k.val; omega

theorem tr2 : ∀ t : Fin grid0.N, cc0_transform_2 (grid0.coords t) = ![0, 0] := by decide +kernel

theorem blk2 (c : Dev nD) (t : Fin grid0.N) (r : Fin 1024) (k : Fin 1024) :
    (iblk m c 2 t : S1024x1024.Idx → EReal) (ix2 r k) = V m c main_v0 (ix2 r k : S1024x1024.Idx) := by
  refine congrArg (V m c main_v0) (funext fun a => Fin.ext ?_)
  refine (ValueKit.view_emb_slice_whole_unit_val main_v0 _ _ _ _ a).trans ?_
  change cc0_transform_2 (grid0.coords t) a * S1024x1024.size a + _ = _
  rw [tr2 t]
  match a with
  | ⟨0, _⟩ => show 0 * 1024 + r.val = r.val; omega
  | ⟨1, _⟩ => show 0 * 1024 + k.val = k.val; omega

theorem tr3 : ∀ t : Fin grid0.N, cc0_transform_3 (grid0.coords t) = ![0, 0] := by decide +kernel

theorem blk3 (c : Dev nD) (t : Fin grid0.N) (r : Fin 1) (k : Fin 1024) :
    (iblk m c 3 t : S1x1024.Idx → EReal) (ix2 r k) = V m c main_v1 (ix2 r k : S1x1024.Idx) := by
  refine congrArg (V m c main_v1) (funext fun a => Fin.ext ?_)
  refine (ValueKit.view_emb_slice_whole_unit_val main_v1 _ _ _ _ a).trans ?_
  change cc0_transform_3 (grid0.coords t) a * S1x1024.size a + _ = _
  rw [tr3 t]
  match a with
  | ⟨0, _⟩ => show 0 * 1 + r.val = r.val; omega
  | ⟨1, _⟩ => show 0 * 1024 + k.val = k.val; omega

theorem tr4 : ∀ t : Fin grid0.N, cc0_transform_4 (grid0.coords t) = ![0, 0] := by decide +kernel

theorem blk4 (c : Dev nD) (t : Fin grid0.N) (r : Fin 1) (k : Fin 1024) :
    (iblk m c 4 t : S1x1024.Idx → EReal) (ix2 r k) = V m c main_v2 (ix2 r k : S1x1024.Idx) := by
  refine congrArg (V m c main_v2) (funext fun a => Fin.ext ?_)
  refine (ValueKit.view_emb_slice_whole_unit_val main_v2 _ _ _ _ a).trans ?_
  change cc0_transform_4 (grid0.coords t) a * S1x1024.size a + _ = _
  rw [tr4 t]
  match a with
  | ⟨0, _⟩ => show 0 * 1 + r.val = r.val; omega
  | ⟨1, _⟩ => show 0 * 1024 + k.val = k.val; omega

theorem tr5 : ∀ t : Fin grid0.N, cc0_transform_5 (grid0.coords t) = ![0, 0] := by decide +kernel

theorem blk5 (c : Dev nD) (t : Fin grid0.N) (r : Fin 1024) (k : Fin 256) :
    (iblk m c 5 t : S1024x256.Idx → EReal) (ix2 r k) = V m c main_v3 (ix2 r k : S1024x256.Idx) := by
  refine congrArg (V m c main_v3) (funext fun a => Fin.ext ?_)
  refine (ValueKit.view_emb_slice_whole_unit_val main_v3 _ _ _ _ a).trans ?_
  change cc0_transform_5 (grid0.coords t) a * S1024x256.size a + _ = _
  rw [tr5 t]
  match a with
  | ⟨0, _⟩ => show 0 * 1024 + r.val = r.val; omega
  | ⟨1, _⟩ => show 0 * 256 + k.val = k.val; omega

theorem tr6 : ∀ t : Fin grid0.N, cc0_transform_6 (grid0.coords t) = ![0, 0] := by decide +kernel

theorem blk6 (c : Dev nD) (t : Fin grid0.N) (r : Fin 1024) (k : Fin 256) :
    (iblk m c 6 t : S1024x256.Idx → EReal) (ix2 r k) = V m c main_v4 (ix2 r k : S1024x256.Idx) := by
  refine congrArg (V m c main_v4) (funext fun a => Fin.ext ?_)
  refine (ValueKit.view_emb_slice_whole_unit_val main_v4 _ _ _ _ a).trans ?_
  change cc0_transform_6 (grid0.coords t) a * S1024x256.size a + _ = _
  rw [tr6 t]
  match a with
  | ⟨0, _⟩ => show 0 * 1024 + r.val = r.val; omega
  | ⟨1, _⟩ => show 0 * 256 + k.val = k.val; omega

theorem tr7 : ∀ t : Fin grid0.N, cc0_transform_7 (grid0.coords t) = ![0, 0] := by decide +kernel

theorem blk7 (c : Dev nD) (t : Fin grid0.N) (r : Fin 256) (k : Fin 1024) :
    (iblk m c 7 t : S256x1024.Idx → EReal) (ix2 r k) = V m c main_v5 (ix2 r k : S256x1024.Idx) := by
  refine congrArg (V m c main_v5) (funext fun a => Fin.ext ?_)
  refine (ValueKit.view_emb_slice_whole_unit_val main_v5 _ _ _ _ a).trans ?_
  change cc0_transform_7 (grid0.coords t) a * S256x1024.size a + _ = _
  rw [tr7 t]
  match a with
  | ⟨0, _⟩ => show 0 * 256 + r.val = r.val; omega
  | ⟨1, _⟩ => show 0 * 1024 + k.val = k.val; omega

theorem tr8 : ∀ t : Fin grid0.N, cc0_transform_8 (grid0.coords t) = ![0, 0] := by decide +kernel

theorem blk8 (c : Dev nD) (t : Fin grid0.N) (r : Fin 64) (k : Fin 1024) :
    (iblk m c 8 t : S64x1024.Idx → EReal) (ix2 r k) = V m c main_v7 (ix2 r k : S64x1024.Idx) := by
  refine congrArg (V m c main_v7) (funext fun a => Fin.ext ?_)
  refine (ValueKit.view_emb_slice_whole_unit_val main_v7 _ _ _ _ a).trans ?_
  change cc0_transform_8 (grid0.coords t) a * S64x1024.size a + _ = _
  rw [tr8 t]
  match a with
  | ⟨0, _⟩ => show 0 * 64 + r.val = r.val; omega
  | ⟨1, _⟩ => show 0 * 1024 + k.val = k.val; omega

theorem tr9 : ∀ t : Fin grid0.N, cc0_transform_9 (grid0.coords t) = ![t.val, 0] := by decide +kernel

theorem emb9 (t : Fin grid0.N) (r : Fin 512) (k : Fin 1024) (p : Fin 65536) (h : p.val = t.val * 512 + r.val) :
    ((cfg0.win 9).blk t).view.emb (ix2 r k : S512x1024.Idx) = (ix2 p k : S65536x1024.Idx) := by
  refine funext fun a => Fin.ext ?_
  refine (ValueKit.view_emb_slice_whole_unit_val main_v8_0 _ _ _ _ a).trans ?_
  change cc0_transform_9 (grid0.coords t) a * S512x1024.size a + _ = _
  rw [tr9 t]
  match a with
  | ⟨0, _⟩ => show t.val * 512 + r.val = p.val; omega
  | ⟨1, _⟩ => show 0 * 1024 + k.val = k.val; omega

theorem tr10 : ∀ t : Fin grid0.N, cc0_transform_10 (grid0.coords t) = ![t.val, 0] := by decide +kernel

theorem emb10 (t : Fin grid0.N) (r : Fin 512) (k : Fin 1024) (p : Fin 65536) (h : p.val = t.val * 512 + r.val) :
    ((cfg0.win 10).blk t).view.emb (ix2 r k : S512x1024.Idx) = (ix2 p k : S65536x1024.Idx) := by
  refine funext fun a => Fin.ext ?_
  refine (ValueKit.view_emb_slice_whole_unit_val main_v8_1 _ _ _ _ a).trans ?_
  change cc0_transform_10 (grid0.coords t) a * S512x1024.size a + _ = _
  rw [tr10 t]
  match a with
  | ⟨0, _⟩ => show t.val * 512 + r.val = p.val; omega
  | ⟨1, _⟩ => show 0 * 1024 + k.val = k.val; omega

theorem tr11 : ∀ t : Fin grid0.N, cc0_transform_11 (grid0.coords t) = ![t.val, 0] := by decide +kernel

theorem emb11 (t : Fin grid0.N) (r : Fin 512) (k : Fin 1024) (p : Fin 65536) (h : p.val = t.val * 512 + r.val) :
    ((cfg0.win 11).blk t).view.emb (ix2 r k : S512x1024.Idx) = (ix2 p k : S65536x1024.Idx) := by
  refine funext fun a => Fin.ext ?_
  refine (ValueKit.view_emb_slice_whole_unit_val main_v8_2 _ _ _ _ a).trans ?_
  change cc0_transform_11 (grid0.coords t) a * S512x1024.size a + _ = _
  rw [tr11 t]
  match a with
  | ⟨0, _⟩ => show t.val * 512 + r.val = p.val; omega
  | ⟨1, _⟩ => show 0 * 1024 + k.val = k.val; omega

theorem tr12 : ∀ t : Fin grid0.N, cc0_transform_12 (grid0.coords t) = ![0, t.val] := by decide +kernel

theorem emb12 (t : Fin grid0.N) (e : Fin 64) (r : Fin 512) (p : Fin 65536) (h : p.val = t.val * 512 + r.val) :
    ((cfg0.win 12).blk t).view.emb (ix2 e r : S64x512.Idx) = (ix2 e p : S64x65536.Idx) := by
  refine funext fun a => Fin.ext ?_
  refine (ValueKit.view_emb_slice_whole_unit_val main_v8_3 _ _ _ _ a).trans ?_
  change cc0_transform_12 (grid0.coords t) a * S64x512.size a + _ = _
  rw [tr12 t]
  match a with
  | ⟨0, _⟩ => show 0 * 64 + e.val = e.val; omega
  | ⟨1, _⟩ => show t.val * 512 + r.val = p.val; omega

/-! ## What the call finds -/

theorem in0 (c : Dev nD) : (V m c main_v0 : S1024x1024.Idx → EReal) = (m ((c : Thread nD τ).loc main_arg2)) := by
  dsimp only [V, hostOps0]; after_results; rfl
theorem in1 (c : Dev nD) (k : Fin 1024) : (V m c main_v1 : S1x1024.Idx → EReal) (ix2 0 k) = (m ((c : Thread nD τ).loc main_arg3)) (ix1 k : S1024.Idx) := by
  dsimp only [V, hostOps0]; after_results
  pointwise
theorem in2 (c : Dev nD) (k : Fin 1024) : (V m c main_v2 : S1x1024.Idx → EReal) (ix2 0 k) = (m ((c : Thread nD τ).loc main_arg4)) (ix1 k : S1024.Idx) := by
  dsimp only [V, hostOps0]; after_results
  pointwise
theorem in3 (c : Dev nD) : (V m c main_v3 : S1024x256.Idx → EReal) = (m ((c : Thread nD τ).loc main_arg5)) := by
  dsimp only [V, hostOps0]; after_results; rfl
theorem in4 (c : Dev nD) : (V m c main_v4 : S1024x256.Idx → EReal) = (m ((c : Thread nD τ).loc main_arg6)) := by
  dsimp only [V, hostOps0]; after_results; rfl
theorem in5 (c : Dev nD) : (V m c main_v5 : S256x1024.Idx → EReal) = (m ((c : Thread nD τ).loc main_arg7)) := by
  dsimp only [V, hostOps0]; after_results; rfl
theorem in7 (c : Dev nD) (e : Fin 64) (k : Fin 1024) : (V m c main_v7 : S64x1024.Idx → EReal) (ix2 e k) = (m ((c : Thread nD τ).loc main_arg8)) (ix2 k e : S1024x64.Idx) := by
  dsimp only [V, hostOps0]; after_results
  pointwise

/-- The row of a token, from the arguments. -/
def tokenRow (c : Dev nD) (p : Fin 65536) : Fin 1024 → EReal :=
  row (fun k => (m ((c : Thread nD τ).loc main_arg1)) (ix2 p k : S65536x1024.Idx)) (fun k => (m ((c : Thread nD τ).loc main_arg0)) (ix2 p k : S65536x1024.Idx))
    (fun k q => (m ((c : Thread nD τ).loc main_arg2)) (ix2 k q : S1024x1024.Idx)) (fun k => (m ((c : Thread nD τ).loc main_arg3)) (ix1 k : S1024.Idx)) (fun k => (m ((c : Thread nD τ).loc main_arg4)) (ix1 k : S1024.Idx))

theorem row_congr {x x' o o' : Fin 1024 → EReal} {w w' : Fin 1024 → Fin 1024 → EReal} {g g' b b' : Fin 1024 → EReal} (hx : ∀ k, x k = x' k)
    (ho : ∀ k, o k = o' k) (hw : ∀ k q, w k q = w' k q) (hg : ∀ k, g k = g' k) (hb : ∀ k, b k = b' k) : row x o w g b = row x' o' w' g' b' := by
  obtain rfl := funext hx; obtain rfl := funext ho; obtain rfl := funext fun k => funext (hw k); obtain rfl := funext hg; obtain rfl := funext hb; rfl

theorem blockRow_at (c : Dev nD) (t : Fin grid0.N) (r : Fin 512) (p : Fin 65536) (h : p.val = t.val * 512 + r.val) :
    blockRow (iblk m c 0 t) (iblk m c 1 t) (iblk m c 2 t) (iblk m c 3 t) (iblk m c 4 t) r = tokenRow m c p :=
  row_congr (fun k => (blk1 m c t r k p h).trans (congrFun (V_main_arg1 m c) _)) (fun k => (blk0 m c t r k p h).trans (congrFun (V_main_arg0 m c) _))
    (fun k q => (blk2 m c t k q).trans (congrFun (in0 m c) _)) (fun k => (blk3 m c t 0 k).trans (in1 m c k)) (fun k => (blk4 m c t 0 k).trans (in2 m c k))

/-! ## The results -/

abbrev out9 (c : Dev nD) : S65536x1024.Idx → EReal := Cert.MidReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev out10 (c : Dev nD) : S65536x1024.Idx → EReal := Cert.MidReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev out11 (c : Dev nD) : S65536x1024.Idx → EReal := Cert.MidReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
abbrev out12 (c : Dev nD) : S64x65536.Idx → EReal := Cert.MidReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8))

theorem covers9 : (cfg0.win 9).Covers := by decide +kernel

theorem final9 (c : Dev nD) : ((dats m 0 c).arrAt 9 cfg0.N : S65536x1024.Idx → EReal) = out9 m c := by
  refine (dats m 0 c).arrAt_eq_of_covers 9 _ covers9 (fun t hf y => ?_)
  blk_simp
  rw [after0_9]
  have ht : t.val < 128 := t.isLt
  obtain ⟨r, q, rfl⟩ : ∃ (r : Fin 512) (q : Fin 1024), y = ix2 r q :=
    ⟨y (0 : Fin 2), y (1 : Fin 2), funext fun a => by match a with | ⟨0, _⟩ => rfl | ⟨1, _⟩ => rfl⟩
  have hr := r.isLt
  have hp : t.val * 512 + r.val < 65536 := by omega
  rw [emb9 t r q ⟨_, hp⟩ rfl]
  refine (out9_at _ _ _ _ _ _ _ _ _ r q).trans (Eq.trans ?_ (Cert.MidReferenceIdeal.Read.v28_at _ _ _ _ _ ⟨_, hp⟩ q).symm)
  exact congrFun (blockRow_at m c t r ⟨_, hp⟩ rfl) q

theorem covers10 : (cfg0.win 10).Covers := by decide +kernel

theorem final10 (c : Dev nD) : ((dats m 0 c).arrAt 10 cfg0.N : S65536x1024.Idx → EReal) = out10 m c := by
  refine (dats m 0 c).arrAt_eq_of_covers 10 _ covers10 (fun t hf y => ?_)
  blk_simp
  rw [after0_10]
  have ht : t.val < 128 := t.isLt
  obtain ⟨r, q, rfl⟩ : ∃ (r : Fin 512) (q : Fin 1024), y = ix2 r q :=
    ⟨y (0 : Fin 2), y (1 : Fin 2), funext fun a => by match a with | ⟨0, _⟩ => rfl | ⟨1, _⟩ => rfl⟩
  have hr := r.isLt
  have hp : t.val * 512 + r.val < 65536 := by omega
  rw [emb10 t r q ⟨_, hp⟩ rfl]
  refine (out10_at _ _ _ _ _ _ _ _ _ r q).trans (Eq.trans ?_ (Cert.MidReferenceIdeal.Read.v35_at _ _ _ _ _ ⟨_, hp⟩ q).symm)
  exact congrFun (blockRow_at m c t r ⟨_, hp⟩ rfl) q

theorem shared_congr {n n' : Fin 1024 → EReal} {w1 w1' w3 w3' : Fin 1024 → Fin 256 → EReal} {w2 w2' : Fin 256 → Fin 1024 → EReal} (c : Fin 1024) (hn : n = n')
    (h1 : ∀ k f, w1 k f = w1' k f) (h3 : ∀ k f, w3 k f = w3' k f) (h2 : ∀ k f, w2 k f = w2' k f) : shared n w1 w3 w2 c = shared n' w1' w3' w2' c := by
  obtain rfl := hn; obtain rfl := funext fun k => funext (h1 k); obtain rfl := funext fun k => funext (h3 k); obtain rfl := funext fun k => funext (h2 k); rfl

theorem logit_congr {n n' w w' : Fin 1024 → EReal} (hn : n = n') (h : ∀ k, w k = w' k) : logit n w = logit n' w' := by
  obtain rfl := hn; obtain rfl := funext h; rfl

theorem covers11 : (cfg0.win 11).Covers := by decide +kernel

theorem final11 (c : Dev nD) : ((dats m 0 c).arrAt 11 cfg0.N : S65536x1024.Idx → EReal) = out11 m c := by
  refine (dats m 0 c).arrAt_eq_of_covers 11 _ covers11 (fun t hf y => ?_)
  blk_simp
  rw [after0_11]
  have ht : t.val < 128 := t.isLt
  obtain ⟨r, q, rfl⟩ : ∃ (r : Fin 512) (q : Fin 1024), y = ix2 r q :=
    ⟨y (0 : Fin 2), y (1 : Fin 2), funext fun a => by match a with | ⟨0, _⟩ => rfl | ⟨1, _⟩ => rfl⟩
  have hr := r.isLt
  have hp : t.val * 512 + r.val < 65536 := by omega
  rw [emb11 t r q ⟨_, hp⟩ rfl]
  refine (out11_at _ _ _ _ _ _ _ _ _ r q).trans (Eq.trans ?_ (Cert.MidReferenceIdeal.Read.v33_at _ _ _ _ _ _ _ _ ⟨_, hp⟩ q).symm)
  exact shared_congr q (blockRow_at m c t r ⟨_, hp⟩ rfl) (fun k f => (blk5 m c t k f).trans (congrFun (in3 m c) _))
    (fun k f => (blk6 m c t k f).trans (congrFun (in4 m c) _)) (fun k f => (blk7 m c t k f).trans (congrFun (in5 m c) _))

theorem covers12 : (cfg0.win 12).Covers := by decide +kernel

theorem final12 (c : Dev nD) : ((dats m 0 c).arrAt 12 cfg0.N : S64x65536.Idx → EReal) = out12 m c := by
  refine (dats m 0 c).arrAt_eq_of_covers 12 _ covers12 (fun t hf y => ?_)
  blk_simp
  rw [after0_12]
  have ht : t.val < 128 := t.isLt
  obtain ⟨q, r, rfl⟩ : ∃ (q : Fin 64) (r : Fin 512), y = ix2 q r :=
    ⟨y (0 : Fin 2), y (1 : Fin 2), funext fun a => by match a with | ⟨0, _⟩ => rfl | ⟨1, _⟩ => rfl⟩
  have hr := r.isLt
  have hp : t.val * 512 + r.val < 65536 := by omega
  rw [emb12 t q r ⟨_, hp⟩ rfl]
  refine (out12_at _ _ _ _ _ _ _ _ _ r q).trans (Eq.trans ?_ (Cert.MidReferenceIdeal.Read.v36_at _ _ _ _ _ _ q ⟨_, hp⟩).symm)
  exact logit_congr (blockRow_at m c t r ⟨_, hp⟩ rfl) (fun k => (blk8 m c t q k).trans (in7 m c q k))

/-- The run leaves the reference's four results. -/
theorem run_out : θ_run defs (onTc (τ := τ) (main (F := Ideal))) ⟨m, fun _ => 0, ρ⟩ (fun r => ∀ c : Dev nD,
      r.2.mem ((c.tc : Thread nD τ).loc main_v8_0) = out9 m c
      ∧ r.2.mem ((c.tc : Thread nD τ).loc main_v8_1) = out10 m c
      ∧ r.2.mem ((c.tc : Thread nD τ).loc main_v8_2) = out11 m c
      ∧ r.2.mem ((c.tc : Thread nD τ).loc main_v8_3) = out12 m c) :=
  (θ_run defs _ _).mono (fun r h c => ⟨(h c).1.trans (final9 m c), (h c).2.1.trans (final10 m c), (h c).2.2.1.trans (final11 m c), (h c).2.2.2.1.trans (final12 m c)⟩)
    (Cert.MidIdeal.Value.run_blocks m ρ)

end Cert.MidIdeal.Gen

end
-- ==== Proof.OddProjRun.lean ====
/- The odd layers' projection: the padded product, and the columns the host keeps of it. -/
module

public import proofs.«01_k».proof.Proof.Gen.OddProjIdeal.Frame
public import proofs.«01_k».proof.Proof.Gen.OddProjReferenceIdeal.Read
public import Idealize.ShloMosaic.Lib.Pointwise
public import Idealize.ShloMosaic.Lib.KernelVsHost
public import Idealize.ShloMosaic.Lib.Claim
public import Idealize.ShloMosaic.Lib.Pipeline.ValueKit
public import Idealize.ShloMosaic.PureOps.Ideal.Laws

@[expose] public section

noncomputable section

namespace Cert.OddProjIdeal.Gen

open Idealize.ShloMosaic Idealize.ShloMosaic.TcCoe Idealize.SL.Sem Idealize.ShloMosaic.Tactic

/-- A block read whole is the block. -/
theorem ld_whole {S : Shape} {e : EltTy} (X : Vec Ideal S e) (off : Fin S.rank → Nat) (inb) (h : ∀ a, off a = 0) :
    View.ld X (Rect.unit (s := S) off S.size inb) = X := by
  funext y
  refine congrArg X (funext fun a => Fin.ext ?_)
  refine (ValueKit.rect_emb_unit_val _ _ _ _ a).trans ?_
  rw [h a]; exact Nat.zero_add _

/-- What the body leaves of its blocks. -/
theorem out2_at (x0 : Vec Ideal S512x1024 .f32) (x1 : Vec Ideal S1024x3200 .bf16) (r : Fin 512) (q : Fin 3200) :
    out0_2 x0 x1 (ix2 r q) = ∑ k : Fin 1024, x0 (ix2 r k) * x1 (ix2 k q) := by
  unfold out0_2
  rw [show View.ld x0 r0_0 = x0 from ld_whole x0 _ _ (by decide), show View.ld x1 r0_1 = x1 from ld_whole x1 _ _ (by decide), View.canon_cons_unit_lit']
  · pointwise [k0_pay1]
  · decide

variable (m : (ℓ : Loc nD τ sig) → Buf (Elt Ideal) ℓ) (ρ : Dev nD → PrngReg)

theorem tr0 : ∀ t : Fin grid0.N, cc0_transform_0 (grid0.coords t) = ![t.val, 0] := by decide +kernel

theorem blk0 (c : Dev nD) (t : Fin grid0.N) (r : Fin 512) (k : Fin 1024) (p : Fin 65536) (h : p.val = t.val * 512 + r.val) :
    (iblk m c 0 t : S512x1024.Idx → EReal) (ix2 r k) = V m c main_arg0 (ix2 p k : S65536x1024.Idx) := by
  refine congrArg (V m c main_arg0) (funext fun a => Fin.ext ?_)
  refine (ValueKit.view_emb_slice_whole_unit_val main_arg0 _ _ _ _ a).trans ?_
  change cc0_transform_0 (grid0.coords t) a * S512x1024.size a + _ = _
  rw [tr0 t]
  match a with
  | ⟨0, _⟩ => show t.val * 512 + r.val = p.val; omega
  | ⟨1, _⟩ => show 0 * 1024 + k.val = k.val; omega

theorem tr1 : ∀ t : Fin grid0.N, cc0_transform_1 (grid0.coords t) = ![0, 0] := by decide +kernel

theorem blk1 (c : Dev nD) (t : Fin grid0.N) (k : Fin 1024) (q : Fin 3200) :
    (iblk m c 1 t : S1024x3200.Idx → EReal) (ix2 k q) = V m c main_v1 (ix2 k q : S1024x3200.Idx) := by
  refine congrArg (V m c main_v1) (funext fun a => Fin.ext ?_)
  refine (ValueKit.view_emb_slice_whole_unit_val main_v1 _ _ _ _ a).trans ?_
  change cc0_transform_1 (grid0.coords t) a * S1024x3200.size a + _ = _
  rw [tr1 t]
  match a with
  | ⟨0, _⟩ => show 0 * 1024 + k.val = k.val; omega
  | ⟨1, _⟩ => show 0 * 3200 + q.val = q.val; omega

theorem tr2 : ∀ t : Fin grid0.N, cc0_transform_2 (grid0.coords t) = ![t.val, 0] := by decide +kernel

theorem emb2 (t : Fin grid0.N) (r : Fin 512) (q : Fin 3200) (p : Fin 65536) (h : p.val = t.val * 512 + r.val) :
    ((cfg0.win 2).blk t).view.emb (ix2 r q : S512x3200.Idx) = (ix2 p q : S65536x3200.Idx) := by
  refine funext fun a => Fin.ext ?_
  refine (ValueKit.view_emb_slice_whole_unit_val main_v2 _ _ _ _ a).trans ?_
  change cc0_transform_2 (grid0.coords t) a * S512x3200.size a + _ = _
  rw [tr2 t]
  match a with
  | ⟨0, _⟩ => show t.val * 512 + r.val = p.val; omega
  | ⟨1, _⟩ => show 0 * 3200 + q.val = q.val; omega

theorem in0 (c : Dev nD) : V m c main_arg0 = m ((c : Thread nD τ).loc main_arg0) := V_main_arg0 m c

/-- The padded weights hold the weights in their first columns. -/
theorem in1 (c : Dev nD) (k : Fin 1024) (q : Fin 3088) (q' : Fin 3200) (h : q'.val = q.val) :
    (V m c main_v1 : S1024x3200.Idx → EReal) (ix2 k q') = (m ((c : Thread nD τ).loc main_arg1) : S1024x3088.Idx → EReal) (ix2 k q) := by
  have e : (V m c main_v1 : S1024x3200.Idx → EReal) = pad S1024x3200 ![0, 0] ![0, 112] ![0, 0] (m ((c : Thread nD τ).loc main_arg1) : S1024x3088.Idx → EReal)
      (sitofp (F := Ideal) .f32 (constantI S_ 32 0#32)) pads_S1024x3088_S1024x3200_000_01120 h_S_ := by
    unfold V V0
    simp only [hostOps0, hostOps0_1, hostOps0_2, List.flatten_cons, List.flatten_nil, List.append_nil, List.cons_append, List.nil_append]
    after_results
    rfl
  rw [e]
  refine pad_apply_of_inside _ _ _ _ _ _ _ _ (ix2 k q : S1024x3088.Idx) (fun a => ?_)
  match a with
  | ⟨0, _⟩ => show k.val = 0 + k.val * (0 + 1); omega
  | ⟨1, _⟩ => show q'.val = 0 + q.val * (0 + 1); omega

/-- The call's result array: the product with the padded weights. -/
def prod (c : Dev nD) (i : S65536x3200.Idx) : EReal :=
  ∑ k : Fin 1024, HMul.hMul (α := EReal) (β := EReal) ((V m c main_arg0 : S65536x1024.Idx → EReal) (ix2 (i 0) k)) ((V m c main_v1 : S1024x3200.Idx → EReal) (ix2 k (i 1)))

theorem covers2 : (cfg0.win 2).Covers := by decide +kernel

theorem final2 (c : Dev nD) : ((dats m 0 c).arrAt 2 cfg0.N : S65536x3200.Idx → EReal) = prod m c := by
  refine (dats m 0 c).arrAt_eq_of_covers 2 _ covers2 (fun t hf y => ?_)
  blk_simp
  rw [after0_2]
  have ht : t.val < 128 := t.isLt
  obtain ⟨r, q, rfl⟩ : ∃ (r : Fin 512) (q : Fin 3200), y = ix2 r q :=
    ⟨y (0 : Fin 2), y (1 : Fin 2), funext fun a => by match a with | ⟨0, _⟩ => rfl | ⟨1, _⟩ => rfl⟩
  have hr := r.isLt
  have hp : t.val * 512 + r.val < 65536 := by omega
  rw [emb2 t r q ⟨_, hp⟩ rfl]
  refine (out2_at _ _ r q).trans (Finset.sum_congr rfl fun k _ => ?_)
  exact congrArg₂ (· * ·) (blk0 m c t r k ⟨_, hp⟩ rfl) (blk1 m c t k q)

/-- The result: the reference's product. -/
abbrev out (c : Dev nD) : (⟨S65536x3088, .f32⟩ : BufTy).Contents (Elt Ideal) :=
  Cert.OddProjReferenceIdeal.Read.val_main_v0 (F := Ideal) (m ((c : Thread nD τ).loc main_arg0)) (m ((c : Thread nD τ).loc main_arg1))

theorem tail_eq (c : Dev nD) :
    Pipeline.afterTail₀ cfgs (dats m) 0 (V0 m) [hostOps1] c main_v3
      = extractStridedSlice S65536x3088 ![0, 0] ((dats m 0 c).arrAt 2 cfg0.N : S65536x3200.Idx → EReal) slices_S65536x3200_S65536x3088_0_0 := by
  unfold Pipeline.afterTail₀
  simp only [hostOps1, List.flatten_cons, List.flatten_nil, List.append_nil]
  after_results
  exact congrArg (fun X : S65536x3200.Idx → EReal => extractStridedSlice S65536x3088 ![0, 0] X slices_S65536x3200_S65536x3088_0_0)
    (Pipeline.withArrays_arr spec0 (by decide) c (V0 m c) _ 2)

theorem result (c : Dev nD) : (Pipeline.afterTail₀ cfgs (dats m) 0 (V0 m) [hostOps1] c main_v3 : S65536x3088.Idx → EReal) = out m c := by
  rw [tail_eq, final2]
  funext i
  have hi : (i 1).val < 3088 := (i 1).isLt
  have e : extractStridedSlice S65536x3088 ![0, 0] (prod m c) slices_S65536x3200_S65536x3088_0_0 i = prod m c (ix2 (i 0) ⟨(i 1).val, by omega⟩ : S65536x3200.Idx) :=
    extractStridedSlice_apply _ _ _ i _ (fun a => by
      match a with
      | ⟨0, _⟩ => show (i 0).val = 0 + (i 0).val; omega
      | ⟨1, _⟩ => show (i 1).val = 0 + (i 1).val; omega)
  refine e.trans (Eq.trans ?_ (Cert.OddProjReferenceIdeal.Read.val_main_v0_apply _ _ i).symm)
  unfold prod
  refine Finset.sum_congr rfl fun k _ => congrArg₂ (· * ·) ?_ ?_
  · rw [in0]
    refine congrArg _ (funext fun a => ?_)
    match a with
    | ⟨0, _⟩ => rfl
    | ⟨1, _⟩ => rfl
  · refine (in1 m c k ⟨(i 1).val, hi⟩ _ rfl).trans (congrArg _ (funext fun a => ?_))
    match a with
    | ⟨0, _⟩ => rfl
    | ⟨1, _⟩ => rfl

/-- The run leaves the reference's product. -/
theorem run_out : θ_run defs (onTc (τ := τ) (main (F := Ideal))) ⟨m, fun _ => 0, ρ⟩ (fun r => ∀ c : Dev nD,
      r.2.mem ((c.tc : Thread nD τ).loc main_v3) = out m c) :=
  (θ_run defs _ _).mono (fun r h c => ((h c).2 main_v3 (Pipeline.mem_restRefs_of main_v3 (by decide) (by decide))).trans (result m c))
    (run_main m ρ)

end Cert.OddProjIdeal.Gen

end
-- ==== Proof.EvenProjPay.lean ====
/- The even layers' projection: the rotated heads of one row, and the body's blocks as those. -/
module

public import proofs.«01_k».proof.Proof.Gen.EvenProjIdeal.Frame
public import Idealize.ShloMosaic.Lib.Pointwise
public import Idealize.ShloMosaic.Lib.KernelVsHost
public import Idealize.ShloMosaic.Lib.Pipeline.ValueKit
public import Idealize.ShloMosaic.PureOps.Ideal.Laws

@[expose] public section

noncomputable section

namespace Cert.EvenProjRow

open Idealize.ShloMosaic

/-- The column a head's column is rotated with: 32 further in the head's first half, 32 before in its second. -/
def mate (q : Fin 512) : Fin 512 := if h : q.val % 64 < 32 then ⟨q.val + 32, by omega⟩ else ⟨q.val - 32, by omega⟩

/-- A column's place in the tables of 128 columns. -/
def lane (q : Fin 512) : Fin 128 := ⟨q.val % 128, Nat.mod_lt _ (by decide)⟩

/-- A row's rotated column, from a table of cosines and one of signed sines. -/
def turned (h : Fin 512 → EReal) (c s : Fin 128 → EReal) (q : Fin 512) : EReal := h q * c (lane q) + h (mate q) * s (lane q)

/-- A row of a product. -/
def prod {n : Nat} (x : Fin 1024 → EReal) (w : Fin 1024 → Fin n → EReal) (q : Fin n) : EReal := ∑ k, x k * w k q

end Cert.EvenProjRow

namespace Cert.EvenProjIdeal.Gen

open Idealize.ShloMosaic Idealize.ShloMosaic.TcCoe Idealize.SL.Sem Cert.EvenProjRow

/-- A block read whole is the block. -/
theorem ld_whole {S : Shape} {e : EltTy} (X : Vec Ideal S e) (off : Fin S.rank → Nat) (inb) (h : ∀ a, off a = 0) :
    View.ld X (Rect.unit (s := S) off S.size inb) = X := by
  funext y
  refine congrArg X (funext fun a => Fin.ext ?_)
  refine (ValueKit.rect_emb_unit_val _ _ _ _ a).trans ?_
  rw [h a]; exact Nat.zero_add _

/-! ## The mask of the heads' first halves -/

theorem mask7 (r : Fin 512) (l : Fin 128) : k0_pay7 (ix2 r l) = if l.val % 64 < 32 then 1#1 else 0#1 := by
  have h : ∀ l : Fin 128, k0_pay7 (ix2 0 l) = if l.val % 64 < 32 then 1#1 else 0#1 := by decide +kernel
  exact (show k0_pay7 (ix2 r l) = k0_pay7 (ix2 0 l) by pointwise [k0_pay7]).trans (h l)

/-! ## Four blocks of 128 columns -/

section Blocks
variable (X : FVec Ideal S512x512 .f32) (C S : FVec Ideal S512x128 .f32) (M : IVec S512x128 1)

/-- A block of 128 columns with its rotation. -/
def turnedBlock (off : Fin 2 → Nat) (h : S512x512.Slices off S512x128) : FVec Ideal S512x128 .f32 :=
  addf (mulf (extractStridedSlice S512x128 off X h) C)
    (mulf (select M (dynamicRotate 1 96#32 none (extractStridedSlice S512x128 off X h) rotates_S512x128_d1)
      (dynamicRotate 1 32#32 none (extractStridedSlice S512x128 off X h) rotates_S512x128_d1)) S)

theorem turnedBlock_at (hM : ∀ r l, M (ix2 r l) = if l.val % 64 < 32 then 1#1 else 0#1) (b : Nat) (h : S512x512.Slices ![0, b * 128] S512x128)
    (r : Fin 512) (l : Fin 128) (q : Fin 512) (hq : q.val = b * 128 + l.val) :
    turnedBlock X C S M ![0, b * 128] h (ix2 r l) = turned (fun q => X (ix2 r q)) (fun l => C (ix2 r l)) (fun l => S (ix2 r l)) q := by
  have hl := l.isLt
  have hsl : ∀ (l' : Fin 128) (q' : Fin 512), q'.val = b * 128 + l'.val → extractStridedSlice S512x128 ![0, b * 128] X h (ix2 r l') = X (ix2 r q') := by
    intro l' q' e
    refine extractStridedSlice_apply _ _ _ _ _ (fun a => ?_)
    match a with
    | ⟨0, _⟩ => show r.val = 0 + r.val; omega
    | ⟨1, _⟩ => exact e
  have hlane : lane q = l := Fin.ext (by show q.val % 128 = l.val; omega)
  unfold turnedBlock turned
  rw [hlane]
  refine congrArg₂ (· + ·) (congrArg₂ (· * ·) (hsl l q hq) rfl) (congrArg₂ (· * ·) ?_ rfl)
  show (if M (ix2 r l) = 1#1 then _ else _) = _
  rw [hM r l]
  by_cases hc : l.val % 64 < 32
  · have hc' : q.val % 64 < 32 := by omega
    rw [if_pos hc, if_pos rfl]
    refine (dynamicRotate_apply _ _ _ _ (ix2 r l) (ix2 r ⟨l.val + 32, by omega⟩) (fun a => ?_)).trans (hsl _ _ ?_)
    · match a with
      | ⟨0, _⟩ => rfl
      | ⟨1, _⟩ => show l.val + 32 = (l.val + 128 - 96 % 128) % 128; omega
    · unfold mate; rw [dif_pos hc']; show q.val + 32 = b * 128 + (l.val + 32); omega
  · have hc' : ¬ q.val % 64 < 32 := by omega
    rw [if_neg hc, if_neg (by decide)]
    refine (dynamicRotate_apply _ _ _ _ (ix2 r l) (ix2 r ⟨l.val - 32, by omega⟩) (fun a => ?_)).trans (hsl _ _ ?_)
    · match a with
      | ⟨0, _⟩ => rfl
      | ⟨1, _⟩ => show l.val - 32 = (l.val + 128 - 32 % 128) % 128; omega
    · unfold mate; rw [dif_neg hc']; show q.val - 32 = b * 128 + (l.val - 32); omega

/-- The four blocks side by side. -/
def turnedAll : FVec Ideal S512x512 .f32 :=
  concatenate S512x512 1 [⟨S512x128, turnedBlock X C S M ![0, 0] slices_S512x512_o0_0_S512x128⟩,
    ⟨S512x128, turnedBlock X C S M ![0, 128] slices_S512x512_o0_128_S512x128⟩,
    ⟨S512x128, turnedBlock X C S M ![0, 256] slices_S512x512_o0_256_S512x128⟩,
    ⟨S512x128, turnedBlock X C S M ![0, 384] slices_S512x512_o0_384_S512x128⟩] concatenates_S512x128_S512x128_S512x128_S512x128_S512x512_d1

theorem turnedAll_at (hM : ∀ r l, M (ix2 r l) = if l.val % 64 < 32 then 1#1 else 0#1) (r q : Fin 512) :
    turnedAll X C S M (ix2 r q) = turned (fun q => X (ix2 r q)) (fun l => C (ix2 r l)) (fun l => S (ix2 r l)) q := by
  have hq := q.isLt
  unfold turnedAll
  have hb : q.val / 128 = 0 ∨ q.val / 128 = 1 ∨ q.val / 128 = 2 ∨ q.val / 128 = 3 := by omega
  obtain hb | hb | hb | hb := hb
  · refine (concatenate_apply_piece 1 _ _ (ix2 r q) 0 (by simp) S512x128 _ rfl rfl 0 rfl (ix2 r (lane q)) (fun b hb => ?_) ?_).trans
      (turnedBlock_at X C S M hM 0 _ r (lane q) q ?_)
    · match b with
      | ⟨0, _⟩ => rfl
      | ⟨1, _⟩ => exact absurd rfl hb
    · show 0 + q.val % 128 = q.val; omega
    · show q.val = 0 * 128 + q.val % 128; omega
  · refine (concatenate_apply_piece 1 _ _ (ix2 r q) 1 (by simp) S512x128 _ rfl rfl 128 rfl (ix2 r (lane q)) (fun b hb => ?_) ?_).trans
      (turnedBlock_at X C S M hM 1 _ r (lane q) q ?_)
    · match b with
      | ⟨0, _⟩ => rfl
      | ⟨1, _⟩ => exact absurd rfl hb
    · show 128 + q.val % 128 = q.val; omega
    · show q.val = 1 * 128 + q.val % 128; omega
  · refine (concatenate_apply_piece 1 _ _ (ix2 r q) 2 (by simp) S512x128 _ rfl rfl 256 rfl (ix2 r (lane q)) (fun b hb => ?_) ?_).trans
      (turnedBlock_at X C S M hM 2 _ r (lane q) q ?_)
    · match b with
      | ⟨0, _⟩ => rfl
      | ⟨1, _⟩ => exact absurd rfl hb
    · show 256 + q.val % 128 = q.val; omega
    · show q.val = 2 * 128 + q.val % 128; omega
  · refine (concatenate_apply_piece 1 _ _ (ix2 r q) 3 (by simp) S512x128 _ rfl rfl 384 rfl (ix2 r (lane q)) (fun b hb => ?_) ?_).trans
      (turnedBlock_at X C S M hM 3 _ r (lane q) q ?_)
    · match b with
      | ⟨0, _⟩ => rfl
      | ⟨1, _⟩ => exact absurd rfl hb
    · show 384 + q.val % 128 = q.val; omega
    · show q.val = 3 * 128 + q.val % 128; omega

end Blocks

/-! ## The body's blocks -/

variable (x0 : Vec Ideal S512x1024 .f32) (x1 : Vec Ideal S3x1024x512 .bf16) (x2 : Vec Ideal S1024x640 .bf16) (x3 x4 : Vec Ideal S512x128 .f32)

theorem ld0 : View.ld x0 r0_0 = x0 := ld_whole x0 _ _ (by decide)
theorem ld3 : View.ld x3 r0_1 = x3 := ld_whole x3 _ _ (by decide)
theorem ld2 : View.ld x2 r0_6 = x2 := ld_whole x2 _ _ (by decide)

theorem ld1_at (k : Fin 1024) (q : Fin 512) : (View.ld x1 r0_2 : S1x1024x512.Idx → EReal) (ix3 0 k q) = x1 (ix3 0 k q) := by
  refine congrArg x1 (funext fun a => Fin.ext ?_)
  refine (ValueKit.rect_emb_unit_val _ _ _ _ a).trans ?_
  match a with
  | ⟨0, _⟩ => rfl
  | ⟨1, _⟩ => show 0 + k.val = k.val; omega
  | ⟨2, _⟩ => show 0 + q.val = q.val; omega
theorem ld4_at (k : Fin 1024) (q : Fin 512) : (View.ld x1 r0_4 : S1x1024x512.Idx → EReal) (ix3 0 k q) = x1 (ix3 1 k q) := by
  refine congrArg x1 (funext fun a => Fin.ext ?_)
  refine (ValueKit.rect_emb_unit_val _ _ _ _ a).trans ?_
  match a with
  | ⟨0, _⟩ => rfl
  | ⟨1, _⟩ => show 0 + k.val = k.val; omega
  | ⟨2, _⟩ => show 0 + q.val = q.val; omega
theorem ld5_at (k : Fin 1024) (q : Fin 512) : (View.ld x1 r0_5 : S1x1024x512.Idx → EReal) (ix3 0 k q) = x1 (ix3 2 k q) := by
  refine congrArg x1 (funext fun a => Fin.ext ?_)
  refine (ValueKit.rect_emb_unit_val _ _ _ _ a).trans ?_
  match a with
  | ⟨0, _⟩ => rfl
  | ⟨1, _⟩ => show 0 + k.val = k.val; omega
  | ⟨2, _⟩ => show 0 + q.val = q.val; omega

theorem pay6_at (w : Vec Ideal S1x1024x512 .bf16) (r q : Fin 512) :
    k0_pay6 x0 w (ix2 r q) = prod (fun k => x0 (ix2 r k)) (fun k q => w (ix3 0 k q)) q := by
  pointwise [k0_pay6, k0_pay3]
  rfl
theorem pay13_at (w : Vec Ideal S1x1024x512 .bf16) (r q : Fin 512) :
    k0_pay13 (k0_pay3 x0) w (ix2 r q) = prod (fun k => x0 (ix2 r k)) (fun k q => w (ix3 0 k q)) q := by
  pointwise [k0_pay13, k0_pay3]
  rfl
theorem pay18_at (w : Vec Ideal S1x1024x512 .bf16) (r q : Fin 512) :
    k0_pay18 (k0_pay3 x0) w (ix2 r q) = prod (fun k => x0 (ix2 r k)) (fun k q => w (ix3 0 k q)) q := by
  pointwise [k0_pay18, k0_pay3]
  rfl

theorem prod_congr {n : Nat} {x x' : Fin 1024 → EReal} {w w' : Fin 1024 → Fin n → EReal} (q : Fin n) (hx : ∀ k, x k = x' k) (hw : ∀ k, w k q = w' k q) :
    prod x w q = prod x' w' q := Finset.sum_congr rfl fun k _ => congrArg₂ (· * ·) (hx k) (hw k)

theorem turned_congr {h h' : Fin 512 → EReal} {c c' s s' : Fin 128 → EReal} (q : Fin 512) (hh : ∀ q, h q = h' q) (hc : ∀ l, c l = c' l) (hs : ∀ l, s l = s' l) :
    turned h c s q = turned h' c' s' q := by
  unfold turned; rw [hh, hh, hc, hs]

theorem out8_at (r : Fin 512) (q : Fin 640) :
    out0_8 x0 x1 x2 x3 x4 (ix2 r q) = prod (fun k => x0 (ix2 r k)) (fun k q => x2 (ix2 k q)) q := by
  unfold out0_8 k0_pay20
  rw [ld0, ld2, View.canon_cons_unit_lit']
  · pointwise [k0_pay2, k0_pay3]
    rfl
  · decide

theorem out5_at (r q : Fin 512) :
    (out0_5 x0 x1 x2 x3 x4 (ix2 r q) : EReal) = turned (prod (fun k => x0 (ix2 r k)) (fun k q => x1 (ix3 0 k q))) (fun l => x3 (ix2 r l)) (fun l => x4 (ix2 r l)) q
      * Ideal.ofBits FTy.f32 0x3E38AA3B#32 := by
  unfold out0_5 k0_pay21 k0_pay22
  rw [ld0, ld3, ld3, View.canon_cons_unit_lit']
  · refine congrArg (fun z : EReal => z * Ideal.ofBits FTy.f32 0x3E38AA3B#32) ((turnedAll_at (k0_pay6 x0 (View.ld x1 r0_2)) (k0_pay4 x3) (k0_pay5 x4) k0_pay7 mask7 r q).trans ?_)
    refine turned_congr q (fun q => (pay6_at x0 _ r q).trans (prod_congr q (fun _ => rfl) (fun k => ld1_at x1 k q))) (fun l => ?_) (fun l => ?_)
    · pointwise [k0_pay4]
    · pointwise [k0_pay5]
  · decide

theorem out6_at (r q : Fin 512) :
    (out0_6 x0 x1 x2 x3 x4 (ix2 r q) : EReal) = turned (prod (fun k => x0 (ix2 r k)) (fun k q => x1 (ix3 1 k q))) (fun l => x3 (ix2 r l)) (fun l => x4 (ix2 r l)) q := by
  unfold out0_6 k0_pay20 k0_pay21 k0_pay22
  rw [ld0, ld3, ld3, View.canon_cons_unit_lit']
  · refine Eq.trans (b := turnedAll (k0_pay13 (k0_pay3 x0) (View.ld x1 r0_4)) (k0_pay4 x3) (k0_pay5 x4) k0_pay7 (ix2 r q) * Ideal.ofBits FTy.f32 0x3F800000#32) rfl ?_
    rw [Ideal.ofBits_one_f32, mul_one, turnedAll_at _ _ _ _ mask7]
    refine turned_congr q (fun q => (pay13_at x0 _ r q).trans (prod_congr q (fun _ => rfl) (fun k => ld4_at x1 k q))) (fun l => ?_) (fun l => ?_)
    · pointwise [k0_pay4]
    · pointwise [k0_pay5]
  · decide

theorem out7_at (r q : Fin 512) :
    (out0_7 x0 x1 x2 x3 x4 (ix2 r q) : EReal) = turned (prod (fun k => x0 (ix2 r k)) (fun k q => x1 (ix3 2 k q))) (fun l => x3 (ix2 r l)) (fun l => x4 (ix2 r l)) q
      * Ideal.ofBits FTy.f32 0x3E38AA3B#32 := by
  unfold out0_7 k0_pay20 k0_pay21 k0_pay22
  rw [ld0, ld3, ld3, View.canon_cons_unit_lit']
  · refine congrArg (fun z : EReal => z * Ideal.ofBits FTy.f32 0x3E38AA3B#32) ((turnedAll_at (k0_pay18 (k0_pay3 x0) (View.ld x1 r0_5)) (k0_pay4 x3) (k0_pay5 x4) k0_pay7 mask7 r q).trans ?_)
    refine turned_congr q (fun q => (pay18_at x0 _ r q).trans (prod_congr q (fun _ => rfl) (fun k => ld5_at x1 k q))) (fun l => ?_) (fun l => ?_)
    · pointwise [k0_pay4]
    · pointwise [k0_pay5]
  · decide

end Cert.EvenProjIdeal.Gen

end
-- ==== Proof.EvenProjRef.lean ====
/- The reference of the even layers' projection, read at an index. -/
module

public import proofs.«01_k».proof.Proof.Gen.EvenProjReferenceIdeal.Run
public import proofs.«01_k».proof.Proof.EvenProjPay
public import Idealize.ShloMosaic.Lib.ValueIdxCore
public import Idealize.ShloMosaic.Shape

@[expose] public section

noncomputable section

namespace Cert.EvenProjRow

open Idealize.ShloMosaic

/-- A position times a frequency. -/
def angle (s : Fin 2048) (w : BitVec 32) : EReal := (sitofp (F := Ideal) .f32 (iotaInDim (⟨1, ![2048]⟩ : Shape) 32 0)) (ix1 s) * Ideal.ofBits FTy.f32 w

/-- A head's rotated column: the first half less the second's sine part, the second half plus the first's. -/
def roped (h : Fin 512 → EReal) (c s : Fin 32 → EReal) (q : Fin 512) : EReal :=
  if q.val % 64 < 32 then h q * c ⟨q.val % 32, Nat.mod_lt _ (by decide)⟩ - h (mate q) * s ⟨q.val % 32, Nat.mod_lt _ (by decide)⟩
  else h q * c ⟨q.val % 32, Nat.mod_lt _ (by decide)⟩ + h (mate q) * s ⟨q.val % 32, Nat.mod_lt _ (by decide)⟩

/-- The table of signed sines makes the two halves one formula. -/
theorem turned_eq_roped (h : Fin 512 → EReal) (c s : Fin 128 → EReal) (c' s' : Fin 32 → EReal)
    (hc : ∀ l : Fin 128, c l = c' ⟨l.val % 32, Nat.mod_lt _ (by decide)⟩)
    (hs : ∀ l : Fin 128, s l = s' ⟨l.val % 32, Nat.mod_lt _ (by decide)⟩ * (if l.val % 64 < 32 then -1 else 1)) (q : Fin 512) :
    turned h c s q = roped h c' s' q := by
  have e : (⟨(lane q).val % 32, Nat.mod_lt _ (by decide)⟩ : Fin 32) = ⟨q.val % 32, Nat.mod_lt _ (by decide)⟩ :=
    Fin.ext (by show q.val % 128 % 32 = q.val % 32; omega)
  unfold turned roped
  rw [hc, hs, e]
  by_cases hq : q.val % 64 < 32
  · have hl : (lane q).val % 64 < 32 := by show q.val % 128 % 64 < 32; omega
    rw [if_pos hq, if_pos hl, sub_eq_add_neg, mul_neg, mul_one, mul_neg]
  · have hl : ¬ (lane q).val % 64 < 32 := by show ¬ q.val % 128 % 64 < 32; omega
    rw [if_neg hq, if_neg hl, mul_one]

end Cert.EvenProjRow

namespace Cert.EvenProjReferenceIdeal.Value

open Cert.EvenProjReferenceIdeal Cert.EvenProjReferenceIdeal.Gen Idealize.ShloMosaic Idealize.ShloMosaic.TcCoe Idealize.SL.Sem Cert.EvenProjRow

/-- The angles of every position. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 ((fun i => FloatOps.ofBits .f32 (lit0 (S32.rowMajor i))))))

/-- A table spread over the batch and the heads. -/
def spread (T : FVec Ideal S2048x32 .f32) : FVec Ideal S32x2048x8x32 .f32 :=
  broadcastInDim S32x2048x8x32 ![0, 1, 2, 3] bcast_S1x2048x1x32_S32x2048x8x32_0_1_2_3
    (broadcastInDim S1x2048x1x32 ![1, 2, 3] bcast_S2048x1x32_S1x2048x1x32_1_2_3 (broadcastInDim S2048x1x32 ![0, 2] bcast_S2048x32_S2048x1x32_0_2 T))

/-- A head's first or second half. -/
def half0 (X : FVec Ideal S65536x512 .f32) : FVec Ideal S32x2048x8x32 .f32 :=
  extractStridedSlice S32x2048x8x32 ![0, 0, 0, 0] (shapeCast S32x2048x8x64 X shapeCasts_S65536x512_S32x2048x8x64) slices_S32x2048x8x64_S32x2048x8x32_0_0_0_0
def half1 (X : FVec Ideal S65536x512 .f32) : FVec Ideal S32x2048x8x32 .f32 :=
  extractStridedSlice S32x2048x8x32 ![0, 0, 0, 32] (shapeCast S32x2048x8x64 X shapeCasts_S65536x512_S32x2048x8x64) slices_S32x2048x8x64_S32x2048x8x32_0_0_0_32

/-- The rotated heads. -/
def ropedAll (X : FVec Ideal S65536x512 .f32) : FVec Ideal S65536x512 .f32 :=
  shapeCast S65536x512 (concatenate S32x2048x8x64 3
    [⟨S32x2048x8x32, subf (mulf (half0 X) (spread (Host.cos angles))) (mulf (half1 X) (spread (Host.sin angles)))⟩,
      ⟨S32x2048x8x32, addf (mulf (half1 X) (spread (Host.cos angles))) (mulf (half0 X) (spread (Host.sin angles)))⟩]
    concatenates_S32x2048x8x32_S32x2048x8x32_S32x2048x8x64_d3) shapeCasts_S32x2048x8x64_S65536x512

theorem angles_at (s : Fin 2048) (j : Fin 32) : angles (ix2 s j) = angle s (lit0 j) := by
  unfold angles angle
  pointwise
  have e : S32.rowMajor (ix1 j) = j := Fin.ext (Shape.rowMajor_val_one _)
  rw [e]

theorem spread_at (T : FVec Ideal S2048x32 .f32) (b : Fin 32) (s : Fin 2048) (h : Fin 8) (j : Fin 32) : spread T (ValueIdx.ix4 b s h j) = T (ix2 s j) := by
  unfold spread
  pointwise

/-- A row's column by its batch, position, head and place. -/
theorem cast_at (X : FVec Ideal S65536x512 .f32) (b : Fin 32) (s : Fin 2048) (h : Fin 8) (j : Fin 64) (p : Fin 65536) (q : Fin 512)
    (hp : p.val = b.val * 2048 + s.val) (hq : q.val = h.val * 64 + j.val) :
    shapeCast S32x2048x8x64 X shapeCasts_S65536x512_S32x2048x8x64 (ValueIdx.ix4 b s h j) = X (ix2 p q) := by
  refine shapeCast_apply _ _ _ _ ?_
  rw [Shape.rowMajor_val_two, Shape.rowMajor_val_four]
  show p.val * 512 + q.val = ((b.val * 2048 + s.val) * 8 + h.val) * 64 + j.val
  omega

theorem half0_at (X : FVec Ideal S65536x512 .f32) (b : Fin 32) (s : Fin 2048) (h : Fin 8) (j : Fin 32) (p : Fin 65536) (q : Fin 512)
    (hp : p.val = b.val * 2048 + s.val) (hq : q.val = h.val * 64 + j.val) : half0 X (ValueIdx.ix4 b s h j) = X (ix2 p q) := by
  have hj := j.isLt
  refine (extractStridedSlice_apply _ _ _ (ValueIdx.ix4 b s h j) (ValueIdx.ix4 b s h ⟨j.val, by omega⟩ : S32x2048x8x64.Idx) (fun a => ?_)).trans (cast_at X b s h _ p q hp hq)
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

theorem half1_at (X : FVec Ideal S65536x512 .f32) (b : Fin 32) (s : Fin 2048) (h : Fin 8) (j : Fin 32) (p : Fin 65536) (q : Fin 512)
    (hp : p.val = b.val * 2048 + s.val) (hq : q.val = h.val * 64 + (32 + j.val)) : half1 X (ValueIdx.ix4 b s h j) = X (ix2 p q) := by
  have hj := j.isLt
  refine (extractStridedSlice_apply _ _ _ (ValueIdx.ix4 b s h j) (ValueIdx.ix4 b s h ⟨32 + j.val, by omega⟩ : S32x2048x8x64.Idx) (fun a => ?_)).trans (cast_at X b s h _ p q hp hq)
  match a with
  | ⟨0, _⟩ => exact (Nat.zero_add _).symm
  | ⟨1, _⟩ => exact (Nat.zero_add _).symm
  | ⟨2, _⟩ => exact (Nat.zero_add _).symm
  | ⟨3, _⟩ => rfl

/-- The position of a row in its sequence. -/
def pos (p : Fin 65536) : Fin 2048 := ⟨p.val % 2048, Nat.mod_lt _ (by decide)⟩

section Halves
variable (A B : FVec Ideal S32x2048x8x32 .f32) (b : Fin 32) (t : Fin 2048) (h : Fin 8)

theorem halves_left (j : Fin 64) (i : Fin 32) (e : i.val = j.val) :
    concatenate S32x2048x8x64 3 [⟨S32x2048x8x32, A⟩, ⟨S32x2048x8x32, B⟩] concatenates_S32x2048x8x32_S32x2048x8x32_S32x2048x8x64_d3 (ValueIdx.ix4 b t h j)
      = A (ValueIdx.ix4 b t h i) := by
  refine concatenate_apply_piece 3 _ _ (ValueIdx.ix4 b t h j) 0 (by simp) S32x2048x8x32 A rfl rfl 0 rfl (ValueIdx.ix4 b t h i) (fun a ha => ?_) ?_
  · match a with
    | ⟨0, _⟩ => rfl
    | ⟨1, _⟩ => rfl
    | ⟨2, _⟩ => rfl
    | ⟨3, _⟩ => exact absurd rfl ha
  · exact (Nat.zero_add _).trans e

theorem halves_right (j : Fin 64) (i : Fin 32) (e : 32 + i.val = j.val) :
    concatenate S32x2048x8x64 3 [⟨S32x2048x8x32, A⟩, ⟨S32x2048x8x32, B⟩] concatenates_S32x2048x8x32_S32x2048x8x32_S32x2048x8x64_d3 (ValueIdx.ix4 b t h j)
      = B (ValueIdx.ix4 b t h i) := by
  refine concatenate_apply_piece 3 _ _ (ValueIdx.ix4 b t h j) 1 (by simp) S32x2048x8x32 B rfl rfl 32 rfl (ValueIdx.ix4 b t h i) (fun a ha => ?_) ?_
  · match a with
    | ⟨0, _⟩ => rfl
    | ⟨1, _⟩ => rfl
    | ⟨2, _⟩ => rfl
    | ⟨3, _⟩ => exact absurd rfl ha
  · exact e

end Halves

theorem cos_at (b : Fin 32) (s : Fin 2048) (h : Fin 8) (j : Fin 32) : spread (Host.cos angles) (ValueIdx.ix4 b s h j) = Ideal.cos (angle s (lit0 j)) :=
  (spread_at _ _ _ _ _).trans (congrArg Ideal.cos (angles_at _ _))

theorem sin_at (b : Fin 32) (s : Fin 2048) (h : Fin 8) (j : Fin 32) : spread (Host.sin angles) (ValueIdx.ix4 b s h j) = Ideal.sin (angle s (lit0 j)) :=
  (spread_at _ _ _ _ _).trans (congrArg Ideal.sin (angles_at _ _))

theorem ropedAll_at (X : FVec Ideal S65536x512 .f32) (p : Fin 65536) (q : Fin 512) :
    ropedAll X (ix2 p q) = roped (fun q => X (ix2 p q)) (fun j => Ideal.cos (angle (pos p) (lit0 j))) (fun j => Ideal.sin (angle (pos p) (lit0 j))) q := by
  have hp := p.isLt
  have hq := q.isLt
  have hb : p.val / 2048 < 32 := by omega
  have hh : q.val / 64 < 8 := by omega
  have hj : q.val % 64 < 64 := by omega
  have h32 : q.val % 32 < 32 := by omega
  unfold ropedAll
  refine (shapeCast_apply _ _ _ (ValueIdx.ix4 (⟨p.val / 2048, hb⟩ : Fin 32) (pos p) (⟨q.val / 64, hh⟩ : Fin 8) (⟨q.val % 64, hj⟩ : Fin 64) : S32x2048x8x64.Idx) ?_).trans ?_
  · rw [Shape.rowMajor_val_two, Shape.rowMajor_val_four]
    show ((p.val / 2048 * 2048 + p.val % 2048) * 8 + q.val / 64) * 64 + q.val % 64 = p.val * 512 + q.val
    omega
  have ep : p.val = p.val / 2048 * 2048 + p.val % 2048 := by omega
  unfold roped mate
  by_cases hc : q.val % 64 < 32
  · rw [if_pos hc, dif_pos hc]
    refine (halves_left _ _ _ _ _ _ (⟨q.val % 32, h32⟩ : Fin 32) ?_).trans ?_
    · show q.val % 32 = q.val % 64; omega
    refine congrArg₂ (fun a b : EReal => a - b) (congrArg₂ (fun a b : EReal => a * b) (half0_at X _ _ _ _ p q ep ?_) (cos_at _ _ _ _))
      (congrArg₂ (fun a b : EReal => a * b) (half1_at X _ _ _ _ p _ ep ?_) (sin_at _ _ _ _))
    · show q.val = q.val / 64 * 64 + q.val % 32; omega
    · show q.val + 32 = q.val / 64 * 64 + (32 + q.val % 32); omega
  · rw [if_neg hc, dif_neg hc]
    refine (halves_right _ _ _ _ _ _ (⟨q.val % 32, h32⟩ : Fin 32) ?_).trans ?_
    · show 32 + q.val % 32 = q.val % 64; omega
    refine congrArg₂ (fun a b : EReal => a + b) (congrArg₂ (fun a b : EReal => a * b) (half1_at X _ _ _ _ p q ep ?_) (cos_at _ _ _ _))
      (congrArg₂ (fun a b : EReal => a * b) (half0_at X _ _ _ _ p _ ep ?_) (sin_at _ _ _ _))
    · show q.val = q.val / 64 * 64 + (32 + q.val % 32); omega
    · show q.val - 32 = q.val / 64 * 64 + q.val % 32; omega

/-! ## The four results -/

section Results
variable (x : FVec Ideal S65536x1024 .f32) (w : FVec Ideal S1024x2144 .f32)

/-- The projection. -/
def proj : FVec Ideal S65536x2144 .f32 := Host.dotGeneral dot_S65536x1024_S1024x2144_S65536x2144_1_0_0_1_n_n none x w

theorem lhs0 (i : S65536x2144.Idx) (q : dot_S65536x1024_S1024x2144_S65536x2144_1_0_0_1_n_n.contr.Idx) : (dot_S65536x1024_S1024x2144_S65536x2144_1_0_0_1_n_n.lhsIdx i q 0).val = (i 0).val := by
  unfold DotDims.lhsIdx
  rw [dif_neg (show ¬(0 : Fin S65536x1024.rank) ∈ dot_S65536x1024_S1024x2144_S65536x2144_1_0_0_1_n_n.lhsBatch by decide), dif_pos (show (0 : Fin S65536x1024.rank) ∈ dot_S65536x1024_S1024x2144_S65536x2144_1_0_0_1_n_n.lhsNonContracting by decide)]
  rfl

theorem rhs1 (i : S65536x2144.Idx) (q : dot_S65536x1024_S1024x2144_S65536x2144_1_0_0_1_n_n.contr.Idx) : (dot_S65536x1024_S1024x2144_S65536x2144_1_0_0_1_n_n.rhsIdx i q 1).val = (i 1).val := by
  unfold DotDims.rhsIdx
  rw [dif_neg (show ¬(1 : Fin S1024x2144.rank) ∈ dot_S65536x1024_S1024x2144_S65536x2144_1_0_0_1_n_n.rhsBatch by decide), dif_pos (show (1 : Fin S1024x2144.rank) ∈ dot_S65536x1024_S1024x2144_S65536x2144_1_0_0_1_n_n.rhsNonContracting by decide)]
  rfl

theorem proj_at (p : Fin 65536) (q : Fin 2144) : proj x w (ix2 p q) = prod (fun k => x (ix2 p k)) (fun k q => w (ix2 k q)) q := by
  unfold proj
  simp only [Host.dotGeneral]
  rw [Ideal.dotGeneral_apply, ← Equiv.sum_comp (ValueIdx.contrEquiv1 dot_S65536x1024_S1024x2144_S65536x2144_1_0_0_1_n_n 1024 rfl rfl).symm]
  unfold prod
  refine Finset.sum_congr rfl fun k _ => ?_
  have hk := ValueIdx.contrEquiv1_symm_val dot_S65536x1024_S1024x2144_S65536x2144_1_0_0_1_n_n 1024 rfl rfl k
  refine congrArg₂ (fun a b : EReal => a * b) (congrArg x (funext fun a => Fin.ext ?_)) (congrArg w (funext fun a => Fin.ext ?_))
  · match a with
    | ⟨0, _⟩ => exact lhs0 _ _
    | ⟨1, _⟩ => exact (dot_S65536x1024_S1024x2144_S65536x2144_1_0_0_1_n_n.lhsIdx_val_of_single rfl _ _).trans hk
  · match a with
    | ⟨0, _⟩ => exact (dot_S65536x1024_S1024x2144_S65536x2144_1_0_0_1_n_n.rhsIdx_val_of_single rfl _ _).trans hk
    | ⟨1, _⟩ => exact rhs1 _ _

theorem slice_at (o : Nat) (h : S65536x2144.Slices ![0, o] S65536x512) (p : Fin 65536) (q : Fin 512) (q' : Fin 2144) (e : q'.val = o + q.val) :
    extractStridedSlice S65536x512 ![0, o] (proj x w) h (ix2 p q) = prod (fun k => x (ix2 p k)) (fun k q => w (ix2 k q)) q' := by
  refine (extractStridedSlice_apply _ _ _ (ix2 p q) (ix2 p q' : S65536x2144.Idx) (fun a => ?_)).trans (proj_at x w p q')
  match a with
  | ⟨0, _⟩ => exact (Nat.zero_add _).symm
  | ⟨1, _⟩ => exact e

/-- The scaled rotated heads from a column on. -/
def scaled (o : Nat) (h : S65536x2144.Slices ![0, o] S65536x512) : (⟨S65536x512, .bf16⟩ : BufTy).Contents (Elt Ideal) :=
  truncf .bf16 (mulf (ropedAll (extractStridedSlice S65536x512 ![0, o] (proj x w) h)) (broadcastInDim S65536x512 ![] bcast_S_S65536x512 (constant S_ .f32 0x3E38AA3B#32))) bitsLt_bf16_f32

def unscaled (o : Nat) (h : S65536x2144.Slices ![0, o] S65536x512) : (⟨S65536x512, .bf16⟩ : BufTy).Contents (Elt Ideal) :=
  truncf .bf16 (ropedAll (extractStridedSlice S65536x512 ![0, o] (proj x w) h)) bitsLt_bf16_f32

/-- The columns of `proj` that are not rotated. -/
def rest : (⟨S65536x608, .f32⟩ : BufTy).Contents (Elt Ideal) :=
  concatenate S65536x608 1 [⟨S65536x64, extractStridedSlice S65536x64 ![0, 512] (proj x w) slices_S65536x2144_S65536x64_0_512⟩,
    ⟨S65536x64, extractStridedSlice S65536x64 ![0, 576] (proj x w) slices_S65536x2144_S65536x64_0_576⟩,
    ⟨S65536x64, extractStridedSlice S65536x64 ![0, 1152] (proj x w) slices_S65536x2144_S65536x64_0_1152⟩,
    ⟨S65536x8, extractStridedSlice S65536x8 ![0, 1216] (proj x w) slices_S65536x2144_S65536x8_0_1216⟩,
    ⟨S65536x384, extractStridedSlice S65536x384 ![0, 1736] (proj x w) slices_S65536x2144_S65536x384_0_1736⟩,
    ⟨S65536x24, extractStridedSlice S65536x24 ![0, 2120] (proj x w) slices_S65536x2144_S65536x24_0_2120⟩] concatenates_S65536x64_S65536x64_S65536x64_S65536x8_S65536x384_S65536x24_S65536x608_d1

/-- The row's roped product. -/
def ropedProd (o : Nat) (ho : o + 512 ≤ 2144) (p : Fin 65536) (q : Fin 512) : EReal :=
  roped (fun q => prod (fun k => x (ix2 p k)) (fun k q => w (ix2 k q)) ⟨o + q.val, by have := q.isLt; omega⟩)
    (fun j => Ideal.cos (angle (pos p) (lit0 j))) (fun j => Ideal.sin (angle (pos p) (lit0 j))) q

theorem roped_slice (o : Nat) (ho : o + 512 ≤ 2144) (h : S65536x2144.Slices ![0, o] S65536x512) (p : Fin 65536) (q : Fin 512) :
    ropedAll (extractStridedSlice S65536x512 ![0, o] (proj x w) h) (ix2 p q) = ropedProd x w o ho p q := by
  rw [ropedAll_at]
  unfold ropedProd
  exact congrArg (fun f => roped f _ _ q) (funext fun q => slice_at x w o h p q _ rfl)

theorem scaled_at (o : Nat) (ho : o + 512 ≤ 2144) (h : S65536x2144.Slices ![0, o] S65536x512) (p : Fin 65536) (q : Fin 512) :
    (scaled x w o h (ix2 p q) : EReal) = ropedProd x w o ho p q * Ideal.ofBits FTy.f32 0x3E38AA3B#32 :=
  congrArg (fun z : EReal => z * Ideal.ofBits FTy.f32 0x3E38AA3B#32) (roped_slice x w o ho h p q)

theorem unscaled_at (o : Nat) (ho : o + 512 ≤ 2144) (h : S65536x2144.Slices ![0, o] S65536x512) (p : Fin 65536) (q : Fin 512) :
    (unscaled x w o h (ix2 p q) : EReal) = ropedProd x w o ho p q := roped_slice x w o ho h p q

/-- Where a kept column stands in the projection. -/
def kept (j : Fin 608) : Fin 2144 :=
  if h : j.val < 128 then ⟨j.val + 512, by omega⟩ else if h' : j.val < 200 then ⟨j.val + 1024, by omega⟩ else ⟨j.val + 1536, by have := j.isLt; omega⟩

theorem piece_at (n o : Nat) (h : S65536x2144.Slices ![0, o] (⟨2, ![65536, n]⟩ : Shape)) (p : Fin 65536) (l : Fin n) (q' : Fin 2144) (e : q'.val = o + l.val) :
    extractStridedSlice (⟨2, ![65536, n]⟩ : Shape) ![0, o] (proj x w) h (ix2 p l) = proj x w (ix2 p q') := by
  refine extractStridedSlice_apply _ _ _ _ _ (fun a => ?_)
  match a with
  | ⟨0, _⟩ => exact (Nat.zero_add _).symm
  | ⟨1, _⟩ => exact e

theorem rest_at (p : Fin 65536) (j : Fin 608) : rest x w (ix2 p j) = prod (fun k => x (ix2 p k)) (fun k q => w (ix2 k q)) (kept j) := by
  have hj := j.isLt
  rw [← proj_at]
  unfold rest kept
  by_cases h1 : j.val < 64
  · refine (concatenate_apply_piece 1 _ _ (ix2 p j) 0 (by simp) S65536x64 _ rfl rfl 0 rfl (ix2 p (⟨j.val, by omega⟩ : Fin 64)) (fun b hb => ?_) ?_).trans
      (piece_at x w 64 512 _ p _ _ ?_)
    · match b with
      | ⟨0, _⟩ => rfl
      | ⟨1, _⟩ => exact absurd rfl hb
    · exact Nat.zero_add _
    · rw [dif_pos (by omega)]; exact Nat.add_comm _ _
  by_cases h2 : j.val < 128
  · refine (concatenate_apply_piece 1 _ _ (ix2 p j) 1 (by simp) S65536x64 _ rfl rfl 64 rfl (ix2 p (⟨j.val - 64, by omega⟩ : Fin 64)) (fun b hb => ?_) ?_).trans
      (piece_at x w 64 576 _ p _ _ ?_)
    · match b with
      | ⟨0, _⟩ => rfl
      | ⟨1, _⟩ => exact absurd rfl hb
    · show 64 + (j.val - 64) = j.val; omega
    · rw [dif_pos h2]; show j.val + 512 = 576 + (j.val - 64); omega
  rw [dif_neg h2]
  by_cases h3 : j.val < 192
  · refine (concatenate_apply_piece 1 _ _ (ix2 p j) 2 (by simp) S65536x64 _ rfl rfl 128 rfl (ix2 p (⟨j.val - 128, by omega⟩ : Fin 64)) (fun b hb => ?_) ?_).trans
      (piece_at x w 64 1152 _ p _ _ ?_)
    · match b with
      | ⟨0, _⟩ => rfl
      | ⟨1, _⟩ => exact absurd rfl hb
    · show 128 + (j.val - 128) = j.val; omega
    · rw [dif_pos (by omega)]; show j.val + 1024 = 1152 + (j.val - 128); omega
  by_cases h4 : j.val < 200
  · refine (concatenate_apply_piece 1 _ _ (ix2 p j) 3 (by simp) S65536x8 _ rfl rfl 192 rfl (ix2 p (⟨j.val - 192, by omega⟩ : Fin 8)) (fun b hb => ?_) ?_).trans
      (piece_at x w 8 1216 _ p _ _ ?_)
    · match b with
      | ⟨0, _⟩ => rfl
      | ⟨1, _⟩ => exact absurd rfl hb
    · show 192 + (j.val - 192) = j.val; omega
    · rw [dif_pos h4]; show j.val + 1024 = 1216 + (j.val - 192); omega
  rw [dif_neg h4]
  by_cases h5 : j.val < 584
  · refine (concatenate_apply_piece 1 _ _ (ix2 p j) 4 (by simp) S65536x384 _ rfl rfl 200 rfl (ix2 p (⟨j.val - 200, by omega⟩ : Fin 384)) (fun b hb => ?_) ?_).trans
      (piece_at x w 384 1736 _ p _ _ ?_)
    · match b with
      | ⟨0, _⟩ => rfl
      | ⟨1, _⟩ => exact absurd rfl hb
    · show 200 + (j.val - 200) = j.val; omega
    · show j.val + 1536 = 1736 + (j.val - 200); omega
  · refine (concatenate_apply_piece 1 _ _ (ix2 p j) 5 (by simp) S65536x24 _ rfl rfl 584 rfl (ix2 p (⟨j.val - 584, by omega⟩ : Fin 24)) (fun b hb => ?_) ?_).trans
      (piece_at x w 24 2120 _ p _ _ ?_)
    · match b with
      | ⟨0, _⟩ => rfl
      | ⟨1, _⟩ => exact absurd rfl hb
    · show 584 + (j.val - 584) = j.val; omega
    · show j.val + 1536 = 2120 + (j.val - 584); omega

end Results

variable (m : (ℓ : Loc nD τ sig) → Buf (Elt Ideal) ℓ) (c : Dev nD)

theorem v41_eq : res_main_v41 m c = scaled (m ((c.tc : Thread nD τ).loc main_arg0)) (m ((c.tc : Thread nD τ).loc main_arg1)) 0 slices_S65536x2144_S65536x512_0_0 := rfl
theorem v61_eq : res_main_v61 m c = unscaled (m ((c.tc : Thread nD τ).loc main_arg0)) (m ((c.tc : Thread nD τ).loc main_arg1)) 640 slices_S65536x2144_S65536x512_0_640 := rfl
theorem v83_eq : res_main_v83 m c = scaled (m ((c.tc : Thread nD τ).loc main_arg0)) (m ((c.tc : Thread nD τ).loc main_arg1)) 1224 slices_S65536x2144_S65536x512_0_1224 := rfl

end Cert.EvenProjReferenceIdeal.Value

end
-- ==== Proof.EvenProjHost.lean ====
/- The even layers' projection: the arrays the host prepares for the kernel. -/
module

public import proofs.«01_k».proof.Proof.Gen.EvenProjIdeal.Frame
public import proofs.«01_k».proof.Proof.EvenProjRef
public import Idealize.ShloMosaic.Lib.Pointwise
public import Idealize.ShloMosaic.Lib.KernelVsHost
public import Idealize.ShloMosaic.Lib.IdealHost
public import Idealize.ShloMosaic.PureOps.Ideal.Laws

@[expose] public section

noncomputable section

namespace Cert.EvenProjRow

open Idealize.ShloMosaic

/-- Those dimension numbers of a gather that takes whole columns. -/
abbrev colDims (N M K : Nat) (wf : GatherDims.WF ⟨2, ![N, M]⟩ ⟨2, ![K, 1]⟩ ⟨2, ![N, K]⟩ [0] [1] [] [1] [] 1 ![N, 1]) :
    GatherDims ⟨2, ![N, M]⟩ ⟨2, ![K, 1]⟩ ⟨2, ![N, K]⟩ where
  offsetDims := [0]
  collapsedSliceDims := [1]
  operandBatchingDims := []
  startIndicesBatchingDims := []
  startIndexMap := [1]
  indexVectorDim := 1
  sliceSizes := ![N, 1]
  wf := wf

/-- The gathered column stands where its index says. -/
theorem gather_cols_apply {α : Type} {N M K w : Nat} (wf : GatherDims.WF ⟨2, ![N, M]⟩ ⟨2, ![K, 1]⟩ ⟨2, ![N, K]⟩ [0] [1] [] [1] [] 1 ![N, 1])
    (x : (⟨2, ![N, M]⟩ : Shape).Idx → α) (idx : IVec ⟨2, ![K, 1]⟩ w) (n : Fin N) (k : Fin K) (q : Fin M)
    (h : (idx (ix2 k 0)).toInt.toNat = q.val) :
    Host.gather (colDims N M K wf) x idx (ix2 n k) = x (ix2 n q) := by
  unfold Host.gather
  congr 1
  funext a
  refine Fin.ext ?_
  show (colDims N M K wf).start (ix2 n k) idx a + (colDims N M K wf).batchCoord (ix2 n k) a + (colDims N M K wf).offCoord (ix2 n k) a = _
  rw [GatherDims.batchCoord_eq_zero _ _ _ List.not_mem_nil]
  match a with
  | ⟨0, _⟩ =>
    have hs : (colDims N M K wf).start (ix2 n k) idx (0 : Fin 2) = 0 := by
      unfold GatherDims.start
      exact dif_neg (show ¬ (0 : Fin 2) ∈ [(1 : Fin 2)] by decide)
    have ho : (colDims N M K wf).offCoord (ix2 n k) (0 : Fin 2) = n.val := by
      unfold GatherDims.offCoord
      rw [dif_pos (show (0 : Fin 2) ∈ (colDims N M K wf).sKept from (GatherDims.mem_sKept _ _).mpr ⟨show ¬ (0 : Fin 2) ∈ [(1 : Fin 2)] by decide, List.not_mem_nil⟩)]
      rfl
    exact (congrArg₂ (fun a b : Nat => a + 0 + b) hs ho).trans (by show 0 + 0 + n.val = n.val; omega)
  | ⟨1, _⟩ =>
    have ho : (colDims N M K wf).offCoord (ix2 n k) (1 : Fin 2) = 0 :=
      GatherDims.offCoord_eq_zero _ _ _ (fun h => ((GatherDims.mem_sKept _ _).mp h).1 (List.mem_singleton.mpr rfl))
    have hs : (colDims N M K wf).start (ix2 n k) idx (1 : Fin 2) = q.val := by
      unfold GatherDims.start
      rw [dif_pos (show (1 : Fin 2) ∈ (colDims N M K wf).startIndexMap from List.mem_singleton.mpr rfl)]
      have hsi : (colDims N M K wf).siIdx (ix2 n k) ⟨List.idxOf (1 : Fin 2) (colDims N M K wf).startIndexMap,
          List.idxOf_lt_length_iff.2 (List.mem_singleton.mpr rfl)⟩ = ix2 k 0 := by
        funext b; refine Fin.ext ?_
        match b with
        | ⟨0, _⟩ => rfl
        | ⟨1, _⟩ => rfl
      rw [hsi, h]
      have := q.isLt
      show min q.val (M - 1) = q.val
      omega
    exact (congrArg₂ (fun a b : Nat => a + 0 + b) hs ho).trans (by show q.val + 0 + 0 = q.val; omega)

end Cert.EvenProjRow

namespace Cert.EvenProjIdeal.Gen

open Idealize.ShloMosaic Idealize.ShloMosaic.TcCoe Idealize.SL.Sem Idealize.ShloMosaic.Tactic Cert.EvenProjRow

/-- The three head blocks of the weights, stacked. -/
def stacked (w : FVec Ideal S1024x2144 .f32) : FVec Ideal S3x1024x512 .bf16 :=
  truncf .bf16 (concatenate S3x1024x512 0 [⟨S1x1024x512, broadcastInDim S1x1024x512 ![1, 2] bcast_S1024x512_S1x1024x512_1_2 (extractStridedSlice S1024x512 ![0, 0] w slices_S1024x2144_S1024x512_0_0)⟩,
    ⟨S1x1024x512, broadcastInDim S1x1024x512 ![1, 2] bcast_S1024x512_S1x1024x512_1_2 (extractStridedSlice S1024x512 ![0, 640] w slices_S1024x2144_S1024x512_0_640)⟩,
    ⟨S1x1024x512, broadcastInDim S1x1024x512 ![1, 2] bcast_S1024x512_S1x1024x512_1_2 (extractStridedSlice S1024x512 ![0, 1224] w slices_S1024x2144_S1024x512_0_1224)⟩]
    concatenates_S1x1024x512_S1x1024x512_S1x1024x512_S3x1024x512_d0) bitsLt_bf16_f32

theorem block_at (w : FVec Ideal S1024x2144 .f32) (o : Nat) (h : S1024x2144.Slices ![0, o] S1024x512) (k : Fin 1024) (q : Fin 512) (q' : Fin 2144) (e : q'.val = o + q.val) :
    broadcastInDim S1x1024x512 ![1, 2] bcast_S1024x512_S1x1024x512_1_2 (extractStridedSlice S1024x512 ![0, o] w h) (ix3 (0 : Fin 1) k q) = w (ix2 k q') := by
  refine Eq.trans (b := extractStridedSlice S1024x512 ![0, o] w h (ix2 k q)) ?_ (extractStridedSlice_apply _ _ _ (ix2 k q) (ix2 k q' : S1024x2144.Idx) (fun a => ?_))
  · pointwise
  · match a with
    | ⟨0, _⟩ => exact (Nat.zero_add _).symm
    | ⟨1, _⟩ => exact e

section Stack
variable (A0 A1 A2 : FVec Ideal S1x1024x512 .f32) (k : Fin 1024) (q : Fin 512)

theorem stack0 : concatenate S3x1024x512 0 [⟨S1x1024x512, A0⟩, ⟨S1x1024x512, A1⟩, ⟨S1x1024x512, A2⟩]
    concatenates_S1x1024x512_S1x1024x512_S1x1024x512_S3x1024x512_d0 (ix3 (0 : Fin 3) k q) = A0 (ix3 (0 : Fin 1) k q) := by
  refine concatenate_apply_piece 0 _ _ (ix3 (0 : Fin 3) k q) 0 (by simp) S1x1024x512 A0 rfl rfl 0 rfl (ix3 (0 : Fin 1) k q) (fun a ha => ?_) rfl
  match a with
  | ⟨0, _⟩ => exact absurd rfl ha
  | ⟨1, _⟩ => rfl
  | ⟨2, _⟩ => rfl

theorem stack1 : concatenate S3x1024x512 0 [⟨S1x1024x512, A0⟩, ⟨S1x1024x512, A1⟩, ⟨S1x1024x512, A2⟩]
    concatenates_S1x1024x512_S1x1024x512_S1x1024x512_S3x1024x512_d0 (ix3 (1 : Fin 3) k q) = A1 (ix3 (0 : Fin 1) k q) := by
  refine concatenate_apply_piece 0 _ _ (ix3 (1 : Fin 3) k q) 1 (by simp) S1x1024x512 A1 rfl rfl 1 rfl (ix3 (0 : Fin 1) k q) (fun a ha => ?_) rfl
  match a with
  | ⟨0, _⟩ => exact absurd rfl ha
  | ⟨1, _⟩ => rfl
  | ⟨2, _⟩ => rfl

theorem stack2 : concatenate S3x1024x512 0 [⟨S1x1024x512, A0⟩, ⟨S1x1024x512, A1⟩, ⟨S1x1024x512, A2⟩]
    concatenates_S1x1024x512_S1x1024x512_S1x1024x512_S3x1024x512_d0 (ix3 (2 : Fin 3) k q) = A2 (ix3 (0 : Fin 1) k q) := by
  refine concatenate_apply_piece 0 _ _ (ix3 (2 : Fin 3) k q) 2 (by simp) S1x1024x512 A2 rfl rfl 2 rfl (ix3 (0 : Fin 1) k q) (fun a ha => ?_) rfl
  match a with
  | ⟨0, _⟩ => exact absurd rfl ha
  | ⟨1, _⟩ => rfl
  | ⟨2, _⟩ => rfl

end Stack

theorem stacked_at0 (w : FVec Ideal S1024x2144 .f32) (k : Fin 1024) (q : Fin 512) (q' : Fin 2144) (e : q'.val = 0 + q.val) :
    (stacked w (ix3 (0 : Fin 3) k q) : EReal) = w (ix2 k q') := by
  have h := stack0 (broadcastInDim S1x1024x512 ![1, 2] bcast_S1024x512_S1x1024x512_1_2 (extractStridedSlice S1024x512 ![0, 0] w slices_S1024x2144_S1024x512_0_0))
    (broadcastInDim S1x1024x512 ![1, 2] bcast_S1024x512_S1x1024x512_1_2 (extractStridedSlice S1024x512 ![0, 640] w slices_S1024x2144_S1024x512_0_640))
    (broadcastInDim S1x1024x512 ![1, 2] bcast_S1024x512_S1x1024x512_1_2 (extractStridedSlice S1024x512 ![0, 1224] w slices_S1024x2144_S1024x512_0_1224)) k q
  have h' := h.trans (block_at w 0 _ k q q' e)
  exact h'

theorem stacked_at1 (w : FVec Ideal S1024x2144 .f32) (k : Fin 1024) (q : Fin 512) (q' : Fin 2144) (e : q'.val = 640 + q.val) :
    (stacked w (ix3 (1 : Fin 3) k q) : EReal) = w (ix2 k q') := by
  have h := stack1 (broadcastInDim S1x1024x512 ![1, 2] bcast_S1024x512_S1x1024x512_1_2 (extractStridedSlice S1024x512 ![0, 0] w slices_S1024x2144_S1024x512_0_0))
    (broadcastInDim S1x1024x512 ![1, 2] bcast_S1024x512_S1x1024x512_1_2 (extractStridedSlice S1024x512 ![0, 640] w slices_S1024x2144_S1024x512_0_640))
    (broadcastInDim S1x1024x512 ![1, 2] bcast_S1024x512_S1x1024x512_1_2 (extractStridedSlice S1024x512 ![0, 1224] w slices_S1024x2144_S1024x512_0_1224)) k q
  have h' := h.trans (block_at w 640 _ k q q' e)
  exact h'

theorem stacked_at2 (w : FVec Ideal S1024x2144 .f32) (k : Fin 1024) (q : Fin 512) (q' : Fin 2144) (e : q'.val = 1224 + q.val) :
    (stacked w (ix3 (2 : Fin 3) k q) : EReal) = w (ix2 k q') := by
  have h := stack2 (broadcastInDim S1x1024x512 ![1, 2] bcast_S1024x512_S1x1024x512_1_2 (extractStridedSlice S1024x512 ![0, 0] w slices_S1024x2144_S1024x512_0_0))
    (broadcastInDim S1x1024x512 ![1, 2] bcast_S1024x512_S1x1024x512_1_2 (extractStridedSlice S1024x512 ![0, 640] w slices_S1024x2144_S1024x512_0_640))
    (broadcastInDim S1x1024x512 ![1, 2] bcast_S1024x512_S1x1024x512_1_2 (extractStridedSlice S1024x512 ![0, 1224] w slices_S1024x2144_S1024x512_0_1224)) k q
  have h' := h.trans (block_at w 1224 _ k q q' e)
  exact h'

/-- The column numbers the host gathers by. -/
def colIdx : IVec S608x1 32 :=
  broadcastInDim S608x1 ![0] bcast_S608_S608x1_0 (select (constantI S608 1 0#1)
    (addi (fun i => lit0 (S608.rowMajor i)) (broadcastInDim S608 ![] bcast_S_S608 (constantI S_ 32 2144#32))) (fun i => lit0 (S608.rowMajor i)))

theorem colIdx_at (j : Fin 608) : colIdx (ix2 j (0 : Fin 1)) = lit0 j := by
  have e : S608.rowMajor (ix1 j) = j := Fin.ext (Shape.rowMajor_val_one _)
  refine Eq.trans (b := lit0 (S608.rowMajor (ix1 j))) ?_ (congrArg lit0 e)
  unfold colIdx
  pointwise

theorem cols : ∀ j : Fin 608, (lit0 j).toInt.toNat = (Cert.EvenProjReferenceIdeal.Value.kept j).val := by decide +kernel

/-- The kept columns, padded to whole lanes. -/
def padded (w : FVec Ideal S1024x2144 .f32) : FVec Ideal S1024x640 .bf16 :=
  truncf .bf16 (pad S1024x640 ![0, 0] ![0, 32] ![0, 0] (Host.gather gather_S1024x2144_S608x1_S1024x608_0_1_n_n_1_1_10241 w colIdx)
    (sitofp (F := Ideal) .f32 (constantI S_ 32 0#32)) pads_S1024x608_S1024x640_000_0320 h_S_) bitsLt_bf16_f32

theorem padded_at (w : FVec Ideal S1024x2144 .f32) (k : Fin 1024) (j : Fin 608) (j' : Fin 640) (h : j'.val = j.val) :
    (padded w (ix2 k j') : EReal) = w (ix2 k (Cert.EvenProjReferenceIdeal.Value.kept j)) := by
  have e : pad S1024x640 ![0, 0] ![0, 32] ![0, 0] (Host.gather gather_S1024x2144_S608x1_S1024x608_0_1_n_n_1_1_10241 w colIdx)
      (sitofp (F := Ideal) .f32 (constantI S_ 32 0#32)) pads_S1024x608_S1024x640_000_0320 h_S_ (ix2 k j')
      = Host.gather gather_S1024x2144_S608x1_S1024x608_0_1_n_n_1_1_10241 w colIdx (ix2 k j) :=
    pad_apply_of_inside ![0, 0] ![0, 32] ![0, 0] _ _ pads_S1024x608_S1024x640_000_0320 h_S_ (ix2 k j') (ix2 k j : S1024x608.Idx) (fun a => by
      match a with
      | ⟨0, _⟩ => show k.val = 0 + k.val * (0 + 1); omega
      | ⟨1, _⟩ => show j'.val = 0 + j.val * (0 + 1); omega)
  exact e.trans
    (gather_cols_apply gather_S1024x2144_S608x1_S1024x608_0_1_n_n_1_1_10241.wf w colIdx k j _ ((congrArg (fun b : BitVec 32 => b.toInt.toNat) (colIdx_at j)).trans (cols j)))

/-- The angles by position and lane. -/
def laneAngles : FVec Ideal S2048x128 .f32 :=
  mulf (broadcastInDim S2048x128 ![0, 1] bcast_S2048x1_S2048x128_0_1 (broadcastInDim S2048x1 ![0] bcast_S2048_S2048x1_0 (sitofp .f32 (iotaInDim S2048 32 0))))
    (broadcastInDim S2048x128 ![0, 1] bcast_S1x128_S2048x128_0_1 (broadcastInDim S1x128 ![1] bcast_S128_S1x128_1 ((fun i => FloatOps.ofBits .f32 (lit1 (S128.rowMajor i))))))

def laneSigns : FVec Ideal S2048x128 .f32 :=
  broadcastInDim S2048x128 ![0, 1] bcast_S1x128_S2048x128_0_1 (broadcastInDim S1x128 ![1] bcast_S128_S1x128_1 ((fun i => FloatOps.ofBits .f32 (lit2 (S128.rowMajor i)))))

theorem lanes : ∀ l : Fin 128, lit1 l = Cert.EvenProjReferenceIdeal.lit0 ⟨l.val % 32, Nat.mod_lt _ (by decide)⟩ := by decide +kernel

theorem signs : ∀ l : Fin 128, lit2 l = if l.val % 64 < 32 then 0xBF800000#32 else 0x3F800000#32 := by decide +kernel

theorem minus_one : Ideal.ofBits FTy.f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

theorem laneAngles_at (s : Fin 2048) (l : Fin 128) : laneAngles (ix2 s l) = angle s (Cert.EvenProjReferenceIdeal.lit0 ⟨l.val % 32, Nat.mod_lt _ (by decide)⟩) := by
  rw [← lanes]
  unfold laneAngles angle
  pointwise
  have e : S128.rowMajor (ix1 l) = l := Fin.ext (Shape.rowMajor_val_one _)
  rw [e]

theorem laneSigns_at (s : Fin 2048) (l : Fin 128) : laneSigns (ix2 s l) = if l.val % 64 < 32 then -1 else 1 := by
  have e : S128.rowMajor (ix1 l) = l := Fin.ext (Shape.rowMajor_val_one _)
  refine Eq.trans (b := Ideal.ofBits FTy.f32 (lit2 (S128.rowMajor (ix1 l)))) ?_ ?_
  · unfold laneSigns
    pointwise
  · rw [e, signs]
    by_cases h : l.val % 64 < 32
    · rw [if_pos h, if_pos h]; exact minus_one
    · rw [if_neg h, if_neg h]; exact Ideal.ofBits_one_f32

variable (m : (ℓ : Loc nD τ sig) → Buf (Elt Ideal) ℓ)

set_option maxHeartbeats 4000000 in
theorem in1_eq (c : Dev nD) : (V m c main_v8 : S3x1024x512.Idx → EReal) = stacked (m ((c : Thread nD τ).loc main_arg1)) := by
  unfold V V0
  simp only [hostOps0, hostOps0_1, hostOps0_2, List.flatten_cons, List.flatten_nil, List.append_nil, List.cons_append, List.nil_append]
  after_results
  rfl

set_option maxHeartbeats 4000000 in
theorem in2_eq (c : Dev nD) : (V m c main_v15 : S1024x640.Idx → EReal) = padded (m ((c : Thread nD τ).loc main_arg1)) := by
  unfold V V0
  simp only [hostOps0, hostOps0_1, hostOps0_2, List.flatten_cons, List.flatten_nil, List.append_nil, List.cons_append, List.nil_append]
  after_results
  rfl

set_option maxHeartbeats 4000000 in
theorem in3_eq (c : Dev nD) : (V m c main_v22 : S2048x128.Idx → EReal) = Host.cos laneAngles := by
  unfold V V0
  simp only [hostOps0, hostOps0_1, hostOps0_2, List.flatten_cons, List.flatten_nil, List.append_nil, List.cons_append, List.nil_append]
  after_results
  rfl

set_option maxHeartbeats 4000000 in
theorem in4_eq (c : Dev nD) : (V m c main_v25 : S2048x128.Idx → EReal) = mulf (Host.sin laneAngles) laneSigns := by
  unfold V V0
  simp only [hostOps0, hostOps0_1, hostOps0_2, List.flatten_cons, List.flatten_nil, List.append_nil, List.cons_append, List.nil_append]
  after_results
  rfl

end Cert.EvenProjIdeal.Gen

end
-- ==== Proof.EvenProjRun.lean ====
/- The even layers' projection: what the call and the host leave. -/
module

public import proofs.«01_k».proof.Proof.EvenProjHost
public import Idealize.ShloMosaic.Lib.Claim
public import Idealize.ShloMosaic.Lib.Pipeline.ValueKit

@[expose] public section

noncomputable section

namespace Cert.EvenProjIdeal.Gen

open Idealize.ShloMosaic Idealize.ShloMosaic.TcCoe Idealize.SL.Sem Idealize.ShloMosaic.Tactic Cert.EvenProjRow
open Cert.EvenProjReferenceIdeal.Value (pos kept ropedProd scaled unscaled rest scaled_at unscaled_at rest_at)

variable (m : (ℓ : Loc nD τ sig) → Buf (Elt Ideal) ℓ) (ρ : Dev nD → PrngReg)

/-- The rows. -/
abbrev rows (c : Dev nD) : FVec Ideal S65536x1024 .f32 := m ((c : Thread nD τ).loc main_arg0)
/-- The weights. -/
abbrev weights (c : Dev nD) : FVec Ideal S1024x2144 .f32 := m ((c : Thread nD τ).loc main_arg1)

theorem tr0 : ∀ t : Fin grid0.N, cc0_transform_0 (grid0.coords t) = ![t.val, 0] := by decide +kernel

theorem blk0 (c : Dev nD) (t : Fin grid0.N) (r : Fin 512) (k : Fin 1024) (p : Fin 65536) (h : p.val = t.val * 512 + r.val) :
    (iblk m c 0 t : S512x1024.Idx → EReal) (ix2 r k) = V m c main_arg0 (ix2 p k : S65536x1024.Idx) := by
  refine congrArg (V m c main_arg0) (funext fun a => Fin.ext ?_)
  refine (ValueKit.view_emb_slice_whole_unit_val main_arg0 _ _ _ _ a).trans ?_
  change cc0_transform_0 (grid0.coords t) a * S512x1024.size a + _ = _
  rw [tr0 t]
  match a with
  | ⟨0, _⟩ => show t.val * 512 + r.val = p.val; omega
  | ⟨1, _⟩ => show 0 * 1024 + k.val = k.val; omega

theorem tr1 : ∀ t : Fin grid0.N, cc0_transform_1 (grid0.coords t) = ![0, 0, 0] := by decide +kernel

theorem blk1 (c : Dev nD) (t : Fin grid0.N) (g : Fin 3) (k : Fin 1024) (q : Fin 512)  :
    (iblk m c 1 t : S3x1024x512.Idx → EReal) (ix3 g k q) = V m c main_v8 (ix3 g k q : S3x1024x512.Idx) := by
  refine congrArg (V m c main_v8) (funext fun a => Fin.ext ?_)
  refine (ValueKit.view_emb_slice_whole_unit_val main_v8 _ _ _ _ a).trans ?_
  change cc0_transform_1 (grid0.coords t) a * S3x1024x512.size a + _ = _
  rw [tr1 t]
  match a with
  | ⟨0, _⟩ => show 0 * 3 + g.val = g.val; omega
  | ⟨1, _⟩ => show 0 * 1024 + k.val = k.val; omega
  | ⟨2, _⟩ => show 0 * 512 + q.val = q.val; omega

theorem tr2 : ∀ t : Fin grid0.N, cc0_transform_2 (grid0.coords t) = ![0, 0] := by decide +kernel

theorem blk2 (c : Dev nD) (t : Fin grid0.N) (k : Fin 1024) (q : Fin 640)  :
    (iblk m c 2 t : S1024x640.Idx → EReal) (ix2 k q) = V m c main_v15 (ix2 k q : S1024x640.Idx) := by
  refine congrArg (V m c main_v15) (funext fun a => Fin.ext ?_)
  refine (ValueKit.view_emb_slice_whole_unit_val main_v15 _ _ _ _ a).trans ?_
  change cc0_transform_2 (grid0.coords t) a * S1024x640.size a + _ = _
  rw [tr2 t]
  match a with
  | ⟨0, _⟩ => show 0 * 1024 + k.val = k.val; omega
  | ⟨1, _⟩ => show 0 * 640 + q.val = q.val; omega

theorem tr3 : ∀ t : Fin grid0.N, cc0_transform_3 (grid0.coords t) = ![t.val % 4, 0] := by decide +kernel

theorem blk3 (c : Dev nD) (t : Fin grid0.N) (r : Fin 512) (l : Fin 128) (p : Fin 65536) (h : p.val = t.val * 512 + r.val) :
    (iblk m c 3 t : S512x128.Idx → EReal) (ix2 r l) = V m c main_v22 (ix2 (pos p) l : S2048x128.Idx) := by
  refine congrArg (V m c main_v22) (funext fun a => Fin.ext ?_)
  refine (ValueKit.view_emb_slice_whole_unit_val main_v22 _ _ _ _ a).trans ?_
  change cc0_transform_3 (grid0.coords t) a * S512x128.size a + _ = _
  rw [tr3 t]
  match a with
  | ⟨0, _⟩ => show t.val % 4 * 512 + r.val = p.val % 2048; have := r.isLt; omega
  | ⟨1, _⟩ => show 0 * 128 + l.val = l.val; omega

theorem tr4 : ∀ t : Fin grid0.N, cc0_transform_4 (grid0.coords t) = ![t.val % 4, 0] := by decide +kernel

theorem blk4 (c : Dev nD) (t : Fin grid0.N) (r : Fin 512) (l : Fin 128) (p : Fin 65536) (h : p.val = t.val * 512 + r.val) :
    (iblk m c 4 t : S512x128.Idx → EReal) (ix2 r l) = V m c main_v25 (ix2 (pos p) l : S2048x128.Idx) := by
  refine congrArg (V m c main_v25) (funext fun a => Fin.ext ?_)
  refine (ValueKit.view_emb_slice_whole_unit_val main_v25 _ _ _ _ a).trans ?_
  change cc0_transform_4 (grid0.coords t) a * S512x128.size a + _ = _
  rw [tr4 t]
  match a with
  | ⟨0, _⟩ => show t.val % 4 * 512 + r.val = p.val % 2048; have := r.isLt; omega
  | ⟨1, _⟩ => show 0 * 128 + l.val = l.val; omega

theorem tr5 : ∀ t : Fin grid0.N, cc0_transform_5 (grid0.coords t) = ![t.val, 0] := by decide +kernel

theorem emb5 (t : Fin grid0.N) (r : Fin 512) (q : Fin 512) (p : Fin 65536) (h : p.val = t.val * 512 + r.val) :
    ((cfg0.win 5).blk t).view.emb (ix2 r q : S512x512.Idx) = (ix2 p q : S65536x512.Idx) := by
  refine funext fun a => Fin.ext ?_
  refine (ValueKit.view_emb_slice_whole_unit_val main_v26_0 _ _ _ _ a).trans ?_
  change cc0_transform_5 (grid0.coords t) a * S512x512.size a + _ = _
  rw [tr5 t]
  match a with
  | ⟨0, _⟩ => show t.val * 512 + r.val = p.val; omega
  | ⟨1, _⟩ => show 0 * 512 + q.val = q.val; omega

theorem covers5 : (cfg0.win 5).Covers := by decide +kernel

theorem tr6 : ∀ t : Fin grid0.N, cc0_transform_6 (grid0.coords t) = ![t.val, 0] := by decide +kernel

theorem emb6 (t : Fin grid0.N) (r : Fin 512) (q : Fin 512) (p : Fin 65536) (h : p.val = t.val * 512 + r.val) :
    ((cfg0.win 6).blk t).view.emb (ix2 r q : S512x512.Idx) = (ix2 p q : S65536x512.Idx) := by
  refine funext fun a => Fin.ext ?_
  refine (ValueKit.view_emb_slice_whole_unit_val main_v26_1 _ _ _ _ a).trans ?_
  change cc0_transform_6 (grid0.coords t) a * S512x512.size a + _ = _
  rw [tr6 t]
  match a with
  | ⟨0, _⟩ => show t.val * 512 + r.val = p.val; omega
  | ⟨1, _⟩ => show 0 * 512 + q.val = q.val; omega

theorem covers6 : (cfg0.win 6).Covers := by decide +kernel

theorem tr7 : ∀ t : Fin grid0.N, cc0_transform_7 (grid0.coords t) = ![t.val, 0] := by decide +kernel

theorem emb7 (t : Fin grid0.N) (r : Fin 512) (q : Fin 512) (p : Fin 65536) (h : p.val = t.val * 512 + r.val) :
    ((cfg0.win 7).blk t).view.emb (ix2 r q : S512x512.Idx) = (ix2 p q : S65536x512.Idx) := by
  refine funext fun a => Fin.ext ?_
  refine (ValueKit.view_emb_slice_whole_unit_val main_v26_2 _ _ _ _ a).trans ?_
  change cc0_transform_7 (grid0.coords t) a * S512x512.size a + _ = _
  rw [tr7 t]
  match a with
  | ⟨0, _⟩ => show t.val * 512 + r.val = p.val; omega
  | ⟨1, _⟩ => show 0 * 512 + q.val = q.val; omega

theorem covers7 : (cfg0.win 7).Covers := by decide +kernel

theorem tr8 : ∀ t : Fin grid0.N, cc0_transform_8 (grid0.coords t) = ![t.val, 0] := by decide +kernel

theorem emb8 (t : Fin grid0.N) (r : Fin 512) (q : Fin 640) (p : Fin 65536) (h : p.val = t.val * 512 + r.val) :
    ((cfg0.win 8).blk t).view.emb (ix2 r q : S512x640.Idx) = (ix2 p q : S65536x640.Idx) := by
  refine funext fun a => Fin.ext ?_
  refine (ValueKit.view_emb_slice_whole_unit_val main_v26_3 _ _ _ _ a).trans ?_
  change cc0_transform_8 (grid0.coords t) a * S512x640.size a + _ = _
  rw [tr8 t]
  match a with
  | ⟨0, _⟩ => show t.val * 512 + r.val = p.val; omega
  | ⟨1, _⟩ => show 0 * 640 + q.val = q.val; omega

theorem covers8 : (cfg0.win 8).Covers := by decide +kernel

theorem row_at (c : Dev nD) (t : Fin grid0.N) (r : Fin 512) (p : Fin 65536) (h : p.val = t.val * 512 + r.val) (k : Fin 1024) :
    (iblk m c 0 t : S512x1024.Idx → EReal) (ix2 r k) = rows m c (ix2 p k) :=
  (blk0 m c t r k p h).trans (congrFun (V_main_arg0 m c) _)

theorem cos_lane (c : Dev nD) (t : Fin grid0.N) (r : Fin 512) (p : Fin 65536) (h : p.val = t.val * 512 + r.val) (l : Fin 128) :
    (iblk m c 3 t : S512x128.Idx → EReal) (ix2 r l) = Ideal.cos (angle (pos p) (Cert.EvenProjReferenceIdeal.lit0 ⟨l.val % 32, Nat.mod_lt _ (by decide)⟩)) :=
  (blk3 m c t r l p h).trans ((congrFun (in3_eq m c) _).trans (congrArg Ideal.cos (laneAngles_at _ _)))

theorem sin_lane (c : Dev nD) (t : Fin grid0.N) (r : Fin 512) (p : Fin 65536) (h : p.val = t.val * 512 + r.val) (l : Fin 128) :
    (iblk m c 4 t : S512x128.Idx → EReal) (ix2 r l) = Ideal.sin (angle (pos p) (Cert.EvenProjReferenceIdeal.lit0 ⟨l.val % 32, Nat.mod_lt _ (by decide)⟩))
      * (if l.val % 64 < 32 then -1 else 1) :=
  (blk4 m c t r l p h).trans ((congrFun (in4_eq m c) _).trans
    (congrArg₂ (fun a b : EReal => a * b) (congrArg Ideal.sin (laneAngles_at _ _)) (laneSigns_at _ _)))

/-- A row's turned product is the reference's, whichever block of heads. -/
theorem turned_block (c : Dev nD) (t : Fin grid0.N) (r : Fin 512) (p : Fin 65536) (h : p.val = t.val * 512 + r.val) (g : Fin 3) (o : Nat) (ho : o + 512 ≤ 2144)
    (hw : ∀ (k : Fin 1024) (q : Fin 512) (q' : Fin 2144), q'.val = o + q.val → (stacked (weights m c) (ix3 g k q) : EReal) = weights m c (ix2 k q')) (q : Fin 512) :
    turned (prod (fun k => (iblk m c 0 t : S512x1024.Idx → EReal) (ix2 r k)) (fun k q => (iblk m c 1 t : S3x1024x512.Idx → EReal) (ix3 g k q)))
      (fun l => (iblk m c 3 t : S512x128.Idx → EReal) (ix2 r l)) (fun l => (iblk m c 4 t : S512x128.Idx → EReal) (ix2 r l)) q
      = ropedProd (rows m c) (weights m c) o ho p q := by
  refine (turned_eq_roped _ _ _ (fun j => Ideal.cos (angle (pos p) (Cert.EvenProjReferenceIdeal.lit0 j)))
    (fun j => Ideal.sin (angle (pos p) (Cert.EvenProjReferenceIdeal.lit0 j))) (cos_lane m c t r p h) (sin_lane m c t r p h) q).trans ?_
  unfold ropedProd
  refine congrArg (fun f => roped f _ _ q) (funext fun q => ?_)
  unfold prod
  refine Finset.sum_congr rfl fun k _ => congrArg₂ (fun a b : EReal => a * b) (row_at m c t r p h k) ?_
  exact (blk1 m c t g k q).trans ((congrFun (in1_eq m c) _).trans (hw k q _ rfl))

theorem idx_eq {a b : Nat} (y : (⟨2, ![a, b]⟩ : Shape).Idx) : ∃ (r : Fin a) (q : Fin b), y = ix2 r q :=
  ⟨y (0 : Fin 2), y (1 : Fin 2), funext fun a => by match a with | ⟨0, _⟩ => rfl | ⟨1, _⟩ => rfl⟩

/-- What the call leaves of its heads from column 0 on. -/
abbrev head0 (c : Dev nD) : (⟨S65536x512, .bf16⟩ : BufTy).Contents (Elt Ideal) := scaled (rows m c) (weights m c) 0 Cert.EvenProjReferenceIdeal.Facts₀.slices_S65536x2144_S65536x512_0_0

theorem final5 (c : Dev nD) : ((dats m 0 c).arrAt 5 cfg0.N : S65536x512.Idx → EReal) = head0 m c := by
  refine (dats m 0 c).arrAt_eq_of_covers 5 _ covers5 (fun t hf y => ?_)
  blk_simp
  rw [after0_5]
  have ht : t.val < 128 := t.isLt
  obtain ⟨r, q, rfl⟩ := idx_eq (a := 512) (b := 512) y
  have hr := r.isLt
  have hp : t.val * 512 + r.val < 65536 := by omega
  rw [emb5 t r q ⟨_, hp⟩ rfl]
  refine (out5_at _ _ _ _ _ r q).trans (Eq.trans ?_ (scaled_at (rows m c) (weights m c) 0 (by decide) _ ⟨_, hp⟩ q).symm)
  exact congrArg (fun z : EReal => z * Ideal.ofBits FTy.f32 0x3E38AA3B#32) (turned_block m c t r ⟨_, hp⟩ rfl 0 0 (by decide) (fun k q q' e => stacked_at0 _ k q q' e) q)

/-- What the call leaves of its heads from column 640 on. -/
abbrev head1 (c : Dev nD) : (⟨S65536x512, .bf16⟩ : BufTy).Contents (Elt Ideal) := unscaled (rows m c) (weights m c) 640 Cert.EvenProjReferenceIdeal.Facts₀.slices_S65536x2144_S65536x512_0_640

theorem final6 (c : Dev nD) : ((dats m 0 c).arrAt 6 cfg0.N : S65536x512.Idx → EReal) = head1 m c := by
  refine (dats m 0 c).arrAt_eq_of_covers 6 _ covers6 (fun t hf y => ?_)
  blk_simp
  rw [after0_6]
  have ht : t.val < 128 := t.isLt
  obtain ⟨r, q, rfl⟩ := idx_eq (a := 512) (b := 512) y
  have hr := r.isLt
  have hp : t.val * 512 + r.val < 65536 := by omega
  rw [emb6 t r q ⟨_, hp⟩ rfl]
  refine (out6_at _ _ _ _ _ r q).trans (Eq.trans ?_ (unscaled_at (rows m c) (weights m c) 640 (by decide) _ ⟨_, hp⟩ q).symm)
  exact turned_block m c t r ⟨_, hp⟩ rfl 1 640 (by decide) (fun k q q' e => stacked_at1 _ k q q' e) q

/-- What the call leaves of its heads from column 1224 on. -/
abbrev head2 (c : Dev nD) : (⟨S65536x512, .bf16⟩ : BufTy).Contents (Elt Ideal) := scaled (rows m c) (weights m c) 1224 Cert.EvenProjReferenceIdeal.Facts₀.slices_S65536x2144_S65536x512_0_1224

theorem final7 (c : Dev nD) : ((dats m 0 c).arrAt 7 cfg0.N : S65536x512.Idx → EReal) = head2 m c := by
  refine (dats m 0 c).arrAt_eq_of_covers 7 _ covers7 (fun t hf y => ?_)
  blk_simp
  rw [after0_7]
  have ht : t.val < 128 := t.isLt
  obtain ⟨r, q, rfl⟩ := idx_eq (a := 512) (b := 512) y
  have hr := r.isLt
  have hp : t.val * 512 + r.val < 65536 := by omega
  rw [emb7 t r q ⟨_, hp⟩ rfl]
  refine (out7_at _ _ _ _ _ r q).trans (Eq.trans ?_ (scaled_at (rows m c) (weights m c) 1224 (by decide) _ ⟨_, hp⟩ q).symm)
  exact congrArg (fun z : EReal => z * Ideal.ofBits FTy.f32 0x3E38AA3B#32) (turned_block m c t r ⟨_, hp⟩ rfl 2 1224 (by decide) (fun k q q' e => stacked_at2 _ k q q' e) q)

/-- The call's other columns: the product with the padded weights. -/
def wide (c : Dev nD) (i : S65536x640.Idx) : EReal :=
  prod (fun k => rows m c (ix2 (i 0) k)) (fun k q => (padded (weights m c) (ix2 k q) : EReal)) (i 1)

theorem final8 (c : Dev nD) : ((dats m 0 c).arrAt 8 cfg0.N : S65536x640.Idx → EReal) = wide m c := by
  refine (dats m 0 c).arrAt_eq_of_covers 8 _ covers8 (fun t hf y => ?_)
  blk_simp
  rw [after0_8]
  have ht : t.val < 128 := t.isLt
  obtain ⟨r, q, rfl⟩ := idx_eq (a := 512) (b := 640) y
  have hr := r.isLt
  have hp : t.val * 512 + r.val < 65536 := by omega
  rw [emb8 t r q ⟨_, hp⟩ rfl]
  refine (out8_at _ _ _ _ _ r q).trans ?_
  unfold wide prod
  refine Finset.sum_congr rfl fun k _ => congrArg₂ (fun a b : EReal => a * b) (row_at m c t r ⟨_, hp⟩ rfl k) ?_
  exact (blk2 m c t k q).trans (congrFun (in2_eq m c) _)

/-- The columns that are not turned. -/
abbrev others (c : Dev nD) : (⟨S65536x608, .f32⟩ : BufTy).Contents (Elt Ideal) := rest (rows m c) (weights m c)

theorem tail_eq (c : Dev nD) :
    Pipeline.afterTail₀ cfgs (dats m) 0 (V0 m) [hostOps1] c main_v27
      = extractStridedSlice S65536x608 ![0, 0] ((dats m 0 c).arrAt 8 cfg0.N : S65536x640.Idx → EReal) slices_S65536x640_S65536x608_0_0 := by
  unfold Pipeline.afterTail₀
  simp only [hostOps1, List.flatten_cons, List.flatten_nil, List.append_nil]
  after_results
  exact congrArg (fun X : S65536x640.Idx → EReal => extractStridedSlice S65536x608 ![0, 0] X slices_S65536x640_S65536x608_0_0)
    (Pipeline.withArrays_arr spec0 (by decide) c (V0 m c) _ 8)

theorem result (c : Dev nD) : (Pipeline.afterTail₀ cfgs (dats m) 0 (V0 m) [hostOps1] c main_v27 : S65536x608.Idx → EReal) = others m c := by
  rw [tail_eq, final8]
  funext i
  obtain ⟨p, j, rfl⟩ := idx_eq (a := 65536) (b := 608) i
  have hj := j.isLt
  have e : extractStridedSlice S65536x608 ![0, 0] (wide m c) slices_S65536x640_S65536x608_0_0 (ix2 p j) = wide m c (ix2 p ⟨j.val, by omega⟩ : S65536x640.Idx) :=
    extractStridedSlice_apply _ _ _ (ix2 p j) _ (fun a => by
      match a with
      | ⟨0, _⟩ => exact (Nat.zero_add _).symm
      | ⟨1, _⟩ => exact (Nat.zero_add _).symm)
  refine e.trans (Eq.trans ?_ (rest_at (rows m c) (weights m c) p j).symm)
  unfold wide prod
  exact Finset.sum_congr rfl fun k _ => congrArg₂ (fun a b : EReal => a * b) rfl (padded_at (weights m c) k j _ rfl)

/-- The run leaves the reference's four results. -/
theorem run_out : θ_run defs (onTc (τ := τ) (main (F := Ideal))) ⟨m, fun _ => 0, ρ⟩ (fun r => ∀ c : Dev nD,
      r.2.mem ((c.tc : Thread nD τ).loc main_v26_0) = head0 m c ∧ r.2.mem ((c.tc : Thread nD τ).loc main_v26_1) = head1 m c
      ∧ r.2.mem ((c.tc : Thread nD τ).loc main_v26_2) = head2 m c ∧ r.2.mem ((c.tc : Thread nD τ).loc main_v27) = others m c) :=
  (θ_run defs _ _).mono (fun r h c => ⟨((h c).1 5).trans (final5 m c), ((h c).1 6).trans (final6 m c), ((h c).1 7).trans (final7 m c),
    ((h c).2 main_v27 (Pipeline.mem_restRefs_of main_v27 (by decide) (by decide))).trans (result m c)⟩)
    (run_main m ρ)

end Cert.EvenProjIdeal.Gen

end
-- ==== Proof.CompressPay.lean ====
/- The compression of a head's rows: the formula of a window, and the kernel's payload read at an index. -/
module

public import proofs.«01_k».proof.Proof.Gen.CompressIdeal.Frame
public import Idealize.ShloMosaic.Lib.Pointwise
public import Idealize.ShloMosaic.Lib.KernelVsHost
public import Idealize.ShloMosaic.Lib.Pipeline.ValueKit
public import Idealize.ShloMosaic.PureOps.Ideal.Laws

@[expose] public section

noncomputable section

namespace Cert.CompressRow

open Idealize.ShloMosaic

/-- One factor of the kernel's gate: a number times its logistic. -/
def gate (a : EReal) : EReal := a * Ideal.div 1 (1 + Ideal.exp (0 - a))

/-- A window of 32 rows, laid out in one row, with the positions added. -/
def window (x : Fin 2048 → Fin 64 → EReal) (pe : Fin 32 → Fin 64 → EReal) (n : Fin 127) (k : Fin 2048) : EReal :=
  x ⟨n.val * 16 + k.val / 64, by have := n.isLt; have := k.isLt; omega⟩ ⟨k.val % 64, Nat.mod_lt _ (by decide)⟩
    + pe ⟨k.val / 64, by have := k.isLt; omega⟩ ⟨k.val % 64, Nat.mod_lt _ (by decide)⟩

/-- A compressed row's column. -/
def squeezed (r : Fin 2048 → EReal) (w1 : Fin 2048 → Fin 64 → EReal) (w2 : Fin 64 → Fin 64 → EReal) (e : Fin 64) : EReal :=
  ∑ f, gate (∑ k, r k * w1 k f) * w2 f e

/-- A sum over a window is the sum over its first rows and the sum over its last ones. -/
theorem sum_window (g : Fin 2048 → EReal) :
    (∑ k : Fin 1024, g ⟨k.val, by have := k.isLt; omega⟩) + (∑ k : Fin 1024, g ⟨1024 + k.val, by have := k.isLt; omega⟩) = ∑ k, g k :=
  (Fin.sum_univ_add (M := EReal) (a := 1024) (b := 1024) g).symm

end Cert.CompressRow

namespace Cert.CompressIdeal.Gen

open Idealize.ShloMosaic Idealize.ShloMosaic.TcCoe Idealize.SL.Sem Cert.CompressRow

/-- A read block holds what stands at its place. -/
theorem ld_at {S : Shape} {e : EltTy} (X : Vec Ideal S e) (off size : Fin S.rank → Nat) (inb) (y : (Rect.unit (s := S) off size inb).shape.Idx) (i : S.Idx)
    (h : ∀ a, (i a).val = off a + (y a).val) : View.ld X (Rect.unit (s := S) off size inb) y = X i := by
  refine congrArg X (funext fun a => Fin.ext ?_)
  exact (ValueKit.rect_emb_unit_val _ _ _ _ a).trans (h a).symm

/-- Half of a window's product. -/
def part (v : Vec Ideal S1x128x1024 .f32) (p : Vec Ideal S1x1024 .f32) (w : Vec Ideal S1024x64 .bf16) : FVec Ideal S128x64 .f32 :=
  matmul (φ₂ := .bf16) dot_S128x1024_S1024x64_S128x64_1_0_0_1_n_n none
    (truncf .bf16 (addf (shapeCast S128x1024 v shapeCasts_S1x128x1024_S128x1024)
      (broadcastTo S128x1024 (shapeCast S1x1024 p shapeCasts_S1x1024_S1x1024) broadcasts_S1x1024_S128x1024)) bitsLt_bf16_f32)
    (shapeCast S1024x64 w shapeCasts_S1024x64_S1024x64) (constant S128x64 .f32 0x00000000#32)

/-- The gated product of the two halves' sum. -/
def gated (h : FVec Ideal S128x64 .f32) (w : Vec Ideal S64x64 .bf16) : FVec Ideal S1x128x64 .f32 :=
  shapeCast S1x128x64 (matmul (φ₂ := .bf16) dot_S128x64_S64x64_S128x64_1_0_0_1_n_n none
    (truncf .bf16 (mulf h (divf (broadcast S128x64 (Scalar.ofBits .f32 0x3F800000#32))
      (addf (broadcast S128x64 (Scalar.ofBits .f32 0x3F800000#32)) (exp (subf (broadcast S128x64 (Scalar.ofBits .f32 0x00000000#32)) h))))) bitsLt_bf16_f32)
    (shapeCast S64x64 w shapeCasts_S64x64_S64x64) (constant S128x64 .f32 0x00000000#32)) shapeCasts_S128x64_S1x128x64

theorem pay_eq (v0 : Vec Ideal S1x128x1024 .f32) (v2 : Vec Ideal S1x1024 .f32) (v7 : Vec Ideal S1024x64 .bf16) (v10 : Vec Ideal S1x1024 .f32)
    (v15 : Vec Ideal S1024x64 .bf16) (v29 : Vec Ideal S64x64 .bf16) :
    k0_pay1 v0 v2 v7 v10 v15 v29 = gated (addf (part v0 v2 v7) (dynamicRotate 0 127#32 none (part v0 v10 v15) rotates_S128x64_d0)) v29 := rfl

theorem part_at (v : Vec Ideal S1x128x1024 .f32) (p : Vec Ideal S1x1024 .f32) (w : Vec Ideal S1024x64 .bf16) (n : Fin 128) (f : Fin 64) :
    part v p w (ix2 n f) = ∑ k : Fin 1024, ((v (ix3 (0 : Fin 1) n k) : EReal) + p (ix2 (0 : Fin 1) k)) * w (ix2 k f) := by
  pointwise [part]

theorem gated_at (h : FVec Ideal S128x64 .f32) (w : Vec Ideal S64x64 .bf16) (n : Fin 128) (e : Fin 64) :
    gated h w (ix3 (0 : Fin 1) n e) = ∑ f : Fin 64, gate (h (ix2 n f)) * w (ix2 f e) := by
  pointwise [gated, gate]

theorem turned_at (h : FVec Ideal S128x64 .f32) (n n' : Fin 128) (e : n'.val = n.val + 1) (f : Fin 64) :
    dynamicRotate 0 127#32 none h rotates_S128x64_d0 (ix2 n f) = h (ix2 n' f) := by
  refine dynamicRotate_apply _ _ _ _ (ix2 n f) (ix2 n' f) (fun a => ?_)
  have := n.isLt
  have := n'.isLt
  match a with
  | ⟨0, _⟩ => show n'.val = (n.val + 128 - 127 % 128) % 128; omega
  | ⟨1, _⟩ => rfl

/-- What the body leaves of a window that does not wrap. -/
theorem out4_at (x0 : Vec Ideal S1x128x1024 .f32) (x1 : Vec Ideal S2x1024 .f32) (x2 : Vec Ideal S2048x64 .bf16) (x3 : Vec Ideal S64x64 .bf16)
    (n n' : Fin 128) (h : n'.val = n.val + 1) (e : Fin 64) :
    out0_4 x0 x1 x2 x3 (ix3 (0 : Fin 1) n e)
      = ∑ f : Fin 64, gate ((∑ k : Fin 1024, ((x0 (ix3 (0 : Fin 1) n k) : EReal) + x1 (ix2 (0 : Fin 2) k)) * x2 (ix2 (⟨k.val, by have := k.isLt; omega⟩ : Fin 2048) f))
          + ∑ k : Fin 1024, ((x0 (ix3 (0 : Fin 1) n' k) : EReal) + x1 (ix2 (1 : Fin 2) k)) * x2 (ix2 (⟨1024 + k.val, by have := k.isLt; omega⟩ : Fin 2048) f)) * x3 (ix2 f e) := by
  unfold out0_4
  rw [View.canon_cons_unit_lit', pay_eq, gated_at]
  · refine Finset.sum_congr rfl fun f _ => congrArg₂ (fun a b : EReal => gate a * b) ?_ ?_
    · refine congrArg₂ (fun a b : EReal => a + b) ((part_at _ _ _ n f).trans ?_) (((turned_at _ n n' h f).trans (part_at _ _ _ n' f)).trans ?_)
      · refine Finset.sum_congr rfl fun k _ => congrArg₂ (fun a b : EReal => a * b) (congrArg₂ (fun a b : EReal => a + b) ?_ ?_) ?_
        · exact ld_at x0 _ _ _ _ _ (fun a => by match a with | ⟨0, _⟩ => rfl | ⟨1, _⟩ => exact (Nat.zero_add _).symm | ⟨2, _⟩ => exact (Nat.zero_add _).symm)
        · exact ld_at x1 _ _ _ _ _ (fun a => by match a with | ⟨0, _⟩ => rfl | ⟨1, _⟩ => exact (Nat.zero_add _).symm)
        · exact ld_at x2 _ _ _ _ _ (fun a => by match a with | ⟨0, _⟩ => exact (Nat.zero_add _).symm | ⟨1, _⟩ => exact (Nat.zero_add _).symm)
      · refine Finset.sum_congr rfl fun k _ => congrArg₂ (fun a b : EReal => a * b) (congrArg₂ (fun a b : EReal => a + b) ?_ ?_) ?_
        · exact ld_at x0 _ _ _ _ _ (fun a => by match a with | ⟨0, _⟩ => rfl | ⟨1, _⟩ => exact (Nat.zero_add _).symm | ⟨2, _⟩ => exact (Nat.zero_add _).symm)
        · exact ld_at x1 _ _ _ _ _ (fun a => by match a with | ⟨0, _⟩ => rfl | ⟨1, _⟩ => exact (Nat.zero_add _).symm)
        · exact ld_at x2 _ _ _ _ _ (fun a => by match a with | ⟨0, _⟩ => rfl | ⟨1, _⟩ => exact (Nat.zero_add _).symm)
    · exact ld_at x3 _ _ _ _ _ (fun a => by match a with | ⟨0, _⟩ => exact (Nat.zero_add _).symm | ⟨1, _⟩ => exact (Nat.zero_add _).symm)
  · decide

end Cert.CompressIdeal.Gen

end
-- ==== Proof.CompressRef.lean ====
/- The reference of the compression, read at an index. -/
module

public import proofs.«01_k».proof.Proof.Gen.CompressReferenceIdeal.Run
public import proofs.«01_k».proof.Proof.CompressPay
public import Idealize.ShloMosaic.Lib.ValueIdxCore
public import Idealize.ShloMosaic.Shape

@[expose] public section

noncomputable section

namespace Cert.CompressReferenceIdeal.Value

open Cert.CompressReferenceIdeal Cert.CompressReferenceIdeal.Gen Idealize.ShloMosaic Idealize.ShloMosaic.TcCoe Idealize.SL.Sem Cert.CompressRow

/-- The rows of every window. -/
def rowsOf : IVec S127x32x1 32 :=
  broadcastInDim S127x32x1 ![0, 1] bcast_S127x32_S127x32x1_0_1 (select (constantI S127x32 1 0#1)
    (addi (fun i => lit0 (S127x32.rowMajor i)) (broadcastInDim S127x32 ![] bcast_S_S127x32 (constantI S_ 32 2048#32))) (fun i => lit0 (S127x32.rowMajor i)))

theorem rowsOf_at (n : Fin 127) (t : Fin 32) : rowsOf (ix3 n t (0 : Fin 1)) = lit0 ⟨n.val * 32 + t.val, by have := n.isLt; have := t.isLt; omega⟩ := by
  have hj : n.val * 32 + t.val < 4064 := by have := n.isLt; have := t.isLt; omega
  have e : S127x32.rowMajor (ix2 n t) = (⟨n.val * 32 + t.val, hj⟩ : Fin 4064) := Fin.ext (Shape.rowMajor_val_two _)
  refine Eq.trans (b := lit0 (S127x32.rowMajor (ix2 n t))) ?_ (congrArg lit0 e)
  unfold rowsOf
  pointwise

theorem table : ∀ j : Fin 4064, (lit0 j).toInt.toNat = j.val / 32 * 16 + j.val % 32 := by decide +kernel

/-- The gathered row stands where its index says. -/
theorem taken_at (x : FVec Ideal S32x2048x64 .f32) (b : Fin 32) (n : Fin 127) (t : Fin 32) (d : Fin 64) (q : Fin 2048) (h : q.val = n.val * 16 + t.val) :
    Host.gather gather_S32x2048x64_S127x32x1_S32x127x32x64_03_1_n_n_1_2_32164 x rowsOf (ValueIdx.ix4 b n t d) = x (ix3 b q d) := by
  have hidx : (rowsOf (ix3 n t (0 : Fin 1))).toInt.toNat = q.val := by
    rw [rowsOf_at, table, h]
    have := t.isLt
    show (n.val * 32 + t.val) / 32 * 16 + (n.val * 32 + t.val) % 32 = _
    omega
  unfold Host.gather
  congr 1
  funext a
  refine Fin.ext ?_
  show gather_S32x2048x64_S127x32x1_S32x127x32x64_03_1_n_n_1_2_32164.start (ValueIdx.ix4 b n t d) rowsOf a
    + gather_S32x2048x64_S127x32x1_S32x127x32x64_03_1_n_n_1_2_32164.batchCoord (ValueIdx.ix4 b n t d) a
    + gather_S32x2048x64_S127x32x1_S32x127x32x64_03_1_n_n_1_2_32164.offCoord (ValueIdx.ix4 b n t d) a = _
  rw [GatherDims.batchCoord_eq_zero _ _ _ List.not_mem_nil]
  match a with
  | ⟨0, _⟩ =>
    have hs : gather_S32x2048x64_S127x32x1_S32x127x32x64_03_1_n_n_1_2_32164.start (ValueIdx.ix4 b n t d) rowsOf (0 : Fin 3) = 0 := by
      unfold GatherDims.start
      exact dif_neg (show ¬ (0 : Fin 3) ∈ [(1 : Fin 3)] by decide)
    have ho : gather_S32x2048x64_S127x32x1_S32x127x32x64_03_1_n_n_1_2_32164.offCoord (ValueIdx.ix4 b n t d) (0 : Fin 3) = b.val := by
      unfold GatherDims.offCoord
      rw [dif_pos (show (0 : Fin 3) ∈ gather_S32x2048x64_S127x32x1_S32x127x32x64_03_1_n_n_1_2_32164.sKept from (GatherDims.mem_sKept _ _).mpr ⟨show ¬ (0 : Fin 3) ∈ [(1 : Fin 3)] by decide, List.not_mem_nil⟩)]
      rfl
    exact (congrArg₂ (fun a b : Nat => a + 0 + b) hs ho).trans (by show 0 + 0 + b.val = b.val; omega)
  | ⟨1, _⟩ =>
    have ho : gather_S32x2048x64_S127x32x1_S32x127x32x64_03_1_n_n_1_2_32164.offCoord (ValueIdx.ix4 b n t d) (1 : Fin 3) = 0 :=
      GatherDims.offCoord_eq_zero _ _ _ (fun h => ((GatherDims.mem_sKept _ _).mp h).1 (List.mem_singleton.mpr rfl))
    have hs : gather_S32x2048x64_S127x32x1_S32x127x32x64_03_1_n_n_1_2_32164.start (ValueIdx.ix4 b n t d) rowsOf (1 : Fin 3) = q.val := by
      unfold GatherDims.start
      rw [dif_pos (show (1 : Fin 3) ∈ gather_S32x2048x64_S127x32x1_S32x127x32x64_03_1_n_n_1_2_32164.startIndexMap from List.mem_singleton.mpr rfl)]
      have hsi : gather_S32x2048x64_S127x32x1_S32x127x32x64_03_1_n_n_1_2_32164.siIdx (ValueIdx.ix4 b n t d)
          ⟨List.idxOf (1 : Fin 3) gather_S32x2048x64_S127x32x1_S32x127x32x64_03_1_n_n_1_2_32164.startIndexMap,
            List.idxOf_lt_length_iff.2 (List.mem_singleton.mpr rfl)⟩ = ix3 n t (0 : Fin 1) := by
        funext c; refine Fin.ext ?_
        match c with
        | ⟨0, _⟩ => rfl
        | ⟨1, _⟩ => rfl
        | ⟨2, _⟩ => rfl
      rw [hsi, hidx]
      have := q.isLt
      show min q.val (2048 - 1) = q.val
      omega
    exact (congrArg₂ (fun a b : Nat => a + 0 + b) hs ho).trans (by show q.val + 0 + 0 = q.val; omega)
  | ⟨2, _⟩ =>
    have hs : gather_S32x2048x64_S127x32x1_S32x127x32x64_03_1_n_n_1_2_32164.start (ValueIdx.ix4 b n t d) rowsOf (2 : Fin 3) = 0 := by
      unfold GatherDims.start
      exact dif_neg (show ¬ (2 : Fin 3) ∈ [(1 : Fin 3)] by decide)
    have ho : gather_S32x2048x64_S127x32x1_S32x127x32x64_03_1_n_n_1_2_32164.offCoord (ValueIdx.ix4 b n t d) (2 : Fin 3) = d.val := by
      unfold GatherDims.offCoord
      rw [dif_pos (show (2 : Fin 3) ∈ gather_S32x2048x64_S127x32x1_S32x127x32x64_03_1_n_n_1_2_32164.sKept from (GatherDims.mem_sKept _ _).mpr ⟨show ¬ (2 : Fin 3) ∈ [(1 : Fin 3)] by decide, List.not_mem_nil⟩)]
      rfl
    exact (congrArg₂ (fun a b : Nat => a + 0 + b) hs ho).trans (by show 0 + 0 + d.val = d.val; omega)

/-- The windows' rows with the positions added. -/
def blocks (x : FVec Ideal S32x2048x64 .f32) (pe : FVec Ideal S32x64 .f32) : FVec Ideal S32x127x32x64 .f32 :=
  addf (Host.gather gather_S32x2048x64_S127x32x1_S32x127x32x64_03_1_n_n_1_2_32164 x rowsOf)
    (broadcastInDim S32x127x32x64 ![0, 1, 2, 3] bcast_S1x1x32x64_S32x127x32x64_0_1_2_3 (broadcastInDim S1x1x32x64 ![2, 3] bcast_S32x64_S1x1x32x64_2_3 pe))

theorem spread_at (pe : FVec Ideal S32x64 .f32) (b : Fin 32) (n : Fin 127) (t : Fin 32) (d : Fin 64) :
    broadcastInDim S32x127x32x64 ![0, 1, 2, 3] bcast_S1x1x32x64_S32x127x32x64_0_1_2_3 (broadcastInDim S1x1x32x64 ![2, 3] bcast_S32x64_S1x1x32x64_2_3 pe) (ValueIdx.ix4 b n t d)
      = pe (ix2 t d) := by
  pointwise

theorem flat_at (x : FVec Ideal S32x2048x64 .f32) (pe : FVec Ideal S32x64 .f32) (b : Fin 32) (n : Fin 127) (k : Fin 2048) :
    shapeCast S32x127x2048 (blocks x pe) shapeCasts_S32x127x32x64_S32x127x2048 (ix3 b n k)
      = window (fun s d => x (ix3 b s d)) (fun t d => pe (ix2 t d)) n k := by
  have hn := n.isLt
  have hk := k.isLt
  refine (shapeCast_apply _ _ (ix3 b n k) (ValueIdx.ix4 b n (⟨k.val / 64, by omega⟩ : Fin 32) (⟨k.val % 64, Nat.mod_lt _ (by decide)⟩ : Fin 64) : S32x127x32x64.Idx) ?_).trans ?_
  · rw [Shape.rowMajor_val_three, Shape.rowMajor_val_four]
    show ((b.val * 127 + n.val) * 32 + k.val / 64) * 64 + k.val % 64 = (b.val * 127 + n.val) * 2048 + k.val
    omega
  · exact congrArg₂ (fun a b : EReal => a + b) (taken_at x b n _ _ _ rfl) (spread_at pe b n _ _)

theorem lhs0 (i : S32x127x64.Idx) (q : dot_S32x127x2048_S2048x64_S32x127x64_2_0_01_1_n_n.contr.Idx) : (dot_S32x127x2048_S2048x64_S32x127x64_2_0_01_1_n_n.lhsIdx i q 0).val = (i 0).val := by
  unfold DotDims.lhsIdx
  rw [dif_neg (show ¬(0 : Fin S32x127x2048.rank) ∈ dot_S32x127x2048_S2048x64_S32x127x64_2_0_01_1_n_n.lhsBatch by decide), dif_pos (show (0 : Fin S32x127x2048.rank) ∈ dot_S32x127x2048_S2048x64_S32x127x64_2_0_01_1_n_n.lhsNonContracting by decide)]
  rfl

theorem lhs1 (i : S32x127x64.Idx) (q : dot_S32x127x2048_S2048x64_S32x127x64_2_0_01_1_n_n.contr.Idx) : (dot_S32x127x2048_S2048x64_S32x127x64_2_0_01_1_n_n.lhsIdx i q 1).val = (i 1).val := by
  unfold DotDims.lhsIdx
  rw [dif_neg (show ¬(1 : Fin S32x127x2048.rank) ∈ dot_S32x127x2048_S2048x64_S32x127x64_2_0_01_1_n_n.lhsBatch by decide), dif_pos (show (1 : Fin S32x127x2048.rank) ∈ dot_S32x127x2048_S2048x64_S32x127x64_2_0_01_1_n_n.lhsNonContracting by decide)]
  rfl

theorem rhs1 (i : S32x127x64.Idx) (q : dot_S32x127x2048_S2048x64_S32x127x64_2_0_01_1_n_n.contr.Idx) : (dot_S32x127x2048_S2048x64_S32x127x64_2_0_01_1_n_n.rhsIdx i q 1).val = (i 2).val := by
  unfold DotDims.rhsIdx
  rw [dif_neg (show ¬(1 : Fin S2048x64.rank) ∈ dot_S32x127x2048_S2048x64_S32x127x64_2_0_01_1_n_n.rhsBatch by decide), dif_pos (show (1 : Fin S2048x64.rank) ∈ dot_S32x127x2048_S2048x64_S32x127x64_2_0_01_1_n_n.rhsNonContracting by decide)]
  rfl

theorem first_at (x : FVec Ideal S32x127x2048 .f32) (w : FVec Ideal S2048x64 .f32) (b : Fin 32) (n : Fin 127) (f : Fin 64) :
    Host.dotGeneral dot_S32x127x2048_S2048x64_S32x127x64_2_0_01_1_n_n none x w (ix3 b n f) = ∑ k : Fin 2048, (x (ix3 b n k) : EReal) * w (ix2 k f) := by
  simp only [Host.dotGeneral]
  rw [Ideal.dotGeneral_apply, ← Equiv.sum_comp (ValueIdx.contrEquiv1 dot_S32x127x2048_S2048x64_S32x127x64_2_0_01_1_n_n 2048 rfl rfl).symm]
  refine Finset.sum_congr rfl fun k _ => ?_
  have hk := ValueIdx.contrEquiv1_symm_val dot_S32x127x2048_S2048x64_S32x127x64_2_0_01_1_n_n 2048 rfl rfl k
  refine congrArg₂ (fun a b : EReal => a * b) (congrArg x (funext fun a => Fin.ext ?_)) (congrArg w (funext fun a => Fin.ext ?_))
  · match a with
    | ⟨0, _⟩ => exact lhs0 _ _
    | ⟨1, _⟩ => exact lhs1 _ _
    | ⟨2, _⟩ => exact (dot_S32x127x2048_S2048x64_S32x127x64_2_0_01_1_n_n.lhsIdx_val_of_single rfl _ _).trans hk
  · match a with
    | ⟨0, _⟩ => exact (dot_S32x127x2048_S2048x64_S32x127x64_2_0_01_1_n_n.rhsIdx_val_of_single rfl _ _).trans hk
    | ⟨1, _⟩ => exact rhs1 _ _

theorem lhs0' (i : S32x127x64.Idx) (q : dot_S32x127x64_S64x64_S32x127x64_2_0_01_1_n_n.contr.Idx) : (dot_S32x127x64_S64x64_S32x127x64_2_0_01_1_n_n.lhsIdx i q 0).val = (i 0).val := by
  unfold DotDims.lhsIdx
  rw [dif_neg (show ¬(0 : Fin S32x127x64.rank) ∈ dot_S32x127x64_S64x64_S32x127x64_2_0_01_1_n_n.lhsBatch by decide), dif_pos (show (0 : Fin S32x127x64.rank) ∈ dot_S32x127x64_S64x64_S32x127x64_2_0_01_1_n_n.lhsNonContracting by decide)]
  rfl

theorem lhs1' (i : S32x127x64.Idx) (q : dot_S32x127x64_S64x64_S32x127x64_2_0_01_1_n_n.contr.Idx) : (dot_S32x127x64_S64x64_S32x127x64_2_0_01_1_n_n.lhsIdx i q 1).val = (i 1).val := by
  unfold DotDims.lhsIdx
  rw [dif_neg (show ¬(1 : Fin S32x127x64.rank) ∈ dot_S32x127x64_S64x64_S32x127x64_2_0_01_1_n_n.lhsBatch by decide), dif_pos (show (1 : Fin S32x127x64.rank) ∈ dot_S32x127x64_S64x64_S32x127x64_2_0_01_1_n_n.lhsNonContracting by decide)]
  rfl

theorem rhs1' (i : S32x127x64.Idx) (q : dot_S32x127x64_S64x64_S32x127x64_2_0_01_1_n_n.contr.Idx) : (dot_S32x127x64_S64x64_S32x127x64_2_0_01_1_n_n.rhsIdx i q 1).val = (i 2).val := by
  unfold DotDims.rhsIdx
  rw [dif_neg (show ¬(1 : Fin S64x64.rank) ∈ dot_S32x127x64_S64x64_S32x127x64_2_0_01_1_n_n.rhsBatch by decide), dif_pos (show (1 : Fin S64x64.rank) ∈ dot_S32x127x64_S64x64_S32x127x64_2_0_01_1_n_n.rhsNonContracting by decide)]
  rfl

theorem second_at (x : FVec Ideal S32x127x64 .f32) (w : FVec Ideal S64x64 .f32) (b : Fin 32) (n : Fin 127) (e : Fin 64) :
    Host.dotGeneral dot_S32x127x64_S64x64_S32x127x64_2_0_01_1_n_n none x w (ix3 b n e) = ∑ f : Fin 64, (x (ix3 b n f) : EReal) * w (ix2 f e) := by
  simp only [Host.dotGeneral]
  rw [Ideal.dotGeneral_apply, ← Equiv.sum_comp (ValueIdx.contrEquiv1 dot_S32x127x64_S64x64_S32x127x64_2_0_01_1_n_n 64 rfl rfl).symm]
  refine Finset.sum_congr rfl fun k _ => ?_
  have hk := ValueIdx.contrEquiv1_symm_val dot_S32x127x64_S64x64_S32x127x64_2_0_01_1_n_n 64 rfl rfl k
  refine congrArg₂ (fun a b : EReal => a * b) (congrArg x (funext fun a => Fin.ext ?_)) (congrArg w (funext fun a => Fin.ext ?_))
  · match a with
    | ⟨0, _⟩ => exact lhs0' _ _
    | ⟨1, _⟩ => exact lhs1' _ _
    | ⟨2, _⟩ => exact (dot_S32x127x64_S64x64_S32x127x64_2_0_01_1_n_n.lhsIdx_val_of_single rfl _ _).trans hk
  · match a with
    | ⟨0, _⟩ => exact (dot_S32x127x64_S64x64_S32x127x64_2_0_01_1_n_n.rhsIdx_val_of_single rfl _ _).trans hk
    | ⟨1, _⟩ => exact rhs1' _ _

/-- The gated hidden rows. -/
def silu (h : FVec Ideal S32x127x64 .f32) : FVec Ideal S32x127x64 .f32 :=
  mulf h (Host.divf (broadcastInDim S32x127x64 ![] bcast_S_S32x127x64 (constant S_ .f32 0x3F800000#32))
    (addf (broadcastInDim S32x127x64 ![] bcast_S_S32x127x64 (constant S_ .f32 0x3F800000#32)) (Host.exp (Host.negf h))))

theorem silu_at (h : FVec Ideal S32x127x64 .f32) (i : S32x127x64.Idx) : silu h i = gate (h i) := by
  unfold gate
  rw [zero_sub, ← Ideal.ofBits_one_f32]
  rfl

/-- The reference's result. -/
def compressed (x : FVec Ideal S32x2048x64 .f32) (pe : FVec Ideal S32x64 .f32) (w1 : FVec Ideal S2048x64 .f32) (w2 : FVec Ideal S64x64 .f32) : FVec Ideal S32x127x64 .f32 :=
  Host.dotGeneral dot_S32x127x64_S64x64_S32x127x64_2_0_01_1_n_n none
    (silu (Host.dotGeneral dot_S32x127x2048_S2048x64_S32x127x64_2_0_01_1_n_n none (shapeCast S32x127x2048 (blocks x pe) shapeCasts_S32x127x32x64_S32x127x2048) w1)) w2

theorem compressed_at (x : FVec Ideal S32x2048x64 .f32) (pe : FVec Ideal S32x64 .f32) (w1 : FVec Ideal S2048x64 .f32) (w2 : FVec Ideal S64x64 .f32)
    (b : Fin 32) (n : Fin 127) (e : Fin 64) :
    compressed x pe w1 w2 (ix3 b n e)
      = squeezed (window (fun s d => x (ix3 b s d)) (fun t d => pe (ix2 t d)) n) (fun k f => w1 (ix2 k f)) (fun f e => w2 (ix2 f e)) e := by
  refine (second_at _ w2 b n e).trans (Finset.sum_congr rfl fun f _ => congrArg (fun a : EReal => a * w2 (ix2 f e)) ?_)
  rw [silu_at, first_at]
  exact congrArg gate (Finset.sum_congr rfl fun k _ => congrArg (fun a : EReal => a * w1 (ix2 k f)) (flat_at x pe b n k))

end Cert.CompressReferenceIdeal.Value

end
-- ==== Proof.CompressRun.lean ====
/- The compression: the windows of every sequence, and the rows the host keeps of them. -/
module

public import proofs.«01_k».proof.Proof.Gen.CompressIdeal.Frame
public import proofs.«01_k».proof.Proof.CompressRef
public import Idealize.ShloMosaic.Lib.Pointwise
public import Idealize.ShloMosaic.Lib.KernelVsHost
public import Idealize.ShloMosaic.Lib.Claim
public import Idealize.ShloMosaic.Lib.Pipeline.ValueKit
public import Idealize.ShloMosaic.PureOps.Ideal.Laws

@[expose] public section

noncomputable section

namespace Cert.CompressIdeal.Gen

open Idealize.ShloMosaic Idealize.ShloMosaic.TcCoe Idealize.SL.Sem Idealize.ShloMosaic.Tactic Cert.CompressRow

variable (m : (ℓ : Loc nD τ sig) → Buf (Elt Ideal) ℓ) (ρ : Dev nD → PrngReg)

theorem tr0 : ∀ t : Fin grid0.N, cc0_transform_0 (grid0.coords t) = ![t.val, 0, 0] := by decide +kernel
theorem tr1 : ∀ t : Fin grid0.N, cc0_transform_1 (grid0.coords t) = ![0, 0] := by decide +kernel
theorem tr2 : ∀ t : Fin grid0.N, cc0_transform_2 (grid0.coords t) = ![0, 0] := by decide +kernel
theorem tr3 : ∀ t : Fin grid0.N, cc0_transform_3 (grid0.coords t) = ![0, 0] := by decide +kernel
theorem tr4 : ∀ t : Fin grid0.N, cc0_transform_4 (grid0.coords t) = ![t.val, 0, 0] := by decide +kernel

theorem blk0 (c : Dev nD) (t : Fin grid0.N) (b : Fin 32) (h : b.val = t.val) (n : Fin 128) (k : Fin 1024) :
    (iblk m c 0 t : S1x128x1024.Idx → EReal) (ix3 (0 : Fin 1) n k) = V m c main_v0 (ix3 b n k : S32x128x1024.Idx) := by
  refine congrArg (V m c main_v0) (funext fun a => Fin.ext ?_)
  refine (ValueKit.view_emb_slice_whole_unit_val main_v0 _ _ _ _ a).trans ?_
  change cc0_transform_0 (grid0.coords t) a * S1x128x1024.size a + _ = _
  rw [tr0 t]
  match a with
  | ⟨0, _⟩ => show t.val * 1 + 0 = b.val; omega
  | ⟨1, _⟩ => show 0 * 128 + n.val = n.val; omega
  | ⟨2, _⟩ => show 0 * 1024 + k.val = k.val; omega

theorem blk1 (c : Dev nD) (t : Fin grid0.N) (r : Fin 2) (k : Fin 1024) :
    (iblk m c 1 t : S2x1024.Idx → EReal) (ix2 r k) = V m c main_v1 (ix2 r k : S2x1024.Idx) := by
  refine congrArg (V m c main_v1) (funext fun a => Fin.ext ?_)
  refine (ValueKit.view_emb_slice_whole_unit_val main_v1 _ _ _ _ a).trans ?_
  change cc0_transform_1 (grid0.coords t) a * S2x1024.size a + _ = _
  rw [tr1 t]
  match a with
  | ⟨0, _⟩ => show 0 * 2 + r.val = r.val; omega
  | ⟨1, _⟩ => show 0 * 1024 + k.val = k.val; omega

theorem blk2 (c : Dev nD) (t : Fin grid0.N) (k : Fin 2048) (f : Fin 64) :
    (iblk m c 2 t : S2048x64.Idx → EReal) (ix2 k f) = V m c main_v2 (ix2 k f : S2048x64.Idx) := by
  refine congrArg (V m c main_v2) (funext fun a => Fin.ext ?_)
  refine (ValueKit.view_emb_slice_whole_unit_val main_v2 _ _ _ _ a).trans ?_
  change cc0_transform_2 (grid0.coords t) a * S2048x64.size a + _ = _
  rw [tr2 t]
  match a with
  | ⟨0, _⟩ => show 0 * 2048 + k.val = k.val; omega
  | ⟨1, _⟩ => show 0 * 64 + f.val = f.val; omega

theorem blk3 (c : Dev nD) (t : Fin grid0.N) (k : Fin 64) (f : Fin 64) :
    (iblk m c 3 t : S64x64.Idx → EReal) (ix2 k f) = V m c main_v3 (ix2 k f : S64x64.Idx) := by
  refine congrArg (V m c main_v3) (funext fun a => Fin.ext ?_)
  refine (ValueKit.view_emb_slice_whole_unit_val main_v3 _ _ _ _ a).trans ?_
  change cc0_transform_3 (grid0.coords t) a * S64x64.size a + _ = _
  rw [tr3 t]
  match a with
  | ⟨0, _⟩ => show 0 * 64 + k.val = k.val; omega
  | ⟨1, _⟩ => show 0 * 64 + f.val = f.val; omega

theorem emb4 (t : Fin grid0.N) (z : Fin 1) (n : Fin 128) (e : Fin 64) (b : Fin 32) (h : b.val = t.val) :
    ((cfg0.win 4).blk t).view.emb (ix3 z n e : S1x128x64.Idx) = (ix3 b n e : S32x128x64.Idx) := by
  refine funext fun a => Fin.ext ?_
  refine (ValueKit.view_emb_slice_whole_unit_val main_v4 _ _ _ _ a).trans ?_
  change cc0_transform_4 (grid0.coords t) a * S1x128x64.size a + _ = _
  rw [tr4 t]
  have hz := z.isLt
  match a with
  | ⟨0, _⟩ => show t.val * 1 + z.val = b.val; omega
  | ⟨1, _⟩ => show 0 * 128 + n.val = n.val; omega
  | ⟨2, _⟩ => show 0 * 64 + e.val = e.val; omega

/-- The arguments. -/
abbrev A0 (c : Dev nD) : S32x2048x64.Idx → EReal := m ((c : Thread nD τ).loc main_arg0)
abbrev A1 (c : Dev nD) : S32x64.Idx → EReal := m ((c : Thread nD τ).loc main_arg1)
abbrev A2 (c : Dev nD) : S2048x64.Idx → EReal := m ((c : Thread nD τ).loc main_arg2)
abbrev A3 (c : Dev nD) : S64x64.Idx → EReal := m ((c : Thread nD τ).loc main_arg3)

/-- Sixteen rows lie side by side in one. -/
theorem in0 (c : Dev nD) (b : Fin 32) (n : Fin 128) (k : Fin 1024) (s : Fin 2048) (d : Fin 64) (hs : s.val = n.val * 16 + k.val / 64) (hd : d.val = k.val % 64) :
    (V m c main_v0 : S32x128x1024.Idx → EReal) (ix3 b n k) = A0 m c (ix3 b s d) := by
  have e : (V m c main_v0 : S32x128x1024.Idx → EReal) = shapeCast S32x128x1024 (A0 m c) shapeCasts_S32x2048x64_S32x128x1024 := by
    unfold V V0
    simp only [hostOps0, List.flatten_cons, List.flatten_nil, List.append_nil, List.cons_append, List.nil_append]
    after_results
    rfl
  rw [e]
  refine shapeCast_apply _ _ (ix3 b n k) (ix3 b s d : S32x2048x64.Idx) ?_
  rw [Shape.rowMajor_val_three, Shape.rowMajor_val_three]
  show (b.val * 2048 + s.val) * 64 + d.val = (b.val * 128 + n.val) * 1024 + k.val
  omega

theorem in1 (c : Dev nD) (r : Fin 2) (k : Fin 1024) (t : Fin 32) (d : Fin 64) (ht : t.val = r.val * 16 + k.val / 64) (hd : d.val = k.val % 64) :
    (V m c main_v1 : S2x1024.Idx → EReal) (ix2 r k) = A1 m c (ix2 t d) := by
  have e : (V m c main_v1 : S2x1024.Idx → EReal) = shapeCast S2x1024 (A1 m c) shapeCasts_S32x64_S2x1024 := by
    unfold V V0
    simp only [hostOps0, List.flatten_cons, List.flatten_nil, List.append_nil, List.cons_append, List.nil_append]
    after_results
    rfl
  rw [e]
  refine shapeCast_apply _ _ (ix2 r k) (ix2 t d : S32x64.Idx) ?_
  rw [Shape.rowMajor_val_two, Shape.rowMajor_val_two]
  show t.val * 64 + d.val = r.val * 1024 + k.val
  omega

theorem in2 (c : Dev nD) : (V m c main_v2 : S2048x64.Idx → EReal) = A2 m c := by
  unfold V V0
  simp only [hostOps0, List.flatten_cons, List.flatten_nil, List.append_nil, List.cons_append, List.nil_append]
  after_results
  rfl

theorem in3 (c : Dev nD) : (V m c main_v3 : S64x64.Idx → EReal) = A3 m c := by
  unfold V V0
  simp only [hostOps0, List.flatten_cons, List.flatten_nil, List.append_nil, List.cons_append, List.nil_append]
  after_results
  rfl

/-- The call's result array. -/
def all (c : Dev nD) (i : S32x128x64.Idx) : EReal :=
  out0_4 (iblk m c 0 ⟨(i 0).val, (i 0).isLt⟩) (iblk m c 1 ⟨(i 0).val, (i 0).isLt⟩) (iblk m c 2 ⟨(i 0).val, (i 0).isLt⟩) (iblk m c 3 ⟨(i 0).val, (i 0).isLt⟩)
    (ix3 (0 : Fin 1) (i 1) (i 2) : S1x128x64.Idx)

theorem covers4 : (cfg0.win 4).Covers := by decide +kernel

theorem final4 (c : Dev nD) : ((dats m 0 c).arrAt 4 cfg0.N : S32x128x64.Idx → EReal) = all m c := by
  refine (dats m 0 c).arrAt_eq_of_covers 4 _ covers4 (fun t hf y => ?_)
  blk_simp
  rw [after0_4]
  obtain ⟨z, n, e, rfl⟩ : ∃ (z : Fin 1) (n : Fin 128) (e : Fin 64), y = ix3 z n e :=
    ⟨y (0 : Fin 3), y (1 : Fin 3), y (2 : Fin 3), funext fun a => by match a with | ⟨0, _⟩ => rfl | ⟨1, _⟩ => rfl | ⟨2, _⟩ => rfl⟩
  have hz : z = 0 := Subsingleton.elim _ _
  subst hz
  rw [emb4 t 0 n e ⟨t.val, t.isLt⟩ rfl]
  rfl

/-- A window of the result that does not wrap. -/
theorem all_at (c : Dev nD) (b : Fin 32) (n : Fin 127) (n' : Fin 128) (h : n'.val = n.val) (e : Fin 64) :
    all m c (ix3 b n' e) = squeezed (window (fun s d => A0 m c (ix3 b s d)) (fun t d => A1 m c (ix2 t d)) n) (fun k f => A2 m c (ix2 k f)) (fun f e => A3 m c (ix2 f e)) e := by
  have hn := n.isLt
  unfold all squeezed
  refine (out4_at _ _ _ _ n' ⟨n.val + 1, by omega⟩ (by show n.val + 1 = n'.val + 1; omega) e).trans (Finset.sum_congr rfl fun f _ => ?_)
  refine congrArg₂ (fun a b : EReal => gate a * b) ?_ ((blk3 m c _ f e).trans (congrFun (in3 m c) _))
  rw [← sum_window (fun k => window (fun s d => A0 m c (ix3 b s d)) (fun t d => A1 m c (ix2 t d)) n k * A2 m c (ix2 k f))]
  refine congrArg₂ (fun a b : EReal => a + b) (Finset.sum_congr rfl fun k _ => ?_) (Finset.sum_congr rfl fun k _ => ?_)
  · have hk := k.isLt
    refine congrArg₂ (fun a b : EReal => a * b) (congrArg₂ (fun a b : EReal => a + b) ?_ ?_) ((blk2 m c _ _ f).trans (congrFun (in2 m c) _))
    · exact (blk0 m c _ b rfl n' k).trans (in0 m c b n' k _ _ (by show n.val * 16 + k.val / 64 = n'.val * 16 + k.val / 64; omega) rfl)
    · exact (blk1 m c _ 0 k).trans (in1 m c 0 k _ _ (by show k.val / 64 = 0 * 16 + k.val / 64; omega) rfl)
  · have hk := k.isLt
    refine congrArg₂ (fun a b : EReal => a * b) (congrArg₂ (fun a b : EReal => a + b) ?_ ?_) ((blk2 m c _ _ f).trans (congrFun (in2 m c) _))
    · exact (blk0 m c _ b rfl _ k).trans (in0 m c b _ k _ _ (by show n.val * 16 + (1024 + k.val) / 64 = (n.val + 1) * 16 + k.val / 64; omega) (by show (1024 + k.val) % 64 = k.val % 64; omega))
    · exact (blk1 m c _ 1 k).trans (in1 m c 1 k _ _ (by show (1024 + k.val) / 64 = 1 * 16 + k.val / 64; omega) (by show (1024 + k.val) % 64 = k.val % 64; omega))

/-- The result: the reference's rows. -/
abbrev out (c : Dev nD) : (⟨S32x127x64, .f32⟩ : BufTy).Contents (Elt Ideal) :=
  Cert.CompressReferenceIdeal.Value.compressed (A0 m c) (A1 m c) (A2 m c) (A3 m c)

theorem tail_eq (c : Dev nD) :
    Pipeline.afterTail₀ cfgs (dats m) 0 (V0 m) [hostOps1] c main_v5
      = extractStridedSlice S32x127x64 ![0, 0, 0] ((dats m 0 c).arrAt 4 cfg0.N : S32x128x64.Idx → EReal) slices_S32x128x64_S32x127x64_0_0_0 := by
  unfold Pipeline.afterTail₀
  simp only [hostOps1, List.flatten_cons, List.flatten_nil, List.append_nil]
  after_results
  exact congrArg (fun X : S32x128x64.Idx → EReal => extractStridedSlice S32x127x64 ![0, 0, 0] X slices_S32x128x64_S32x127x64_0_0_0)
    (Pipeline.withArrays_arr spec0 (by decide) c (V0 m c) _ 4)

theorem result (c : Dev nD) : (Pipeline.afterTail₀ cfgs (dats m) 0 (V0 m) [hostOps1] c main_v5 : S32x127x64.Idx → EReal) = out m c := by
  rw [tail_eq, final4]
  funext i
  obtain ⟨b, n, e, rfl⟩ : ∃ (b : Fin 32) (n : Fin 127) (e : Fin 64), i = ix3 b n e :=
    ⟨i (0 : Fin 3), i (1 : Fin 3), i (2 : Fin 3), funext fun a => by match a with | ⟨0, _⟩ => rfl | ⟨1, _⟩ => rfl | ⟨2, _⟩ => rfl⟩
  have hn := n.isLt
  have e1 : extractStridedSlice S32x127x64 ![0, 0, 0] (all m c) slices_S32x128x64_S32x127x64_0_0_0 (ix3 b n e) = all m c (ix3 b (⟨n.val, by omega⟩ : Fin 128) e) :=
    extractStridedSlice_apply _ _ _ (ix3 b n e) _ (fun a => by
      match a with
      | ⟨0, _⟩ => exact (Nat.zero_add _).symm
      | ⟨1, _⟩ => exact (Nat.zero_add _).symm
      | ⟨2, _⟩ => exact (Nat.zero_add _).symm)
  exact e1.trans ((all_at m c b n _ rfl e).trans (Cert.CompressReferenceIdeal.Value.compressed_at _ _ _ _ b n e).symm)

/-- The run leaves the reference's rows. -/
theorem run_out : θ_run defs (onTc (τ := τ) (main (F := Ideal))) ⟨m, fun _ => 0, ρ⟩ (fun r => ∀ c : Dev nD,
      r.2.mem ((c.tc : Thread nD τ).loc main_v5) = out m c) :=
  (θ_run defs _ _).mono (fun r h c => ((h c).2 main_v5 (Pipeline.mem_restRefs_of main_v5 (by decide) (by decide))).trans (result m c))
    (run_main m ρ)

end Cert.CompressIdeal.Gen

end
-- ==== Proof.RouteSel.lean ====
module

public import Idealize.ShloMosaic.Lib.SortPrefix
public import Idealize.ShloMosaic.PureOps.Ideal.Laws

/-! The first greatest entries of a row, one after another: `amax` is the position of the first greatest entry,
`cand f r` the row with its first `r` choices put to the bottom, and a stable sort by "greater" takes the choices
in that order. -/

@[expose] public section

namespace RouteSel

open Idealize.ShloMosaic

theorem exists_amax {n : Nat} (c : Fin (n + 1) → EReal) :
    ∃ e : Fin (n + 1), (∀ q, c q ≤ c e) ∧ ∀ q, c q = c e → e ≤ q := by
  classical
  obtain ⟨m, hm⟩ := Finite.exists_max c
  let S : Finset (Fin (n + 1)) := Finset.univ.filter fun e => ∀ q, c q ≤ c e
  have hS : S.Nonempty := ⟨m, by simpa [S] using hm⟩
  have h1 : ∀ q, c q ≤ c (S.min' hS) := by
    have := S.min'_mem hS
    simpa [S] using this
  refine ⟨S.min' hS, h1, fun q hq => S.min'_le q ?_⟩
  simpa [S, hq] using h1

/-- The position of the first greatest entry. -/
noncomputable def amax {n : Nat} (c : Fin (n + 1) → EReal) : Fin (n + 1) := Classical.choose (exists_amax c)

theorem le_amax {n : Nat} (c : Fin (n + 1) → EReal) (q) : c q ≤ c (amax c) :=
  (Classical.choose_spec (exists_amax c)).1 q

theorem amax_le {n : Nat} (c : Fin (n + 1) → EReal) (q) (h : c q = c (amax c)) : amax c ≤ q :=
  (Classical.choose_spec (exists_amax c)).2 q h

/-- The row with its first `r` choices put to the bottom. -/
noncomputable def cand {n : Nat} (f : Fin (n + 1) → EReal) : Nat → Fin (n + 1) → EReal
  | 0 => f
  | r + 1 => fun e => if e = amax (cand f r) then ⊥ else cand f r e

/-- The choice of round `r`. -/
noncomputable def pick {n : Nat} (f : Fin (n + 1) → EReal) (r : Nat) : Fin (n + 1) := amax (cand f r)

theorem cand_chosen {n : Nat} (f : Fin (n + 1) → EReal) {i r : Nat} (h : i < r) : cand f r (pick f i) = ⊥ := by
  induction r with
  | zero => omega
  | succ r ih =>
    show (if _ then _ else _) = _
    split
    · rfl
    · rename_i hne
      rcases Nat.lt_succ_iff_lt_or_eq.mp h with h | h
      · exact ih h
      · subst h; exact absurd rfl hne

theorem cand_free {n : Nat} (f : Fin (n + 1) → EReal) (r : Nat) (e) (h : ∀ i < r, pick f i ≠ e) : cand f r e = f e := by
  induction r with
  | zero => rfl
  | succ r ih =>
    show (if _ then _ else _) = _
    rw [if_neg fun he => h r (Nat.lt_succ_self r) he.symm]
    exact ih fun i hi => h i (Nat.lt_succ_of_lt hi)

theorem pick_fresh {n : Nat} (f : Fin (n + 1) → EReal) (hf : ∀ e, f e ≠ ⊥) {r : Nat} (hr : r < n + 1) :
    ∀ i < r, pick f i ≠ pick f r := by
  classical
  have hex : ∃ e, ∀ i < r, pick f i ≠ e := by
    by_contra hno
    push Not at hno
    have hsub : (Finset.univ : Finset (Fin (n + 1))) ⊆ (Finset.range r).image (pick f) := fun e _ => by
      obtain ⟨i, hi, he⟩ := hno e
      exact Finset.mem_image.mpr ⟨i, Finset.mem_range.mpr hi, he⟩
    have h1 := Finset.card_le_card hsub
    have h2 := Finset.card_image_le (s := Finset.range r) (f := pick f)
    rw [Finset.card_univ, Fintype.card_fin] at h1
    rw [Finset.card_range] at h2
    omega
  obtain ⟨e, he⟩ := hex
  intro i hi heq
  have h1 := le_amax (cand f r) e
  have h2 : cand f r (pick f r) = ⊥ := by rw [← heq]; exact cand_chosen f hi
  rw [cand_free f r e he] at h1
  change f e ≤ cand f r (pick f r) at h1
  rw [h2] at h1
  exact hf e (le_bot_iff.mp h1)

theorem stableSort_refine {n : Nat} (f : Fin n → EReal) (l : List (Fin n)) (hl : l.Pairwise (· < ·)) :
    stableSort (fun a b => Ideal.cmp .ogt (f a) (f b) == 1#1) l
      = stableSort (fun a b => (decide (f b < f a)) || (decide (f a = f b) && decide (a < b))) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hlt := hl.1 b hb'
    have h3 : decide (b < a) = false := decide_eq_false (not_lt.mpr hlt.le)
    simp only [h3, Bool.and_false, Bool.or_false, Ideal.cmp]
    by_cases h : f a < f b <;> simp [h]

/-- A stable sort by "greater" puts the choice of round `i` at position `i`. -/
theorem sortedFrom_pick {n k : Nat} (f : Fin (n + 1) → EReal) (hf : ∀ e, f e ≠ ⊥) (hk : k ≤ n + 1) (i : Fin k) :
    sortedFrom (fun a b => Ideal.cmp .ogt (f a) (f b) == 1#1) (i.castLE hk) = pick f i.val := by
  classical
  have hB := StrictTotalBefore.of_key_then_position (fun a b : EReal => decide (b < a)) f
    (fun a => by simp) (fun a b c h1 h2 => by simp at h1 h2 ⊢; exact h2.trans h1)
    (fun a b => by simpa using (by
      rcases lt_trichotomy a b with h | h | h
      · exact Or.inr (Or.inr h)
      · exact Or.inr (Or.inl h)
      · exact Or.inl h))
  have key := hB.sortedFrom_eq_of_prefix hk (fun i => pick f i.val)
    (fun a b hab => by
      by_contra hne
      rcases lt_or_gt_of_ne (fun h => hne (Fin.ext h) : a.val ≠ b.val) with h | h
      · exact pick_fresh f hf (lt_of_lt_of_le b.isLt hk) _ h hab
      · exact pick_fresh f hf (lt_of_lt_of_le a.isLt hk) _ h hab.symm)
  have main : ∀ (i : Fin k) (p : Fin (n + 1)), (∀ j < i.val, pick f j ≠ p) →
      ((decide (f (pick f i.val) < f p)) || (decide (f p = f (pick f i.val)) && decide (p < pick f i.val))) = false := by
    intro i p hp
    have h0 := le_amax (cand f i.val) p
    have hself : cand f i.val (pick f i.val) = f (pick f i.val) :=
      cand_free f _ _ (pick_fresh f hf (lt_of_lt_of_le i.isLt hk))
    rw [cand_free f _ p hp] at h0
    change f p ≤ cand f i.val (pick f i.val) at h0
    rw [hself] at h0
    have h1 : f p = f (pick f i.val) → pick f i.val ≤ p := fun he =>
      amax_le (cand f i.val) p (by rw [cand_free f _ p hp, he]; exact hself.symm)
    simp only [Bool.or_eq_false_iff, decide_eq_false_iff_not, not_lt, Bool.and_eq_false_iff]
    refine ⟨h0, ?_⟩
    by_cases he : f p = f (pick f i.val)
    · exact Or.inr (h1 he)
    · exact Or.inl he
  have key2 := key
    (fun i j hij => main i _ fun q hq => pick_fresh f hf (lt_of_lt_of_le j.isLt hk) q (lt_trans hq hij))
    (fun i p hp => main i p fun q hq => hp ⟨q, lt_trans hq i.isLt⟩) i
  rw [← key2]
  unfold sortedFrom sortPositions
  simp only [List.get_eq_getElem]
  congr 1
  exact stableSort_refine f _ (List.pairwise_lt_finRange _)

/-- The greatest entry of a row. -/
theorem fold_max {n : Nat} (c : Fin (n + 1) → EReal) :
    (Finset.univ : Finset (Fin (n + 1))).fold max ⊥ c = c (amax c) := by
  refine le_antisymm (Finset.fold_max_le _ |>.mpr ⟨bot_le, fun q _ => le_amax c q⟩)
    (Finset.le_fold_max _ |>.mpr (Or.inr ⟨amax c, Finset.mem_univ _, le_rfl⟩))

theorem minsi_word (x y : Nat) :
    IntOp.minsi (BitVec.ofNat 32 (min x 2147483647)) (BitVec.ofNat 32 (min y 2147483647))
      = BitVec.ofNat 32 (min (min x y) 2147483647) := by
  have hx : min x 2147483647 ≤ 2147483647 := min_le_right _ _
  have hy : min y 2147483647 ≤ 2147483647 := min_le_right _ _
  have hm : min (min x y) 2147483647 = min (min x 2147483647) (min y 2147483647) := by omega
  rw [hm]
  generalize min x 2147483647 = a at *
  generalize min y 2147483647 = b at *
  have ha : (BitVec.ofNat 32 a).toInt = (a : Int) := by
    have h : (BitVec.ofNat 32 a).toNat = a := by rw [BitVec.toNat_ofNat]; omega
    rw [BitVec.toInt_eq_toNat_of_lt (by rw [h]; omega), h]
  have hb : (BitVec.ofNat 32 b).toInt = (b : Int) := by
    have h : (BitVec.ofNat 32 b).toNat = b := by rw [BitVec.toNat_ofNat]; omega
    rw [BitVec.toInt_eq_toNat_of_lt (by rw [h]; omega), h]
  unfold IntOp.minsi
  simp only [BitVec.slt, ha, hb]
  rcases Nat.lt_or_ge a b with h | h
  · rw [min_eq_left h.le, if_pos (by simpa using h)]
  · rw [min_eq_right h, if_neg (by simpa using h)]

/-- The least of the positions of the greatest entry, as a word. -/
theorem first_word {n : Nat} (hn : n < 1000) (c : Fin (n + 1) → EReal) :
    (Finset.univ : Finset (Fin (n + 1))).fold IntOp.minsi 2147483647#32
      (fun e => if c e = c (amax c) then BitVec.ofNat 32 e.val else BitVec.ofNat 32 (n + 1)) = BitVec.ofNat 32 (amax c).val := by
  classical
  let g : Fin (n + 1) → Nat := fun e => if c e = c (amax c) then e.val else n + 1
  have h := Finset.fold_hom (op := (min : Nat → Nat → Nat)) (op' := IntOp.minsi) (b := 2147483647) (f := g)
    (s := (Finset.univ : Finset (Fin (n + 1)))) (m := fun x => BitVec.ofNat 32 (min x 2147483647))
    (fun x y => (minsi_word x y).symm)
  have hg : (fun e => BitVec.ofNat 32 (min (g e) 2147483647))
      = fun e : Fin (n + 1) => if c e = c (amax c) then BitVec.ofNat 32 e.val else BitVec.ofNat 32 (n + 1) := by
    funext e
    have he := e.isLt
    by_cases hc : c e = c (amax c)
    · simp only [g, if_pos hc]; congr 1; omega
    · simp only [g, if_neg hc]; congr 1; omega
  rw [hg] at h
  refine (h.trans ?_)
  have ha := (amax c).isLt
  have hm : (Finset.univ : Finset (Fin (n + 1))).fold min 2147483647 g = (amax c).val := by
    refine le_antisymm (Finset.fold_min_le _ |>.mpr (Or.inr ⟨amax c, Finset.mem_univ _, by simp [g]⟩))
      (Finset.le_fold_min _ |>.mpr ⟨by omega, fun q _ => ?_⟩)
    by_cases hc : c q = c (amax c)
    · simp only [g, if_pos hc]; exact amax_le c q hc
    · simp only [g, if_neg hc]; omega
  show BitVec.ofNat 32 (min _ 2147483647) = _
  rw [hm]; congr 1; omega

end RouteSel
-- ==== Proof.RoutePay.lean ====
/- The router's choice of experts as vectors: the first greatest entries of each column, one after another. -/
module

public import proofs.«01_k».proof.Proof.Gen.RouteIdeal.Frame
public import proofs.«01_k».proof.Proof.RouteSel
public import Idealize.ShloMosaic.Lib.Pointwise
public import Idealize.ShloMosaic.Lib.Pipeline.ValueKit
public import Idealize.ShloMosaic.PureOps.Ideal.Laws

@[expose] public section

noncomputable section

namespace Cert.RouteIdeal.Gen

open Idealize.ShloMosaic Idealize.ShloMosaic.TcCoe Idealize.SL.Sem RouteSel

theorem bot_word : Ideal.ofBits FTy.f32 0xFF800000#32 = ⊥ := by
  simp [Ideal.ofBits, Ideal.ieee]

theorem lift8 (j : Fin 512) (e : Fin 8) : reduces_S8x512_S512.lift (ix1 j) e = (ix2 e j : S8x512.Idx) := by
  funext a
  refine Fin.ext ?_
  fin_cases a <;> rfl

/-- The greatest entry of each column. -/
def maxV8 (c : FVec Ideal S8x512 .f32) : FVec Ideal S1x512 .f32 :=
  shapeCast S1x512 (multiReduction .maximumf [0] S512 c 0xFF800000#32 reduces_S8x512_S512 (.inl rfl) rfl) shapeCasts_S512_S1x512

/-- The position of the first greatest entry of each column. -/
def firstV8 (c : FVec Ideal S8x512 .f32) : IVec S1x512 32 :=
  shapeCast S1x512 (multiReductionI .minsi [0] S512 (select (cmpf .oeq c (broadcastTo S8x512 (maxV8 c) broadcasts_S1x512_S8x512))
    (iota .tc S8x512 32 [0] iota_S8x512_d0_w32) (broadcast S8x512 8#32)) 2147483647#32 reduces_S8x512_S512 rfl) shapeCasts_S512_S1x512

/-- The mask of the first greatest entry of each column. -/
def hitV8 (c : FVec Ideal S8x512 .f32) : IVec S8x512 1 :=
  cmpi .eq (iota .tc S8x512 32 [0] iota_S8x512_d0_w32) (broadcastTo S8x512 (firstV8 c) broadcasts_S1x512_S8x512)

/-- The entries under a mask put to the bottom. -/
def lowV8 (ch : IVec S8x512 1) (c : FVec Ideal S8x512 .f32) : FVec Ideal S8x512 .f32 :=
  select ch (broadcast S8x512 (Scalar.ofBits (F := Ideal) .f32 0xFF800000#32)) c

/-- The mask of the first `r` choices of each column. -/
def chV8 (c : FVec Ideal S8x512 .f32) : Nat → IVec S8x512 1
  | 0 => broadcast S8x512 0#1
  | r + 1 => ori (chV8 c r) (hitV8 (lowV8 (chV8 c r) c))

/-- The choice of round `r` of each column. -/
def pickV8 (c : FVec Ideal S8x512 .f32) (r : Nat) : IVec S1x512 32 := firstV8 (lowV8 (chV8 c r) c)

theorem maxV8_apply (c : FVec Ideal S8x512 .f32) (j : Fin 512) :
    maxV8 c (ix2 0 j) = c (ix2 (amax fun e : Fin 8 => c (ix2 e j)) j) := by
  have h0 : maxV8 c (ix2 0 j) = multiReduction .maximumf [0] S512 c 0xFF800000#32 reduces_S8x512_S512 (.inl rfl) rfl (ix1 j) := by
    unfold maxV8; pointwise
  rw [h0]
  refine (Ideal.multiReduction_maximumf_single _ _ _ _ _ _).trans ?_
  have h1 : (c ∘ reduces_S8x512_S512.lift (ix1 j) : Fin 8 → EReal) = fun e => c (ix2 e j) := by
    funext e; exact congrArg c (lift8 j e)
  have h2 : (FloatOps.ofBits (F := Ideal) .f32 0xFF800000#32 : EReal) = ⊥ := bot_word
  rw [h2]
  exact (congrArg (fun g : Fin 8 → EReal => (Finset.univ : Finset (Fin 8)).fold max ⊥ g) h1).trans (fold_max (n := 7) _)

theorem firstV8_apply (c : FVec Ideal S8x512 .f32) (j : Fin 512) :
    firstV8 c (ix2 0 j) = BitVec.ofNat 32 (amax fun e : Fin 8 => c (ix2 e j)).val := by
  have h0 : firstV8 c (ix2 0 j) = multiReductionI .minsi [0] S512 (select (cmpf .oeq c (broadcastTo S8x512 (maxV8 c) broadcasts_S1x512_S8x512))
    (iota .tc S8x512 32 [0] iota_S8x512_d0_w32) (broadcast S8x512 8#32)) 2147483647#32 reduces_S8x512_S512 rfl (ix1 j) := by
    unfold firstV8; pointwise
  rw [h0]
  refine (multiReductionI_eq_fold _ _ _ _ _ _).trans ?_
  refine (reduces_S8x512_S512.fold_filter_drop_single _ _ _ _).trans ?_
  refine Eq.trans ?_ (first_word (n := 7) (by decide) (fun e : Fin 8 => c (ix2 e j)))
  refine congrArg (fun g : Fin 8 → BitVec 32 => (Finset.univ : Finset (Fin 8)).fold IntOp.minsi 2147483647#32 g) ?_
  funext e
  have h1 : reduces_S8x512_S512.lift (ix1 j) e = (ix2 e j : S8x512.Idx) := lift8 j e
  have h2 : maxV8 c (ix2 0 j) = c (ix2 (amax fun e : Fin 8 => c (ix2 e j)) j) := maxV8_apply c j
  show select _ _ _ (reduces_S8x512_S512.lift (ix1 j) e) = _
  rw [h1]
  pointwise
  rw [h2]

theorem hitV8_apply (c : FVec Ideal S8x512 .f32) (e : Fin 8) (j : Fin 512) :
    hitV8 c (ix2 e j) = if e = amax (fun e : Fin 8 => c (ix2 e j)) then 1#1 else 0#1 := by
  unfold hitV8
  pointwise
  rw [firstV8_apply]
  have ha := (amax fun e : Fin 8 => c (ix2 e j)).isLt
  have he := e.isLt
  by_cases h : e = amax (fun e : Fin 8 => c (ix2 e j))
  · simp [IntOp.cmpi, ← h]
  · rw [if_neg h]
    have hw : ¬ BitVec.ofNat 32 e.val = BitVec.ofNat 32 (amax fun e : Fin 8 => c (ix2 e j)).val := fun hw => by
      have := congrArg BitVec.toNat hw
      simp only [BitVec.toNat_ofNat] at this
      exact h (Fin.ext (by omega))
    have hb := beq_eq_false_iff_ne.mpr hw
    simp [IntOp.cmpi, hb]
    done

theorem lowV8_apply (ch : IVec S8x512 1) (c : FVec Ideal S8x512 .f32) (e : Fin 8) (j : Fin 512) :
    lowV8 ch c (ix2 e j) = if ch (ix2 e j) = 1#1 then ⊥ else c (ix2 e j) := by
  have h2 : (Scalar.ofBits (F := Ideal) .f32 0xFF800000#32 : EReal) = ⊥ := bot_word
  unfold lowV8
  pointwise
  rfl

theorem lowV8_cand (c : FVec Ideal S8x512 .f32) (r : Nat) (e : Fin 8) (j : Fin 512) :
    lowV8 (chV8 c r) c (ix2 e j) = cand (fun e : Fin 8 => c (ix2 e j)) r e := by
  induction r generalizing e with
  | zero => rw [lowV8_apply, if_neg (by show ¬ (0#1 : BitVec 1) = 1#1; decide)]; rfl
  | succ r ih =>
    have ih' := ih e
    rw [lowV8_apply] at ih'
    rw [lowV8_apply]
    have hc : chV8 c (r + 1) (ix2 e j) = chV8 c r (ix2 e j) ||| hitV8 (lowV8 (chV8 c r) c) (ix2 e j) := rfl
    rw [hc, hitV8_apply]
    have hf : (fun e : Fin 8 => lowV8 (chV8 c r) c (ix2 e j)) = cand (fun e : Fin 8 => c (ix2 e j)) r := funext fun e => ih e
    rw [hf]
    show _ = if e = amax (cand (fun e : Fin 8 => c (ix2 e j)) r) then ⊥ else cand (fun e : Fin 8 => c (ix2 e j)) r e
    rw [← ih']
    by_cases h : e = amax (cand (fun e : Fin 8 => c (ix2 e j)) r)
    · rw [if_pos h, if_pos h]
      rcases BitVec.eq_zero_or_eq_one (chV8 c r (ix2 e j)) with h1 | h1 <;> rw [h1] <;> simp
    · rw [if_neg h, if_neg h]
      rcases BitVec.eq_zero_or_eq_one (chV8 c r (ix2 e j)) with h1 | h1 <;> rw [h1] <;> simp

/-- The choice of round `r` of a column is the row's choice. -/
theorem pickV8_apply (c : FVec Ideal S8x512 .f32) (r : Nat) (j : Fin 512) :
    pickV8 c r (ix2 0 j) = BitVec.ofNat 32 (pick (fun e : Fin 8 => c (ix2 e j)) r).val := by
  unfold pickV8
  rw [firstV8_apply]
  have hf : (fun e : Fin 8 => lowV8 (chV8 c r) c (ix2 e j)) = cand (fun e : Fin 8 => c (ix2 e j)) r := funext fun e => lowV8_cand c r e j
  rw [hf]
  rfl

theorem lift64 (j : Fin 512) (e : Fin 64) : reduces_S64x512_S512.lift (ix1 j) e = (ix2 e j : S64x512.Idx) := by
  funext a
  refine Fin.ext ?_
  fin_cases a <;> rfl

/-- The greatest entry of each column. -/
def maxV64 (c : FVec Ideal S64x512 .f32) : FVec Ideal S1x512 .f32 :=
  shapeCast S1x512 (multiReduction .maximumf [0] S512 c 0xFF800000#32 reduces_S64x512_S512 (.inl rfl) rfl) shapeCasts_S512_S1x512

/-- The position of the first greatest entry of each column. -/
def firstV64 (c : FVec Ideal S64x512 .f32) : IVec S1x512 32 :=
  shapeCast S1x512 (multiReductionI .minsi [0] S512 (select (cmpf .oeq c (broadcastTo S64x512 (maxV64 c) broadcasts_S1x512_S64x512))
    (iota .tc S64x512 32 [0] iota_S64x512_d0_w32) (broadcast S64x512 64#32)) 2147483647#32 reduces_S64x512_S512 rfl) shapeCasts_S512_S1x512

/-- The mask of the first greatest entry of each column. -/
def hitV64 (c : FVec Ideal S64x512 .f32) : IVec S64x512 1 :=
  cmpi .eq (iota .tc S64x512 32 [0] iota_S64x512_d0_w32) (broadcastTo S64x512 (firstV64 c) broadcasts_S1x512_S64x512)

/-- The entries under a mask put to the bottom. -/
def lowV64 (ch : IVec S64x512 1) (c : FVec Ideal S64x512 .f32) : FVec Ideal S64x512 .f32 :=
  select ch (broadcast S64x512 (Scalar.ofBits (F := Ideal) .f32 0xFF800000#32)) c

/-- The mask of the first `r` choices of each column. -/
def chV64 (c : FVec Ideal S64x512 .f32) : Nat → IVec S64x512 1
  | 0 => broadcast S64x512 0#1
  | r + 1 => ori (chV64 c r) (hitV64 (lowV64 (chV64 c r) c))

/-- The choice of round `r` of each column. -/
def pickV64 (c : FVec Ideal S64x512 .f32) (r : Nat) : IVec S1x512 32 := firstV64 (lowV64 (chV64 c r) c)

theorem maxV64_apply (c : FVec Ideal S64x512 .f32) (j : Fin 512) :
    maxV64 c (ix2 0 j) = c (ix2 (amax fun e : Fin 64 => c (ix2 e j)) j) := by
  have h0 : maxV64 c (ix2 0 j) = multiReduction .maximumf [0] S512 c 0xFF800000#32 reduces_S64x512_S512 (.inl rfl) rfl (ix1 j) := by
    unfold maxV64; pointwise
  rw [h0]
  refine (Ideal.multiReduction_maximumf_single _ _ _ _ _ _).trans ?_
  have h1 : (c ∘ reduces_S64x512_S512.lift (ix1 j) : Fin 64 → EReal) = fun e => c (ix2 e j) := by
    funext e; exact congrArg c (lift64 j e)
  have h2 : (FloatOps.ofBits (F := Ideal) .f32 0xFF800000#32 : EReal) = ⊥ := bot_word
  rw [h2]
  exact (congrArg (fun g : Fin 64 → EReal => (Finset.univ : Finset (Fin 64)).fold max ⊥ g) h1).trans (fold_max (n := 63) _)

theorem firstV64_apply (c : FVec Ideal S64x512 .f32) (j : Fin 512) :
    firstV64 c (ix2 0 j) = BitVec.ofNat 32 (amax fun e : Fin 64 => c (ix2 e j)).val := by
  have h0 : firstV64 c (ix2 0 j) = multiReductionI .minsi [0] S512 (select (cmpf .oeq c (broadcastTo S64x512 (maxV64 c) broadcasts_S1x512_S64x512))
    (iota .tc S64x512 32 [0] iota_S64x512_d0_w32) (broadcast S64x512 64#32)) 2147483647#32 reduces_S64x512_S512 rfl (ix1 j) := by
    unfold firstV64; pointwise
  rw [h0]
  refine (multiReductionI_eq_fold _ _ _ _ _ _).trans ?_
  refine (reduces_S64x512_S512.fold_filter_drop_single _ _ _ _).trans ?_
  refine Eq.trans ?_ (first_word (n := 63) (by decide) (fun e : Fin 64 => c (ix2 e j)))
  refine congrArg (fun g : Fin 64 → BitVec 32 => (Finset.univ : Finset (Fin 64)).fold IntOp.minsi 2147483647#32 g) ?_
  funext e
  have h1 : reduces_S64x512_S512.lift (ix1 j) e = (ix2 e j : S64x512.Idx) := lift64 j e
  have h2 : maxV64 c (ix2 0 j) = c (ix2 (amax fun e : Fin 64 => c (ix2 e j)) j) := maxV64_apply c j
  show select _ _ _ (reduces_S64x512_S512.lift (ix1 j) e) = _
  rw [h1]
  pointwise
  rw [h2]

theorem hitV64_apply (c : FVec Ideal S64x512 .f32) (e : Fin 64) (j : Fin 512) :
    hitV64 c (ix2 e j) = if e = amax (fun e : Fin 64 => c (ix2 e j)) then 1#1 else 0#1 := by
  unfold hitV64
  pointwise
  rw [firstV64_apply]
  have ha := (amax fun e : Fin 64 => c (ix2 e j)).isLt
  have he := e.isLt
  by_cases h : e = amax (fun e : Fin 64 => c (ix2 e j))
  · simp [IntOp.cmpi, ← h]
  · rw [if_neg h]
    have hw : ¬ BitVec.ofNat 32 e.val = BitVec.ofNat 32 (amax fun e : Fin 64 => c (ix2 e j)).val := fun hw => by
      have := congrArg BitVec.toNat hw
      simp only [BitVec.toNat_ofNat] at this
      exact h (Fin.ext (by omega))
    have hb := beq_eq_false_iff_ne.mpr hw
    simp [IntOp.cmpi, hb]
    done

theorem lowV64_apply (ch : IVec S64x512 1) (c : FVec Ideal S64x512 .f32) (e : Fin 64) (j : Fin 512) :
    lowV64 ch c (ix2 e j) = if ch (ix2 e j) = 1#1 then ⊥ else c (ix2 e j) := by
  have h2 : (Scalar.ofBits (F := Ideal) .f32 0xFF800000#32 : EReal) = ⊥ := bot_word
  unfold lowV64
  pointwise
  rfl

theorem lowV64_cand (c : FVec Ideal S64x512 .f32) (r : Nat) (e : Fin 64) (j : Fin 512) :
    lowV64 (chV64 c r) c (ix2 e j) = cand (fun e : Fin 64 => c (ix2 e j)) r e := by
  induction r generalizing e with
  | zero => rw [lowV64_apply, if_neg (by show ¬ (0#1 : BitVec 1) = 1#1; decide)]; rfl
  | succ r ih =>
    have ih' := ih e
    rw [lowV64_apply] at ih'
    rw [lowV64_apply]
    have hc : chV64 c (r + 1) (ix2 e j) = chV64 c r (ix2 e j) ||| hitV64 (lowV64 (chV64 c r) c) (ix2 e j) := rfl
    rw [hc, hitV64_apply]
    have hf : (fun e : Fin 64 => lowV64 (chV64 c r) c (ix2 e j)) = cand (fun e : Fin 64 => c (ix2 e j)) r := funext fun e => ih e
    rw [hf]
    show _ = if e = amax (cand (fun e : Fin 64 => c (ix2 e j)) r) then ⊥ else cand (fun e : Fin 64 => c (ix2 e j)) r e
    rw [← ih']
    by_cases h : e = amax (cand (fun e : Fin 64 => c (ix2 e j)) r)
    · rw [if_pos h, if_pos h]
      rcases BitVec.eq_zero_or_eq_one (chV64 c r (ix2 e j)) with h1 | h1 <;> rw [h1] <;> simp
    · rw [if_neg h, if_neg h]
      rcases BitVec.eq_zero_or_eq_one (chV64 c r (ix2 e j)) with h1 | h1 <;> rw [h1] <;> simp

/-- The choice of round `r` of a column is the row's choice. -/
theorem pickV64_apply (c : FVec Ideal S64x512 .f32) (r : Nat) (j : Fin 512) :
    pickV64 c r (ix2 0 j) = BitVec.ofNat 32 (pick (fun e : Fin 64 => c (ix2 e j)) r).val := by
  unfold pickV64
  rw [firstV64_apply]
  have hf : (fun e : Fin 64 => lowV64 (chV64 c r) c (ix2 e j)) = cand (fun e : Fin 64 => c (ix2 e j)) r := funext fun e => lowV64_cand c r e j
  rw [hf]
  rfl

/-- Eight rows side by side, one below another. -/
def rowsF (v : Fin 8 → FVec Ideal S1x512 .f32) : FVec Ideal S8x512 .f32 :=
  select (cmpi .eq (iota .tc S8x512 32 [0] iota_S8x512_d0_w32) (broadcast S8x512 7#32)) (broadcastTo S8x512 (shapeCast S1x512 (v 7) shapeCasts_S1x512_S1x512) broadcasts_S1x512_S8x512) (select (cmpi .eq (iota .tc S8x512 32 [0] iota_S8x512_d0_w32) (broadcast S8x512 6#32)) (broadcastTo S8x512 (shapeCast S1x512 (v 6) shapeCasts_S1x512_S1x512) broadcasts_S1x512_S8x512) (select (cmpi .eq (iota .tc S8x512 32 [0] iota_S8x512_d0_w32) (broadcast S8x512 5#32)) (broadcastTo S8x512 (shapeCast S1x512 (v 5) shapeCasts_S1x512_S1x512) broadcasts_S1x512_S8x512) (select (cmpi .eq (iota .tc S8x512 32 [0] iota_S8x512_d0_w32) (broadcast S8x512 4#32)) (broadcastTo S8x512 (shapeCast S1x512 (v 4) shapeCasts_S1x512_S1x512) broadcasts_S1x512_S8x512) (select (cmpi .eq (iota .tc S8x512 32 [0] iota_S8x512_d0_w32) (broadcast S8x512 3#32)) (broadcastTo S8x512 (shapeCast S1x512 (v 3) shapeCasts_S1x512_S1x512) broadcasts_S1x512_S8x512) (select (cmpi .eq (iota .tc S8x512 32 [0] iota_S8x512_d0_w32) (broadcast S8x512 2#32)) (broadcastTo S8x512 (shapeCast S1x512 (v 2) shapeCasts_S1x512_S1x512) broadcasts_S1x512_S8x512) (select (cmpi .eq (iota .tc S8x512 32 [0] iota_S8x512_d0_w32) (broadcast S8x512 1#32)) (broadcastTo S8x512 (shapeCast S1x512 (v 1) shapeCasts_S1x512_S1x512) broadcasts_S1x512_S8x512) (select (cmpi .eq (iota .tc S8x512 32 [0] iota_S8x512_d0_w32) (broadcast S8x512 0#32)) (broadcastTo S8x512 (shapeCast S1x512 (v 0) shapeCasts_S1x512_S1x512) broadcasts_S1x512_S8x512) (broadcast S8x512 (Scalar.ofBits (F := Ideal) .f32 0x00000000#32)))))))))

theorem rowsF_apply (v : Fin 8 → FVec Ideal S1x512 .f32) (r : Fin 8) (j : Fin 512) : rowsF v (ix2 r j) = v r (ix2 0 j) := by
  unfold rowsF
  fin_cases r <;> pointwise <;> rfl

/-- Eight rows of words, one below another. -/
def rowsI (v : Fin 8 → IVec S1x512 32) : IVec S8x512 32 :=
  select (cmpi .eq (iota .tc S8x512 32 [0] iota_S8x512_d0_w32) (broadcast S8x512 7#32)) (broadcastTo S8x512 (shapeCast S1x512 (v 7) shapeCasts_S1x512_S1x512) broadcasts_S1x512_S8x512) (select (cmpi .eq (iota .tc S8x512 32 [0] iota_S8x512_d0_w32) (broadcast S8x512 6#32)) (broadcastTo S8x512 (shapeCast S1x512 (v 6) shapeCasts_S1x512_S1x512) broadcasts_S1x512_S8x512) (select (cmpi .eq (iota .tc S8x512 32 [0] iota_S8x512_d0_w32) (broadcast S8x512 5#32)) (broadcastTo S8x512 (shapeCast S1x512 (v 5) shapeCasts_S1x512_S1x512) broadcasts_S1x512_S8x512) (select (cmpi .eq (iota .tc S8x512 32 [0] iota_S8x512_d0_w32) (broadcast S8x512 4#32)) (broadcastTo S8x512 (shapeCast S1x512 (v 4) shapeCasts_S1x512_S1x512) broadcasts_S1x512_S8x512) (select (cmpi .eq (iota .tc S8x512 32 [0] iota_S8x512_d0_w32) (broadcast S8x512 3#32)) (broadcastTo S8x512 (shapeCast S1x512 (v 3) shapeCasts_S1x512_S1x512) broadcasts_S1x512_S8x512) (select (cmpi .eq (iota .tc S8x512 32 [0] iota_S8x512_d0_w32) (broadcast S8x512 2#32)) (broadcastTo S8x512 (shapeCast S1x512 (v 2) shapeCasts_S1x512_S1x512) broadcasts_S1x512_S8x512) (select (cmpi .eq (iota .tc S8x512 32 [0] iota_S8x512_d0_w32) (broadcast S8x512 1#32)) (broadcastTo S8x512 (shapeCast S1x512 (v 1) shapeCasts_S1x512_S1x512) broadcasts_S1x512_S8x512) (select (cmpi .eq (iota .tc S8x512 32 [0] iota_S8x512_d0_w32) (broadcast S8x512 0#32)) (broadcastTo S8x512 (shapeCast S1x512 (v 0) shapeCasts_S1x512_S1x512) broadcasts_S1x512_S8x512) (broadcast S8x512 0#32))))))))

theorem rowsI_apply (v : Fin 8 → IVec S1x512 32) (r : Fin 8) (j : Fin 512) : rowsI v (ix2 r j) = v r (ix2 0 j) := by
  unfold rowsI
  fin_cases r <;> pointwise <;> rfl

end Cert.RouteIdeal.Gen
-- ==== Proof.RouteBody.lean ====
module

public import proofs.«01_k».proof.Proof.RoutePay

@[expose] public section

noncomputable section

namespace Cert.RouteIdeal.Gen

open Idealize.ShloMosaic Idealize.ShloMosaic.TcCoe Idealize.SL.Sem RouteSel

/-- The sum of the two greatest entries of each column. -/
def scoreV (b : FVec Ideal S8x512 .f32) : FVec Ideal S1x512 .f32 := addf (maxV8 b) (maxV8 (lowV8 (hitV8 b) b))

/-- The group scores of each column. -/
def gsV (sb : FVec Ideal S64x512 .f32) : FVec Ideal S8x512 .f32 :=
  rowsF ![scoreV (extractStridedSlice S8x512 ![0, 0] sb slices_S64x512_o0_0_S8x512), scoreV (extractStridedSlice S8x512 ![8, 0] sb slices_S64x512_o8_0_S8x512), scoreV (extractStridedSlice S8x512 ![16, 0] sb slices_S64x512_o16_0_S8x512), scoreV (extractStridedSlice S8x512 ![24, 0] sb slices_S64x512_o24_0_S8x512), scoreV (extractStridedSlice S8x512 ![32, 0] sb slices_S64x512_o32_0_S8x512), scoreV (extractStridedSlice S8x512 ![40, 0] sb slices_S64x512_o40_0_S8x512), scoreV (extractStridedSlice S8x512 ![48, 0] sb slices_S64x512_o48_0_S8x512), scoreV (extractStridedSlice S8x512 ![56, 0] sb slices_S64x512_o56_0_S8x512)]

/-- The mask of the rows of the chosen groups. -/
def groupsV (gs : FVec Ideal S8x512 .f32) : Nat → IVec S64x512 1
  | 0 => broadcast S64x512 0#1
  | r + 1 => ori (groupsV gs r) (cmpi .eq k0_pay24 (broadcastTo S64x512 (pickV8 gs r) broadcasts_S1x512_S64x512))

/-- The scores with the rows of the other groups put to a low word. -/
def maskedV (sb : FVec Ideal S64x512 .f32) : FVec Ideal S64x512 .f32 :=
  select (groupsV (gsV sb) 4) sb (broadcast S64x512 (Scalar.ofBits (F := Ideal) .f32 0xF149F2CA#32))

/-- The entry of `s` at the choice of round `r`. -/
def selV (s M : FVec Ideal S64x512 .f32) (r : Nat) : FVec Ideal S1x512 .f32 :=
  shapeCast S1x512 (multiReduction .add [0] S512 (select (hitV64 (lowV64 (chV64 M r) M)) s (broadcast S64x512 (Scalar.ofBits (F := Ideal) .f32 0x00000000#32)))
    0x00000000#32 reduces_S64x512_S512 (.inl rfl) rfl) shapeCasts_S512_S1x512

/-- The gates: the chosen entries over their sum, scaled. -/
def gateV (X : FVec Ideal S8x512 .f32) : FVec Ideal S8x512 .f32 :=
  mulf (divf X (broadcastTo S8x512 (shapeCast S1x512 (multiReduction .add [0] S512 X 0x00000000#32 reduces_S8x512_S512 (.inl rfl) rfl) shapeCasts_S512_S1x512)
    broadcasts_S1x512_S8x512)) (broadcast S8x512 (Scalar.ofBits (F := Ideal) .f32 0x40200000#32))

theorem e5 (x0 : Vec Ideal S64x512 .f32) (x1 : Vec Ideal S64x1 .f32) : k0_pay5 x0 x1 = scoreV (extractStridedSlice S8x512 ![0, 0] (k0_pay4 x0 x1) slices_S64x512_o0_0_S8x512) := rfl

theorem e9 (x0 : Vec Ideal S64x512 .f32) (x1 : Vec Ideal S64x1 .f32) : k0_pay9 (iota .tc S8x512 32 [0] iota_S8x512_d0_w32) (k0_pay6 x0 x1) (k0_pay7 x0 x1) (k0_pay8 x0 x1) = scoreV (extractStridedSlice S8x512 ![8, 0] (k0_pay4 x0 x1) slices_S64x512_o8_0_S8x512) := rfl

theorem e10 (sb : FVec Ideal S64x512 .f32) : k0_pay10 sb (iota .tc S8x512 32 [0] iota_S8x512_d0_w32) = scoreV (extractStridedSlice S8x512 ![16, 0] sb slices_S64x512_o16_0_S8x512) := rfl

theorem e11 (sb : FVec Ideal S64x512 .f32) : k0_pay11 sb (iota .tc S8x512 32 [0] iota_S8x512_d0_w32) = scoreV (extractStridedSlice S8x512 ![24, 0] sb slices_S64x512_o24_0_S8x512) := rfl

theorem e15 (sb : FVec Ideal S64x512 .f32) : k0_pay15 (iota .tc S8x512 32 [0] iota_S8x512_d0_w32) (k0_pay12 sb) (k0_pay13 sb) (k0_pay14 sb (iota .tc S8x512 32 [0] iota_S8x512_d0_w32)) = scoreV (extractStridedSlice S8x512 ![32, 0] sb slices_S64x512_o32_0_S8x512) := rfl

theorem e16 (sb : FVec Ideal S64x512 .f32) : k0_pay16 sb (iota .tc S8x512 32 [0] iota_S8x512_d0_w32) = scoreV (extractStridedSlice S8x512 ![40, 0] sb slices_S64x512_o40_0_S8x512) := rfl

theorem e17 (sb : FVec Ideal S64x512 .f32) : k0_pay17 sb (iota .tc S8x512 32 [0] iota_S8x512_d0_w32) = scoreV (extractStridedSlice S8x512 ![48, 0] sb slices_S64x512_o48_0_S8x512) := rfl

theorem e21 (sb : FVec Ideal S64x512 .f32) : k0_pay21 (iota .tc S8x512 32 [0] iota_S8x512_d0_w32) (k0_pay18 sb) (k0_pay19 sb) (k0_pay20 sb) = scoreV (extractStridedSlice S8x512 ![56, 0] sb slices_S64x512_o56_0_S8x512) := rfl

theorem e29 (a : FVec Ideal S1x512 .f32) (p : FVec Ideal S8x512 .f32) : k0_pay29 a (iota .tc S8x512 32 [0] iota_S8x512_d0_w32) p = chV8 (k0_pay23 a (iota .tc S8x512 32 [0] iota_S8x512_d0_w32) p) 2 := rfl

theorem e30 (a : FVec Ideal S1x512 .f32) (p : FVec Ideal S8x512 .f32) : k0_pay30 a (iota .tc S8x512 32 [0] iota_S8x512_d0_w32) p = groupsV (k0_pay23 a (iota .tc S8x512 32 [0] iota_S8x512_d0_w32) p) 2 := rfl

theorem e31 (a : FVec Ideal S1x512 .f32) (p : FVec Ideal S8x512 .f32) : k0_pay31 a (iota .tc S8x512 32 [0] iota_S8x512_d0_w32) p = lowV8 (chV8 (k0_pay23 a (iota .tc S8x512 32 [0] iota_S8x512_d0_w32) p) 2) (k0_pay23 a (iota .tc S8x512 32 [0] iota_S8x512_d0_w32) p) := rfl

theorem e32 (a : FVec Ideal S1x512 .f32) (p : FVec Ideal S8x512 .f32) : k0_pay32 a (iota .tc S8x512 32 [0] iota_S8x512_d0_w32) p = maxV8 (lowV8 (chV8 (k0_pay23 a (iota .tc S8x512 32 [0] iota_S8x512_d0_w32) p) 2) (k0_pay23 a (iota .tc S8x512 32 [0] iota_S8x512_d0_w32) p)) := rfl

theorem e23 (a0 a1 a2 a3 a4 a5 a6 a7 : FVec Ideal S1x512 .f32) : k0_pay23 a7 (iota .tc S8x512 32 [0] iota_S8x512_d0_w32) (k0_pay22 a0 a1 a2 a3 a4 a5 a6) = rowsF ![a0, a1, a2, a3, a4, a5, a6, a7] := rfl

theorem e33 (sb : FVec Ideal S64x512 .f32) (gs : FVec Ideal S8x512 .f32) : k0_pay33 sb (iota .tc S8x512 32 [0] iota_S8x512_d0_w32) gs k0_pay24 (chV8 gs 2) (groupsV gs 2) (lowV8 (chV8 gs 2) gs) (maxV8 (lowV8 (chV8 gs 2) gs)) = (select (groupsV gs 4) sb (broadcast S64x512 (Scalar.ofBits (F := Ideal) .f32 0xF149F2CA#32))) := rfl

theorem e35 (sb : FVec Ideal S64x512 .f32) (gs : FVec Ideal S8x512 .f32) : k0_pay35 sb (iota .tc S8x512 32 [0] iota_S8x512_d0_w32) gs (iota .tc S64x512 32 [0] iota_S64x512_d0_w32) k0_pay24 (chV8 gs 2) (groupsV gs 2) (lowV8 (chV8 gs 2) gs) (maxV8 (lowV8 (chV8 gs 2) gs)) = pickV64 (select (groupsV gs 4) sb (broadcast S64x512 (Scalar.ofBits (F := Ideal) .f32 0xF149F2CA#32))) 0 := rfl

theorem e37 (sb : FVec Ideal S64x512 .f32) (gs : FVec Ideal S8x512 .f32) : k0_pay37 sb (iota .tc S8x512 32 [0] iota_S8x512_d0_w32) gs (iota .tc S64x512 32 [0] iota_S64x512_d0_w32) k0_pay24 (chV8 gs 2) (groupsV gs 2) (lowV8 (chV8 gs 2) gs) (maxV8 (lowV8 (chV8 gs 2) gs)) = chV64 (select (groupsV gs 4) sb (broadcast S64x512 (Scalar.ofBits (F := Ideal) .f32 0xF149F2CA#32))) 1 := rfl

theorem e38 (s sb : FVec Ideal S64x512 .f32) (gs : FVec Ideal S8x512 .f32) : k0_pay38 s sb (iota .tc S8x512 32 [0] iota_S8x512_d0_w32) gs (iota .tc S64x512 32 [0] iota_S64x512_d0_w32) k0_pay24 (chV8 gs 2) (groupsV gs 2) (lowV8 (chV8 gs 2) gs) (maxV8 (lowV8 (chV8 gs 2) gs)) = selV s (select (groupsV gs 4) sb (broadcast S64x512 (Scalar.ofBits (F := Ideal) .f32 0xF149F2CA#32))) 0 := rfl

theorem e39 (M : FVec Ideal S64x512 .f32) : k0_pay39 (iota .tc S64x512 32 [0] iota_S64x512_d0_w32) M (chV64 M 1) (FloatOps.ofBits (F := Ideal) .f32 0xFF800000#32) = pickV64 M 1 := rfl

theorem e43 (M : FVec Ideal S64x512 .f32) : k0_pay43 (iota .tc S64x512 32 [0] iota_S64x512_d0_w32) M (chV64 M 1) (FloatOps.ofBits (F := Ideal) .f32 0xFF800000#32) = pickV64 M 2 := rfl

theorem e45 (M : FVec Ideal S64x512 .f32) : k0_pay45 (iota .tc S64x512 32 [0] iota_S64x512_d0_w32) M (chV64 M 1) (FloatOps.ofBits (F := Ideal) .f32 0xFF800000#32) = chV64 M 3 := rfl

theorem e47 (M : FVec Ideal S64x512 .f32) : k0_pay47 (iota .tc S64x512 32 [0] iota_S64x512_d0_w32) M (chV64 M 1) (FloatOps.ofBits (F := Ideal) .f32 0xFF800000#32) = pickV64 M 3 := rfl

theorem e48 (M : FVec Ideal S64x512 .f32) : k0_pay48 (iota .tc S64x512 32 [0] iota_S64x512_d0_w32) M (chV64 M 1) (FloatOps.ofBits (F := Ideal) .f32 0xFF800000#32) = broadcastTo S64x512 (pickV64 M 3) broadcasts_S1x512_S64x512 := rfl

theorem e42 (s M : FVec Ideal S64x512 .f32) : k0_pay42 s (iota .tc S64x512 32 [0] iota_S64x512_d0_w32) M (chV64 M 1) (FloatOps.ofBits (F := Ideal) .f32 0xFF800000#32) = selV s M 1 := rfl

theorem e46 (s M : FVec Ideal S64x512 .f32) : k0_pay46 s (iota .tc S64x512 32 [0] iota_S64x512_d0_w32) M (chV64 M 1) (FloatOps.ofBits (F := Ideal) .f32 0xFF800000#32) = selV s M 2 := rfl

theorem e51 (s M : FVec Ideal S64x512 .f32) : k0_pay51 s (iota .tc S64x512 32 [0] iota_S64x512_d0_w32) (broadcastTo S64x512 (pickV64 M 3) broadcasts_S1x512_S64x512) = selV s M 3 := rfl

theorem e52 (M : FVec Ideal S64x512 .f32) : k0_pay52 (iota .tc S64x512 32 [0] iota_S64x512_d0_w32) M (chV64 M 3) (broadcastTo S64x512 (pickV64 M 3) broadcasts_S1x512_S64x512) = pickV64 M 4 := rfl

theorem e55 (s M : FVec Ideal S64x512 .f32) : k0_pay55 s (iota .tc S64x512 32 [0] iota_S64x512_d0_w32) M (chV64 M 3) (broadcastTo S64x512 (pickV64 M 3) broadcasts_S1x512_S64x512) = selV s M 4 := rfl

theorem e56 (M : FVec Ideal S64x512 .f32) : k0_pay56 (iota .tc S64x512 32 [0] iota_S64x512_d0_w32) M (chV64 M 3) (broadcastTo S64x512 (pickV64 M 3) broadcasts_S1x512_S64x512) = pickV64 M 5 := rfl

theorem e58 (M : FVec Ideal S64x512 .f32) : k0_pay58 (iota .tc S64x512 32 [0] iota_S64x512_d0_w32) M (chV64 M 3) (broadcastTo S64x512 (pickV64 M 3) broadcasts_S1x512_S64x512) = chV64 M 6 := rfl

theorem e59 (s M : FVec Ideal S64x512 .f32) : k0_pay59 s (iota .tc S64x512 32 [0] iota_S64x512_d0_w32) M (chV64 M 3) (broadcastTo S64x512 (pickV64 M 3) broadcasts_S1x512_S64x512) = selV s M 5 := rfl

theorem e60 (M : FVec Ideal S64x512 .f32) : k0_pay60 (iota .tc S64x512 32 [0] iota_S64x512_d0_w32) M (chV64 M 3) (broadcastTo S64x512 (pickV64 M 3) broadcasts_S1x512_S64x512) = lowV64 (chV64 M 6) M := rfl

theorem e61 (M : FVec Ideal S64x512 .f32) : k0_pay61 (iota .tc S64x512 32 [0] iota_S64x512_d0_w32) M (chV64 M 3) (broadcastTo S64x512 (pickV64 M 3) broadcasts_S1x512_S64x512) = maxV64 (lowV64 (chV64 M 6) M) := rfl

theorem e62 (M : FVec Ideal S64x512 .f32) : k0_pay62 (iota .tc S64x512 32 [0] iota_S64x512_d0_w32) (lowV64 (chV64 M 6) M) (maxV64 (lowV64 (chV64 M 6) M)) = pickV64 M 6 := rfl

theorem e65 (s M : FVec Ideal S64x512 .f32) : k0_pay65 s (iota .tc S64x512 32 [0] iota_S64x512_d0_w32) (lowV64 (chV64 M 6) M) (maxV64 (lowV64 (chV64 M 6) M)) = selV s M 6 := rfl

theorem e66 (M : FVec Ideal S64x512 .f32) : k0_pay66 (iota .tc S64x512 32 [0] iota_S64x512_d0_w32) M (chV64 M 6) (lowV64 (chV64 M 6) M) (maxV64 (lowV64 (chV64 M 6) M)) = pickV64 M 7 := rfl

theorem e69 (s M : FVec Ideal S64x512 .f32) : k0_pay69 s (iota .tc S64x512 32 [0] iota_S64x512_d0_w32) M (chV64 M 6) (lowV64 (chV64 M 6) M) (maxV64 (lowV64 (chV64 M 6) M)) = selV s M 7 := rfl

theorem e73 (p : Nat → IVec S1x512 32) : k0_pay73 (p 3) (p 4) (p 5) (p 6) (p 7) (iota .tc S8x512 32 [0] iota_S8x512_d0_w32) (k0_pay70 (p 0) (p 1)) k0_pay71 (k0_pay72 (p 2)) = rowsI fun k => p k.val := rfl

theorem e76 (p : Nat → FVec Ideal S1x512 .f32) : k0_pay76 (p 4) (p 5) (p 6) (p 7) (iota .tc S8x512 32 [0] iota_S8x512_d0_w32) (k0_pay74 (p 0) (p 1) (p 2) (p 3) (iota .tc S8x512 32 [0] iota_S8x512_d0_w32)) (k0_pay75 (iota .tc S8x512 32 [0] iota_S8x512_d0_w32)) = gateV (rowsF fun k => p k.val) := rfl

variable (c : Dev nD) (i : grid0.Coords) (arg1 : Memref sig .tc .vmem S64x512 .f32) (harg1 : arg1.IsWhole) (arg2 : Memref sig .tc .vmem S64x1 .f32) (harg2 : arg2.IsWhole) (arg3 : Memref sig .tc .vmem S512x512 .bf16) (harg3 : arg3.IsWhole) (arg4 : Memref sig .tc .vmem S8x512 .i32) (harg4 : arg4.IsWhole) (arg5 : Memref sig .tc .vmem S8x512 .f32) (harg5 : arg5.IsWhole) (arg6 : Memref sig .tc .vmem S8x512 .i32) (harg6 : arg6.IsWhole) (arg7 : Memref sig .tc .vmem S64x1 .f32) (harg7 : arg7.IsWhole) (arg8 : Memref sig .tc .vmem S64x1 .f32) (harg8 : arg8.IsWhole)
    (x0 : Vec Ideal S64x512 .f32) (x1 : Vec Ideal S64x1 .f32) (x2 : Vec Ideal S512x512 .bf16)

theorem outA3 (hc0 : cond0_0 i) : out0_A_3 c i arg1 harg1 arg2 harg2 arg3 harg3 arg4 harg4 arg5 harg5 arg6 harg6 arg7 harg7 arg8 harg8 hc0 x0 x1 x2
    = rowsI fun k => pickV64 (maskedV (k0_pay4 x0 x1)) k.val := by
  frame_out
  simp only [e5, e9, e10, e11, e15, e16, e17, e21, e29, e30, e31, e32, e23, e33, e35, e37, e38, e39, e43, e45, e47, e48, e42, e46, e51, e52, e55, e56, e58, e59, e60, e61, e62, e65, e66, e69]
  exact e73 (fun k => pickV64 (maskedV (k0_pay4 x0 x1)) k)

theorem outA4 (hc0 : cond0_0 i) : out0_A_4 c i arg1 harg1 arg2 harg2 arg3 harg3 arg4 harg4 arg5 harg5 arg6 harg6 arg7 harg7 arg8 harg8 hc0 x0 x1 x2
    = gateV (rowsF fun k => selV (k0_pay3 x0) (maskedV (k0_pay4 x0 x1)) k.val) := by
  frame_out
  simp only [e5, e9, e10, e11, e15, e16, e17, e21, e29, e30, e31, e32, e23, e33, e35, e37, e38, e39, e43, e45, e47, e48, e42, e46, e51, e52, e55, e56, e58, e59, e60, e61, e62, e65, e66, e69]
  exact e76 (fun k => selV (k0_pay3 x0) (maskedV (k0_pay4 x0 x1)) k)

theorem outB3 (hc0 : ¬cond0_0 i) (xs : Vec Ideal S64x1 .f32) : out0_B_3 c i arg1 harg1 arg2 harg2 arg3 harg3 arg4 harg4 arg5 harg5 arg6 harg6 arg7 harg7 arg8 harg8 hc0 x0 x1 x2 xs
    = rowsI fun k => pickV64 (maskedV (k0_pay4 x0 x1)) k.val := by
  frame_out
  simp only [e5, e9, e10, e11, e15, e16, e17, e21, e29, e30, e31, e32, e23, e33, e35, e37, e38, e39, e43, e45, e47, e48, e42, e46, e51, e52, e55, e56, e58, e59, e60, e61, e62, e65, e66, e69]
  exact e73 (fun k => pickV64 (maskedV (k0_pay4 x0 x1)) k)

theorem outB4 (hc0 : ¬cond0_0 i) (xs : Vec Ideal S64x1 .f32) : out0_B_4 c i arg1 harg1 arg2 harg2 arg3 harg3 arg4 harg4 arg5 harg5 arg6 harg6 arg7 harg7 arg8 harg8 hc0 x0 x1 x2 xs
    = gateV (rowsF fun k => selV (k0_pay3 x0) (maskedV (k0_pay4 x0 x1)) k.val) := by
  frame_out
  simp only [e5, e9, e10, e11, e15, e16, e17, e21, e29, e30, e31, e32, e23, e33, e35, e37, e38, e39, e43, e45, e47, e48, e42, e46, e51, e52, e55, e56, e58, e59, e60, e61, e62, e65, e66, e69]
  exact e76 (fun k => selV (k0_pay3 x0) (maskedV (k0_pay4 x0 x1)) k)

end Cert.RouteIdeal.Gen
-- ==== Proof.RouteSpec.lean ====
/- The choice of experts of one token: the groups by their two best scores, then the experts of the best groups. -/
module

public import proofs.«01_k».proof.Proof.RouteSel
public import Idealize.ShloMosaic.Lib.IdealHost

@[expose] public section

noncomputable section

namespace RouteSel

open Idealize.ShloMosaic

/-- The sigmoid. -/
def sg (x : EReal) : EReal :=
  Ideal.div (Ideal.ofBits FTy.f32 0x3F800000#32) (Ideal.ofBits FTy.f32 0x3F800000#32 + Ideal.exp (-x))

/-- The scores with the bias. -/
def scores (l b : Fin 64 → EReal) (e : Fin 64) : EReal := sg (l e) + b e

/-- The entries of a group. -/
def grp (f : Fin 64 → EReal) (g x : Fin 8) : EReal := f ⟨8 * g.val + x.val, by have := g.isLt; have := x.isLt; omega⟩

/-- A group's score: its two best entries. -/
def gscore (f : Fin 64 → EReal) (g : Fin 8) : EReal := grp f g (pick (grp f g) 0) + grp f g (pick (grp f g) 1)

/-- The scores with the groups that are not chosen put low. -/
def masked (f : Fin 64 → EReal) (e : Fin 64) : EReal :=
  open Classical in
  if ∃ i < 4, (pick (gscore f) i).val = e.val / 8 then f e else Ideal.ofBits FTy.f32 0xF149F2CA#32

/-- The choice of round `r`. -/
def choice (l b : Fin 64 → EReal) (r : Nat) : Fin 64 := pick (masked (scores l b)) r

theorem low_ne : Ideal.ofBits FTy.f32 0xF149F2CA#32 ≠ ⊥ := by
  simp [Ideal.ofBits, Ideal.ieee]
  exact_mod_cast EReal.coe_ne_top ((13234890 : ℝ) * 2 ^ 76)

theorem one_word : Ideal.ofBits FTy.f32 0x3F800000#32 = 1 := Ideal.ofBits_one_f32

theorem exp_nonneg (x : EReal) : 0 ≤ Ideal.exp x := by
  induction x with
  | bot => exact le_refl _
  | top => exact le_top
  | coe r => exact EReal.coe_nonneg.mpr (Real.exp_pos r).le

theorem sg_ne (x : EReal) : sg x ≠ ⊥ := by
  have h1 := exp_nonneg (-x)
  have h2 : (0 : EReal) < 1 + Ideal.exp (-x) := lt_of_lt_of_le zero_lt_one (le_add_of_nonneg_right h1)
  unfold sg
  rw [one_word]
  unfold Ideal.div
  rw [if_neg h2.ne', one_mul]
  exact (lt_of_lt_of_le (EReal.bot_lt_zero) (EReal.inv_nonneg_of_nonneg h2.le)).ne'

theorem add_ne {x y : EReal} (hx : x ≠ ⊥) (hy : y ≠ ⊥) : x + y ≠ ⊥ := by
  rw [Ne, EReal.add_eq_bot_iff]
  exact fun h => h.elim hx hy

theorem scores_ne (l b : Fin 64 → EReal) (hb : ∀ e, b e ≠ ⊥) (e : Fin 64) : scores l b e ≠ ⊥ := add_ne (sg_ne _) (hb e)

theorem gscore_ne (f : Fin 64 → EReal) (hf : ∀ e, f e ≠ ⊥) (g : Fin 8) : gscore f g ≠ ⊥ := add_ne (hf _) (hf _)

theorem masked_ne (f : Fin 64 → EReal) (hf : ∀ e, f e ≠ ⊥) (e : Fin 64) : masked f e ≠ ⊥ := by
  unfold masked
  split
  · exact hf e
  · exact low_ne

/-- The candidate that round `r` chooses still has its own entry. -/
theorem cand_pick {n : Nat} (f : Fin (n + 1) → EReal) (hf : ∀ e, f e ≠ ⊥) {r : Nat} (hr : r < n + 1) :
    cand f r (pick f r) = f (pick f r) := cand_free f _ _ (pick_fresh f hf hr)

end RouteSel
-- ==== Proof.RouteVal.lean ====
/- The router's block of choices, entry by entry. -/
module

public import proofs.«01_k».proof.Proof.RouteBody
public import proofs.«01_k».proof.Proof.RouteSpec

@[expose] public section

noncomputable section

namespace Cert.RouteIdeal.Gen

open Idealize.ShloMosaic Idealize.ShloMosaic.TcCoe Idealize.SL.Sem Idealize.ShloMosaic.Tactic RouteSel

theorem k0_pay4_at (x0 : Vec Ideal S64x512 .f32) (x1 : Vec Ideal S64x1 .f32) (e : Fin 64) (j : Fin 512) :
    (k0_pay4 x0 x1 : S64x512.Idx → EReal) (ix2 e j)
      = scores (fun e => (x0 : S64x512.Idx → EReal) (ix2 e j)) (fun e => (x1 : S64x1.Idx → EReal) (ix2 e 0)) e := by
  have h0 : (Scalar.ofBits (F := Ideal) .f32 0x00000000#32 : EReal) = 0 := by
    show Ideal.ofBits FTy.f32 0x00000000#32 = 0
    simp [Ideal.ofBits, Ideal.ieee]
  have h3 : (k0_pay3 x0 : S64x512.Idx → EReal) (ix2 e j) = sg ((x0 : S64x512.Idx → EReal) (ix2 e j)) := by
    show Ideal.div _ (_ + Ideal.exp ((Scalar.ofBits (F := Ideal) .f32 0x00000000#32 : EReal) - _)) = _
    rw [h0, zero_sub]
    rfl
  unfold k0_pay4 scores
  pointwise
  rw [h3]

theorem scoreV_apply (b : FVec Ideal S8x512 .f32) (j : Fin 512) (hb : ∀ e, b (ix2 e j) ≠ ⊥) :
    scoreV b (ix2 0 j) = b (ix2 (pick (fun e : Fin 8 => b (ix2 e j)) 0) j) + b (ix2 (pick (fun e : Fin 8 => b (ix2 e j)) 1) j) := by
  unfold scoreV
  show maxV8 b (ix2 0 j) + maxV8 (lowV8 (hitV8 b) b) (ix2 0 j) = _
  rw [maxV8_apply, maxV8_apply]
  have h1 : ∀ e : Fin 8, lowV8 (hitV8 b) b (ix2 e j) = cand (fun e : Fin 8 => b (ix2 e j)) 1 e := by
    intro e
    rw [lowV8_apply, hitV8_apply]
    show _ = if e = amax (fun e : Fin 8 => b (ix2 e j)) then (⊥ : EReal) else b (ix2 e j)
    by_cases h : e = amax (fun e : Fin 8 => b (ix2 e j))
    · rw [if_pos h, if_pos h, if_pos rfl]
    · rw [if_neg h, if_neg h, if_neg (by decide)]
  have h2 : (fun e : Fin 8 => lowV8 (hitV8 b) b (ix2 e j)) = cand (fun e : Fin 8 => b (ix2 e j)) 1 := funext h1
  rw [h1, h2]
  refine congrArg₂ (fun x y : EReal => x + y) rfl ?_
  exact cand_pick (n := 7) (fun e : Fin 8 => b (ix2 e j)) hb (by decide)

theorem gsV_apply (sb : FVec Ideal S64x512 .f32) (j : Fin 512) (hb : ∀ e, sb (ix2 e j) ≠ ⊥) (g : Fin 8) :
    gsV sb (ix2 g j) = gscore (fun e : Fin 64 => sb (ix2 e j)) g := by
  unfold gsV
  rw [rowsF_apply]
  have key : ∀ (o : Nat) (h : S64x512.Slices ![o, 0] S8x512) (g : Fin 8), o = 8 * g.val →
      scoreV (extractStridedSlice S8x512 ![o, 0] sb h) (ix2 0 j) = gscore (fun e : Fin 64 => sb (ix2 e j)) g := by
    intro o h g ho
    subst ho
    have hg : ∀ x : Fin 8, extractStridedSlice S8x512 ![8 * g.val, 0] sb h (ix2 x j) = grp (fun e : Fin 64 => sb (ix2 e j)) g x := by
      intro x
      refine extractStridedSlice_apply _ _ _ (ix2 x j) _ (fun a => ?_)
      match a with
      | ⟨0, _⟩ => rfl
      | ⟨1, _⟩ => exact (Nat.zero_add _).symm
    rw [scoreV_apply _ _ (fun e => by rw [hg]; exact hb _), hg, hg]
    have h2 : (fun x : Fin 8 => extractStridedSlice S8x512 ![8 * g.val, 0] sb h (ix2 x j)) = grp (fun e : Fin 64 => sb (ix2 e j)) g := funext hg
    rw [h2]
    rfl
  fin_cases g
  · exact key 0 _ 0 rfl
  · exact key 8 _ 1 rfl
  · exact key 16 _ 2 rfl
  · exact key 24 _ 3 rfl
  · exact key 32 _ 4 rfl
  · exact key 40 _ 5 rfl
  · exact key 48 _ 6 rfl
  · exact key 56 _ 7 rfl

theorem group_word (e : Fin 64) (j : Fin 512) : (k0_pay24 : IVec S64x512 32) (ix2 e j) = BitVec.ofNat 32 (e.val / 8) := by
  revert e
  unfold k0_pay24
  pointwise
  decide +kernel

theorem groupsV_apply (gs : FVec Ideal S8x512 .f32) (r : Nat) (e : Fin 64) (j : Fin 512) :
    groupsV gs r (ix2 e j) = open Classical in if ∃ i < r, (pick (fun g : Fin 8 => gs (ix2 g j)) i).val = e.val / 8 then 1#1 else 0#1 := by
  classical
  induction r with
  | zero => rw [if_neg (by rintro ⟨i, hi, _⟩; omega)]; rfl
  | succ r ih =>
    have hc : groupsV gs (r + 1) (ix2 e j) = groupsV gs r (ix2 e j) ||| IntOp.cmpi .eq ((k0_pay24 : IVec S64x512 32) (ix2 e j)) (pickV8 gs r (ix2 0 j)) := by
      show ori (groupsV gs r) (cmpi .eq k0_pay24 (broadcastTo S64x512 (pickV8 gs r) broadcasts_S1x512_S64x512)) (ix2 e j) = _
      pointwise
      try rfl
    rw [hc, ih, group_word, pickV8_apply]
    have hp := (pick (fun g : Fin 8 => gs (ix2 g j)) r).isLt
    have he := e.isLt
    have hw : IntOp.cmpi .eq (BitVec.ofNat 32 (e.val / 8)) (BitVec.ofNat 32 (pick (fun g : Fin 8 => gs (ix2 g j)) r).val)
        = if (pick (fun g : Fin 8 => gs (ix2 g j)) r).val = e.val / 8 then 1#1 else 0#1 := by
      by_cases h : (pick (fun g : Fin 8 => gs (ix2 g j)) r).val = e.val / 8
      · simp [IntOp.cmpi, h]
      · rw [if_neg h]
        have hne : ¬ BitVec.ofNat 32 (e.val / 8) = BitVec.ofNat 32 (pick (fun g : Fin 8 => gs (ix2 g j)) r).val := fun hw => by
          have := congrArg BitVec.toNat hw
          simp only [BitVec.toNat_ofNat] at this
          exact h (by omega)
        have hb := beq_eq_false_iff_ne.mpr hne
        simp [IntOp.cmpi, hb]
    rw [hw]
    by_cases h1 : ∃ i < r, (pick (fun g : Fin 8 => gs (ix2 g j)) i).val = e.val / 8
    · have h3 : ∃ i < r + 1, (pick (fun g : Fin 8 => gs (ix2 g j)) i).val = e.val / 8 := by
        obtain ⟨i, hi, h⟩ := h1; exact ⟨i, by omega, h⟩
      rw [if_pos h1, if_pos h3]
      split <;> decide
    · rw [if_neg h1]
      by_cases h2 : (pick (fun g : Fin 8 => gs (ix2 g j)) r).val = e.val / 8
      · have h3 : ∃ i < r + 1, (pick (fun g : Fin 8 => gs (ix2 g j)) i).val = e.val / 8 := ⟨r, by omega, h2⟩
        rw [if_pos h2, if_pos h3]; decide
      · have h3 : ¬ ∃ i < r + 1, (pick (fun g : Fin 8 => gs (ix2 g j)) i).val = e.val / 8 := by
          rintro ⟨i, hi, h⟩
          rcases Nat.lt_succ_iff_lt_or_eq.mp hi with hi | hi
          · exact h1 ⟨i, hi, h⟩
          · subst hi; exact h2 h
        rw [if_neg h2, if_neg h3]; decide

theorem maskedV_apply (sb : FVec Ideal S64x512 .f32) (j : Fin 512) (hb : ∀ e, sb (ix2 e j) ≠ ⊥) (e : Fin 64) :
    maskedV sb (ix2 e j) = masked (fun e : Fin 64 => sb (ix2 e j)) e := by
  classical
  unfold maskedV masked
  have h1 : (fun g : Fin 8 => gsV sb (ix2 g j)) = gscore (fun e : Fin 64 => sb (ix2 e j)) := funext (gsV_apply sb j hb)
  have h2 := groupsV_apply (gsV sb) 4 e j
  rw [h1] at h2
  pointwise
  rw [h2]
  by_cases h : ∃ i < 4, (pick (gscore fun e : Fin 64 => sb (ix2 e j)) i).val = e.val / 8
  · rw [if_pos h, if_pos h]; rfl
  · rw [if_neg h, if_neg h]; rfl

/-- The block of choices, entry by entry. -/
theorem choices_at (x0 : Vec Ideal S64x512 .f32) (x1 : Vec Ideal S64x1 .f32) (l b : Fin 64 → EReal) (r : Fin 8) (j : Fin 512)
    (hl : ∀ e, (x0 : S64x512.Idx → EReal) (ix2 e j) = l e) (hx : ∀ e, (x1 : S64x1.Idx → EReal) (ix2 e 0) = b e) (hb : ∀ e, b e ≠ ⊥) :
    rowsI (fun k => pickV64 (maskedV (k0_pay4 x0 x1)) k.val) (ix2 r j) = BitVec.ofNat 32 (choice l b r.val).val := by
  rw [rowsI_apply, pickV64_apply]
  have h1 : (fun e : Fin 64 => (k0_pay4 x0 x1 : S64x512.Idx → EReal) (ix2 e j)) = scores l b := by
    funext e
    rw [k0_pay4_at, show (fun e => (x0 : S64x512.Idx → EReal) (ix2 e j)) = l from funext hl,
      show (fun e => (x1 : S64x1.Idx → EReal) (ix2 e 0)) = b from funext hx]
  have h2 : (fun e : Fin 64 => maskedV (k0_pay4 x0 x1) (ix2 e j)) = masked (scores l b) := by
    funext e
    have := maskedV_apply (k0_pay4 x0 x1) j (fun e => by
      have := congrFun h1 e
      rw [show (k0_pay4 x0 x1 : FVec Ideal S64x512 .f32) (ix2 e j) = scores l b e from this]
      exact scores_ne l b hb e) e
    rw [this]
    exact congrArg (fun f => masked f e) h1
  rw [h2]
  rfl

end Cert.RouteIdeal.Gen
-- ==== Proof.RouteRun.lean ====
/- The router's call: the choices of every token of the half. -/
module

public import proofs.«01_k».proof.Proof.RouteVal
public import Idealize.ShloMosaic.Lib.Claim

@[expose] public section

noncomputable section

namespace Cert.RouteIdeal.Gen

open Idealize.ShloMosaic Idealize.ShloMosaic.TcCoe Idealize.SL.Sem Idealize.ShloMosaic.Tactic RouteSel

variable (m : (ℓ : Loc nD τ sig) → Buf (Elt Ideal) ℓ) (ρ : Dev nD → PrngReg)

theorem tr0 : ∀ t : Fin grid0.N, cc0_transform_0 (grid0.coords t) = ![0, t.val] := by decide +kernel
theorem tr1 : ∀ t : Fin grid0.N, cc0_transform_1 (grid0.coords t) = ![0, 0] := by decide +kernel
theorem tr3 : ∀ t : Fin grid0.N, cc0_transform_3 (grid0.coords t) = ![0, t.val] := by decide +kernel

theorem blk0 (c : Dev nD) (t : Fin grid0.N) (e : Fin 64) (j : Fin 512) (p : Fin 65536) (h : p.val = t.val * 512 + j.val) :
    (iblk m c 0 t : S64x512.Idx → EReal) (ix2 e j) = V m c main_arg0 (ix2 e p : S64x65536.Idx) := by
  refine congrArg (V m c main_arg0) (funext fun a => Fin.ext ?_)
  refine (ValueKit.view_emb_slice_whole_unit_val main_arg0 _ _ _ _ a).trans ?_
  change cc0_transform_0 (grid0.coords t) a * S64x512.size a + _ = _
  rw [tr0 t]
  match a with
  | ⟨0, _⟩ => show 0 * 64 + e.val = e.val; omega
  | ⟨1, _⟩ => show t.val * 512 + j.val = p.val; omega

theorem blk1 (c : Dev nD) (t : Fin grid0.N) (e : Fin 64) (z : Fin 1) :
    (iblk m c 1 t : S64x1.Idx → EReal) (ix2 e z) = V m c main_v4 (ix2 e z : S64x1.Idx) := by
  refine congrArg (V m c main_v4) (funext fun a => Fin.ext ?_)
  refine (ValueKit.view_emb_slice_whole_unit_val main_v4 _ _ _ _ a).trans ?_
  change cc0_transform_1 (grid0.coords t) a * S64x1.size a + _ = _
  rw [tr1 t]
  match a with
  | ⟨0, _⟩ => show 0 * 64 + e.val = e.val; omega
  | ⟨1, _⟩ => show 0 * 1 + z.val = z.val; omega

theorem emb3 (t : Fin grid0.N) (r : Fin 8) (j : Fin 512) (p : Fin 32768) (h : p.val = t.val * 512 + j.val) :
    ((cfg0.win 3).blk t).view.emb (ix2 r j : S8x512.Idx) = (ix2 r p : S8x32768.Idx) := by
  refine funext fun a => Fin.ext ?_
  refine (ValueKit.view_emb_slice_whole_unit_val main_v5_0 _ _ _ _ a).trans ?_
  change cc0_transform_3 (grid0.coords t) a * S8x512.size a + _ = _
  rw [tr3 t]
  match a with
  | ⟨0, _⟩ => show 0 * 8 + r.val = r.val; omega
  | ⟨1, _⟩ => show t.val * 512 + j.val = p.val; omega

/-- The arguments. -/
abbrev A0 (c : Dev nD) : S64x65536.Idx → EReal := m ((c : Thread nD τ).loc main_arg0)
abbrev A1 (c : Dev nD) : S64.Idx → EReal := m ((c : Thread nD τ).loc main_arg1)

theorem in0 (c : Dev nD) : (V m c main_arg0 : S64x65536.Idx → EReal) = A0 m c := by
  unfold V V0
  simp only [hostOps0, List.flatten_cons, List.flatten_nil, List.append_nil, List.cons_append, List.nil_append]
  after_results
  try rfl

theorem in1 (c : Dev nD) (e : Fin 64) : (V m c main_v4 : S64x1.Idx → EReal) (ix2 e 0) = A1 m c (ix1 e) := by
  have h : (V m c main_v4 : S64x1.Idx → EReal) = shapeCast S64x1 (A1 m c) shapeCasts_S64_S64x1 := by
    unfold V V0
    simp only [hostOps0, List.flatten_cons, List.flatten_nil, List.append_nil, List.cons_append, List.nil_append]
    after_results
    rfl
  rw [h]
  refine shapeCast_apply _ _ (ix2 e 0) (ix1 e : S64.Idx) ?_
  rw [Shape.rowMajor_val_two, Shape.rowMajor_val_one]
  show e.val = e.val * 1 + 0
  omega

/-- The choices of every token. -/
def choices (L : S64x65536.Idx → EReal) (b : S64.Idx → EReal) (i : S8x32768.Idx) : BitVec 32 :=
  BitVec.ofNat 32 (choice (fun e => L (ix2 e ⟨(i 1).val, lt_of_lt_of_le (i 1).isLt (by decide)⟩)) (fun e => b (ix1 e)) (i 0).val).val

theorem covers3 : (cfg0.win 3).Covers := by decide +kernel

theorem final3 (c : Dev nD) (hb : ∀ e : Fin 64, A1 m c (ix1 e) ≠ ⊥) :
    ((dats m 0 c).arrAt 3 cfg0.N : S8x32768.Idx → BitVec 32) = choices (A0 m c) (A1 m c) := by
  refine (dats m 0 c).arrAt_eq_of_covers 3 _ covers3 (fun t hf y => ?_)
  blk_simp
  rw [after0_3]
  obtain ⟨r, j, rfl⟩ : ∃ (r : Fin 8) (j : Fin 512), y = ix2 r j :=
    ⟨y (0 : Fin 2), y (1 : Fin 2), funext fun a => by match a with | ⟨0, _⟩ => rfl | ⟨1, _⟩ => rfl⟩
  have ht : t.val < 64 := t.isLt
  have hj := j.isLt
  rw [emb3 t r j ⟨t.val * 512 + j.val, by omega⟩ rfl]
  have hblk : (outsAt0 m c t.val t.isLt).1 = rowsI fun k => pickV64 (maskedV (k0_pay4 (iblk m c 0 t) (iblk m c 1 t))) k.val := by
    by_cases h0 : t.val % 64 = 0
    · rw [outsAt0_A m c t h0]
      dsimp only
      rw [outA3]
    · rw [outsAt0_B m c t h0]
      dsimp only
      rw [outB3]
  rw [hblk]
  exact choices_at _ _ _ _ r j (fun e => (blk0 m c t e j ⟨t.val * 512 + j.val, by omega⟩ rfl).trans (congrFun (in0 m c) _))
    (fun e => (blk1 m c t e 0).trans (in1 m c e)) hb

/-- The run leaves the choices. -/
theorem run_out (hb : ∀ (c : Dev nD) (e : Fin 64), A1 m c (ix1 e) ≠ ⊥) :
    θ_run defs (onTc (τ := τ) (main (F := Ideal))) ⟨m, fun _ => 0, ρ⟩ (fun r => ∀ c : Dev nD,
      (r.2.mem ((c.tc : Thread nD τ).loc main_v5_0) : S8x32768.Idx → BitVec 32) = choices (A0 m c) (A1 m c)) :=
  (θ_run defs _ _).mono (fun r h c => ((h c).1 3).trans (final3 m c (hb c))) (run_main m ρ)

end Cert.RouteIdeal.Gen

end
-- ==== Proof.RouteRef.lean ====
/- The reference's choices, entry by entry. -/
module

public import proofs.«01_k».proof.Proof.Gen.RouteReferenceIdeal.Run
public import proofs.«01_k».proof.Proof.RouteSpec
public import Idealize.ShloMosaic.Lib.Pointwise
public import Idealize.ShloMosaic.Lib.KernelVsHost
public import Idealize.ShloMosaic.PureOps.Ideal.Laws

@[expose] public section

noncomputable section

namespace Cert.RouteReferenceIdeal.Value

open Cert.RouteReferenceIdeal Cert.RouteReferenceIdeal.Gen Idealize.ShloMosaic Idealize.ShloMosaic.TcCoe Idealize.SL.Sem Idealize.ShloMosaic.Tactic RouteSel

theorem along2 {N n : Nat} (i : Fin N) (r k : Fin n) : (ix2 i r : (⟨2, ![N, n]⟩ : Shape).Idx).along (1 : Fin 2) k = ix2 i k := by
  funext a
  match a with
  | ⟨0, _⟩ => rfl
  | ⟨1, _⟩ => rfl

theorem along3 {N g n : Nat} (i : Fin N) (j : Fin g) (r k : Fin n) : (ix3 i j r : (⟨3, ![N, g, n]⟩ : Shape).Idx).along (2 : Fin 3) k = ix3 i j k := by
  funext a
  match a with
  | ⟨0, _⟩ => rfl
  | ⟨1, _⟩ => rfl
  | ⟨2, _⟩ => rfl

/-- The positions of the greatest entries of a row are its choices. -/
theorem topk_words {N n k : Nat} (x : (⟨2, ![N, n + 1]⟩ : Shape).Idx → EReal) (h : (⟨2, ![N, n + 1]⟩ : Shape).Slices (fun _ => 0) ⟨2, ![N, k]⟩)
    (hk : k ≤ n + 1) (i : Fin N) (hf : ∀ e, x (ix2 i e) ≠ ⊥) (r : Fin k) :
    (Host.topK ⟨2, ![N, k]⟩ 1 (FloatOps.cmpfTotal (F := Ideal) (φ := .f32) .gt) x h).2 (ix2 i r)
      = BitVec.ofNat 32 (pick (fun e => x (ix2 i e)) r.val).val := by
  have e : sortedFrom (fun q q' => FloatOps.cmpfTotal (F := Ideal) (φ := .f32) .gt
      (x ((ix2 i (r.castLE hk) : (⟨2, ![N, n + 1]⟩ : Shape).Idx).along (1 : Fin 2) q))
      (x ((ix2 i (r.castLE hk) : (⟨2, ![N, n + 1]⟩ : Shape).Idx).along (1 : Fin 2) q')) == 1#1) (r.castLE hk)
      = pick (fun e => x (ix2 i e)) r.val := by
    refine Eq.trans ?_ (sortedFrom_pick (fun e => x (ix2 i e)) hf hk r)
    refine congrArg (fun B => sortedFrom B (r.castLE hk)) (funext fun q => funext fun q' => ?_)
    exact congrArg₂ (fun y z => Ideal.cmp .ogt (x y) (x z) == 1#1) (along2 i (r.castLE hk) q) (along2 i (r.castLE hk) q')
  have key : ∀ y : (⟨2, ![N, n + 1]⟩ : Shape).Idx → BitVec 32,
      extractStridedSlice (⟨2, ![N, k]⟩ : Shape) (fun _ => 0) (Host.sort2 (⟨2, ![N, n + 1]⟩ : Shape) 1
        (fun l r : EReal × BitVec 32 => FloatOps.cmpfTotal (F := Ideal) (φ := .f32) .gt l.1 r.1) x y).2 h (ix2 i r)
        = y (ix2 i (pick (fun e => x (ix2 i e)) r.val)) := fun y => by
    refine (extractStridedSlice_apply (fun _ => 0) _ h (ix2 i r) (ix2 i (r.castLE hk)) (fun a => by
      match a with
      | ⟨0, _⟩ => exact (Nat.zero_add _).symm
      | ⟨1, _⟩ => exact (Nat.zero_add _).symm)).trans ?_
    exact (congrArg (fun q : Fin (n + 1) => y ((ix2 i (r.castLE hk) : (⟨2, ![N, n + 1]⟩ : Shape).Idx).along (1 : Fin 2) q)) e).trans
      (congrArg y (along2 i (r.castLE hk) _))
  exact key (fun i => if hd : 1 < (⟨2, ![N, n + 1]⟩ : Shape).rank then iotaInDim _ 32 ⟨1, hd⟩ i else 0#32)

/-- The greatest entries of a row are the entries at its choices. -/
theorem topk_vals {N g n k : Nat} (x : (⟨3, ![N, g, n + 1]⟩ : Shape).Idx → EReal) (h : (⟨3, ![N, g, n + 1]⟩ : Shape).Slices (fun _ => 0) ⟨3, ![N, g, k]⟩)
    (hk : k ≤ n + 1) (i : Fin N) (j : Fin g) (hf : ∀ e, x (ix3 i j e) ≠ ⊥) (r : Fin k) :
    (Host.topK ⟨3, ![N, g, k]⟩ 2 (FloatOps.cmpfTotal (F := Ideal) (φ := .f32) .gt) x h).1 (ix3 i j r)
      = x (ix3 i j (pick (fun e => x (ix3 i j e)) r.val)) := by
  have e : sortedFrom (fun q q' => FloatOps.cmpfTotal (F := Ideal) (φ := .f32) .gt
      (x ((ix3 i j (r.castLE hk) : (⟨3, ![N, g, n + 1]⟩ : Shape).Idx).along (2 : Fin 3) q))
      (x ((ix3 i j (r.castLE hk) : (⟨3, ![N, g, n + 1]⟩ : Shape).Idx).along (2 : Fin 3) q')) == 1#1) (r.castLE hk)
      = pick (fun e => x (ix3 i j e)) r.val := by
    refine Eq.trans ?_ (sortedFrom_pick (fun e => x (ix3 i j e)) hf hk r)
    refine congrArg (fun B => sortedFrom B (r.castLE hk)) (funext fun q => funext fun q' => ?_)
    exact congrArg₂ (fun y z => Ideal.cmp .ogt (x y) (x z) == 1#1) (along3 i j (r.castLE hk) q) (along3 i j (r.castLE hk) q')
  have key : ∀ y : (⟨3, ![N, g, n + 1]⟩ : Shape).Idx → BitVec 32,
      extractStridedSlice (⟨3, ![N, g, k]⟩ : Shape) (fun _ => 0) (Host.sort2 (⟨3, ![N, g, n + 1]⟩ : Shape) 2
        (fun l r : EReal × BitVec 32 => FloatOps.cmpfTotal (F := Ideal) (φ := .f32) .gt l.1 r.1) x y).1 h (ix3 i j r)
        = x (ix3 i j (pick (fun e => x (ix3 i j e)) r.val)) := fun y => by
    refine (extractStridedSlice_apply (fun _ => 0) _ h (ix3 i j r) (ix3 i j (r.castLE hk)) (fun a => by
      match a with
      | ⟨0, _⟩ => exact (Nat.zero_add _).symm
      | ⟨1, _⟩ => exact (Nat.zero_add _).symm
      | ⟨2, _⟩ => exact (Nat.zero_add _).symm)).trans ?_
    exact (congrArg (fun q : Fin (n + 1) => x ((ix3 i j (r.castLE hk) : (⟨3, ![N, g, n + 1]⟩ : Shape).Idx).along (2 : Fin 3) q)) e).trans
      (congrArg x (along3 i j (r.castLE hk) _))
  exact key (fun i => if hd : 2 < (⟨3, ![N, g, n + 1]⟩ : Shape).rank then iotaInDim _ 32 ⟨2, hd⟩ i else 0#32)

/-- The sigmoid of every token's logits. -/
def sigs (L : S64x65536.Idx → EReal) : FVec Ideal S32768x64 .f32 :=
  Host.divf (broadcastInDim S32768x64 ![] bcast_S_S32768x64 (constant S_ .f32 0x3F800000#32)) (addf (broadcastInDim S32768x64 ![] bcast_S_S32768x64 (constant S_ .f32 0x3F800000#32)) (Host.exp (Host.negf (transpose S32768x64 [1, 0] (extractStridedSlice S64x32768 ![0, 0] L slices_S64x65536_S64x32768_0_0) transposes_S64x32768_S32768x64_1_0))))

def biased (L : S64x65536.Idx → EReal) (b : S64.Idx → EReal) : FVec Ideal S32768x64 .f32 :=
  addf (F := Ideal) (sigs L) (broadcastInDim S32768x64 ![0, 1] bcast_S1x64_S32768x64_0_1 (broadcastInDim S1x64 ![1] bcast_S64_S1x64_1 b))

def groupScores (sb : FVec Ideal S32768x64 .f32) : FVec Ideal S32768x8 .f32 :=
  Host.reduceAdd ((Host.topK S32768x8x2 2 (FloatOps.cmpfTotal .gt) (shapeCast _ sb shapeCasts_S32768x64_S32768x8x8) sliceFits_S32768x8x8_S32768x8x2).1) (constant S_ .f32 0x00000000#32) reducesTo_S32768x8x2_S32768x8_d2 h_S_

def groupWords (gs : FVec Ideal S32768x8 .f32) : IVec S32768x4 32 := (Host.topK S32768x4 1 (FloatOps.cmpfTotal .gt) gs sliceFits_S32768x8_S32768x4).2

def groupMask (gi : IVec S32768x4 32) : IVec S32768x8 1 :=
  Host.reduce IntOp.ori (cmpi .eq (broadcastInDim S32768x4x8 ![0, 1, 2] bcast_S32768x4x1_S32768x4x8_0_1_2 (broadcastInDim S32768x4x1 ![0, 1] bcast_S32768x4_S32768x4x1_0_1 gi)) (broadcastInDim S32768x4x8 ![0, 1, 2] bcast_S1x1x8_S32768x4x8_0_1_2 (broadcastInDim S1x1x8 ![2] bcast_S8_S1x1x8_2 (iotaInDim S8 32 0)))) (constantI S_ 1 0#1) reducesTo_S32768x4x8_S32768x8_d1 h_S_

def lowered (gm : IVec S32768x8 1) (sb : FVec Ideal S32768x64 .f32) : FVec Ideal S32768x64 .f32 :=
  select (shapeCast _ (broadcastInDim S32768x8x8 ![0, 1] bcast_S32768x8_S32768x8x8_0_1 gm) shapeCasts_S32768x8x8_S32768x64) sb (broadcastInDim S32768x64 ![] bcast_S_S32768x64 (id (constant S_ .f32 0xF149F2CA#32)))

def expertWords (M : FVec Ideal S32768x64 .f32) : IVec S32768x8 32 := (Host.topK S32768x8 1 (FloatOps.cmpfTotal .gt) M sliceFits_S32768x64_S32768x8).2

/-- The choices of every token. -/
def chosen (L : S64x65536.Idx → EReal) (b : S64.Idx → EReal) : IVec S8x32768 32 :=
  transpose S8x32768 [1, 0] (expertWords (lowered (groupMask (groupWords (groupScores (biased L b)))) (biased L b))) transposes_S32768x8_S8x32768_1_0

theorem biased_at (L : S64x65536.Idx → EReal) (b : S64.Idx → EReal) (i : Fin 32768) (e : Fin 64) :
    biased L b (ix2 i e) = scores (fun e => L (ix2 e ⟨i.val, by have := i.isLt; omega⟩)) (fun e => b (ix1 e)) e := by
  have h1 : extractStridedSlice S64x32768 ![0, 0] L slices_S64x65536_S64x32768_0_0 (ix2 e i) = L (ix2 e ⟨i.val, by have := i.isLt; omega⟩) :=
    extractStridedSlice_apply _ _ _ (ix2 e i) _ (fun a => by
      match a with
      | ⟨0, _⟩ => exact (Nat.zero_add _).symm
      | ⟨1, _⟩ => exact (Nat.zero_add _).symm)
  have h2 : transpose S32768x64 [1, 0] (extractStridedSlice S64x32768 ![0, 0] L slices_S64x65536_S64x32768_0_0) transposes_S64x32768_S32768x64_1_0 (ix2 i e)
      = L (ix2 e ⟨i.val, by have := i.isLt; omega⟩) := by
    refine Eq.trans ?_ h1
    pointwise
  have h3 : sigs L (ix2 i e) = sg (L (ix2 e ⟨i.val, by have := i.isLt; omega⟩)) := by
    rw [← h2]
    rfl
  unfold biased scores
  pointwise
  rw [h3]

/-- A sum of pairs over the last axis. -/
theorem sum_pair {N g : Nat} {u : Shape} (h' : (⟨3, ![N, g, 2]⟩ : Shape).ReducesTo [(2 : Fin 3)] ⟨2, ![N, g]⟩)
    (h : (⟨3, ![N, g, 2]⟩ : Shape).Reduces [(2 : Fin 3)] ⟨2, ![N, g]⟩) (hu : 0 < u.numel)
    (y : (⟨3, ![N, g, 2]⟩ : Shape).Idx → EReal) (z : u.Idx → EReal) (i : Fin N) (j : Fin g) :
    Host.reduceAdd (F := Ideal) (φ := .f32) y z h' hu (ix2 i j) = z (Shape.Idx.first hu) + (y (ix3 i j (0 : Fin 2)) + y (ix3 i j (1 : Fin 2))) := by
  have hl : ∀ k : Fin 2, h.lift (ix2 i j) k = (ix3 i j k : (⟨3, ![N, g, 2]⟩ : Shape).Idx) := by
    intro k
    funext a
    refine Fin.ext ?_
    match a with
    | ⟨0, _⟩ => rfl
    | ⟨1, _⟩ => rfl
    | ⟨2, _⟩ => rfl
  refine (Ideal.hostReduceAdd_single h' h y _ _).trans (congrArg (fun q : EReal => z (Shape.Idx.first hu) + q) ?_)
  refine (Fin.sum_univ_two (fun k : Fin 2 => y (h.lift (ix2 i j) k))).trans ?_
  exact congrArg₂ (fun a b : EReal => a + b) (congrArg y (hl 0)) (congrArg y (hl 1))

/-- An "or" over the middle axis. -/
theorem or_rows {N k g : Nat} {u : Shape} [Std.Commutative (IntOp.ori (w := 1))] [Std.Associative (IntOp.ori (w := 1))]
    (h' : (⟨3, ![N, k, g]⟩ : Shape).ReducesTo [(1 : Fin 3)] ⟨2, ![N, g]⟩)
    (h : (⟨3, ![N, k, g]⟩ : Shape).Reduces [(1 : Fin 3)] ⟨2, ![N, g]⟩) (hu : 0 < u.numel)
    (y : (⟨3, ![N, k, g]⟩ : Shape).Idx → BitVec 1) (z : u.Idx → BitVec 1) (i : Fin N) (j : Fin g) :
    Host.reduce IntOp.ori y z h' hu (ix2 i j) = (Finset.univ : Finset (Fin k)).fold IntOp.ori (z (Shape.Idx.first hu)) (fun r => y (ix3 i r j)) := by
  have hl : ∀ r : Fin k, h.lift (ix2 i j) r = (ix3 i r j : (⟨3, ![N, k, g]⟩ : Shape).Idx) := by
    intro r
    funext a
    refine Fin.ext ?_
    match a with
    | ⟨0, _⟩ => rfl
    | ⟨1, _⟩ => rfl
    | ⟨2, _⟩ => rfl
  refine (Host.reduce_eq_fold_single IntOp.ori y z h' h hu (ix2 i j)).trans ?_
  exact congrArg (fun q : Fin k → BitVec 1 => (Finset.univ : Finset (Fin k)).fold IntOp.ori (z (Shape.Idx.first hu)) q) (funext fun r => congrArg y (hl r))

theorem pairs_reduce : S32768x8x2.Reduces [(2 : Fin 3)] S32768x8 := by decide
theorem rows_reduce : S32768x4x8.Reduces [(1 : Fin 3)] S32768x8 := by decide

theorem groupScores_at (sb : FVec Ideal S32768x64 .f32) (i : Fin 32768) (hb : ∀ e, sb (ix2 i e) ≠ ⊥) (g : Fin 8) :
    groupScores sb (ix2 i g) = gscore (fun e : Fin 64 => sb (ix2 i e)) g := by
  have hg : ∀ x : Fin 8, (shapeCast S32768x8x8 sb shapeCasts_S32768x64_S32768x8x8 : S32768x8x8.Idx → EReal) (ix3 i g x) = grp (fun e : Fin 64 => sb (ix2 i e)) g x := by
    intro x
    refine shapeCast_apply _ _ (ix3 i g x) (ix2 i (⟨8 * g.val + x.val, by have := g.isLt; have := x.isLt; omega⟩ : Fin 64) : S32768x64.Idx) ?_
    rw [Shape.rowMajor_val_two, Shape.rowMajor_val_three]
    show i.val * 64 + (8 * g.val + x.val) = (i.val * 8 + g.val) * 8 + x.val
    omega
  have hf : (fun x : Fin 8 => (shapeCast S32768x8x8 sb shapeCasts_S32768x64_S32768x8x8 : S32768x8x8.Idx → EReal) (ix3 i g x)) = grp (fun e : Fin 64 => sb (ix2 i e)) g := funext hg
  have hv := fun r : Fin 2 => topk_vals (N := 32768) (g := 8) (n := 7) (k := 2) (shapeCast S32768x8x8 sb shapeCasts_S32768x64_S32768x8x8)
    sliceFits_S32768x8x8_S32768x8x2 (by decide) i g (fun e => by rw [hg]; exact hb _) r
  rw [hf] at hv
  unfold groupScores
  have h0 : (constant (F := Ideal) S_ .f32 0x00000000#32 : S_.Idx → EReal) (Shape.Idx.first h_S_) = 0 := by
    show Ideal.ofBits FTy.f32 0x00000000#32 = 0
    simp [Ideal.ofBits, Ideal.ieee]
  refine (sum_pair reducesTo_S32768x8x2_S32768x8_d2 pairs_reduce h_S_ _ _ i g).trans ?_
  rw [h0, zero_add]
  exact congrArg₂ (fun a b : EReal => a + b) ((hv 0).trans (hg _)) ((hv 1).trans (hg _))

theorem fold_ori {n : Nat} (P : Fin n → Prop) [DecidablePred P] [Std.Commutative (IntOp.ori (w := 1))] [Std.Associative (IntOp.ori (w := 1))] (S : Finset (Fin n)) :
    S.fold IntOp.ori 0#1 (fun i => if P i then 1#1 else 0#1) = open Classical in if ∃ i ∈ S, P i then 1#1 else 0#1 := by
  classical
  induction S using Finset.induction_on with
  | empty => simp
  | insert a S ha ih =>
    rw [Finset.fold_insert ha, ih]
    by_cases h1 : P a
    · have h3 : ∃ i ∈ insert a S, P i := ⟨a, Finset.mem_insert_self _ _, h1⟩
      rw [if_pos h1, if_pos h3]
      split <;> decide
    · rw [if_neg h1]
      by_cases h2 : ∃ i ∈ S, P i
      · have h3 : ∃ i ∈ insert a S, P i := by obtain ⟨i, hi, hp⟩ := h2; exact ⟨i, Finset.mem_insert_of_mem hi, hp⟩
        rw [if_pos h2, if_pos h3]; decide
      · have h3 : ¬ ∃ i ∈ insert a S, P i := by
          rintro ⟨i, hi, hp⟩
          rcases Finset.mem_insert.mp hi with rfl | hi
          · exact h1 hp
          · exact h2 ⟨i, hi, hp⟩
        rw [if_neg h2, if_neg h3]; decide

theorem groupMask_at (gi : IVec S32768x4 32) (i : Fin 32768) (f : Nat → Fin 8) (h : ∀ r : Fin 4, gi (ix2 i r) = BitVec.ofNat 32 (f r.val).val) (g : Fin 8) :
    groupMask gi (ix2 i g) = open Classical in if ∃ r < 4, (f r).val = g.val then 1#1 else 0#1 := by
  classical
  haveI : Std.Commutative (IntOp.ori (w := 1)) := ⟨fun a b => BitVec.or_comm a b⟩
  haveI : Std.Associative (IntOp.ori (w := 1)) := ⟨fun a b c => BitVec.or_assoc a b c⟩
  unfold groupMask
  refine (or_rows reducesTo_S32768x4x8_S32768x8_d1 rows_reduce h_S_ _ _ i g).trans ?_
  have hg := g.isLt
  refine Eq.trans (b := (Finset.univ : Finset (Fin 4)).fold IntOp.ori 0#1 (fun r : Fin 4 => if (f r.val).val = g.val then 1#1 else 0#1)) ?_ ?_
  · refine congrArg (fun q : Fin 4 → BitVec 1 => (Finset.univ : Finset (Fin 4)).fold IntOp.ori 0#1 q) (funext fun r => ?_)
    have hr := (f r.val).isLt
    have hh := h r
    pointwise
    rw [hh]
    by_cases h1 : (f r.val).val = g.val
    · simp [IntOp.cmpi, h1]
    · rw [if_neg h1]
      have hne : ¬ BitVec.ofNat 32 (f r.val).val = BitVec.ofNat 32 g.val := fun hw => by
        have := congrArg BitVec.toNat hw
        simp only [BitVec.toNat_ofNat] at this
        exact h1 (by omega)
      have hb := beq_eq_false_iff_ne.mpr hne
      simp [IntOp.cmpi, hb]
  · rw [fold_ori]
    by_cases h1 : ∃ r < 4, (f r).val = g.val
    · have h3 : ∃ r ∈ (Finset.univ : Finset (Fin 4)), (f r.val).val = g.val := by
        obtain ⟨r, hr, hp⟩ := h1; exact ⟨⟨r, hr⟩, Finset.mem_univ _, hp⟩
      rw [if_pos h1, if_pos h3]
    · have h3 : ¬ ∃ r ∈ (Finset.univ : Finset (Fin 4)), (f r.val).val = g.val := by
        rintro ⟨r, _, hp⟩; exact h1 ⟨r.val, r.isLt, hp⟩
      rw [if_neg h1, if_neg h3]

theorem lowered_at (gm : IVec S32768x8 1) (sb : FVec Ideal S32768x64 .f32) (i : Fin 32768) (e : Fin 64) :
    lowered gm sb (ix2 i e) = if gm (ix2 i (⟨e.val / 8, by have := e.isLt; omega⟩ : Fin 8)) = 1#1 then sb (ix2 i e) else Ideal.ofBits FTy.f32 0xF149F2CA#32 := by
  have hc : shapeCast S32768x64 (broadcastInDim S32768x8x8 ![0, 1] bcast_S32768x8_S32768x8x8_0_1 gm) shapeCasts_S32768x8x8_S32768x64 (ix2 i e)
      = gm (ix2 i (⟨e.val / 8, by have := e.isLt; omega⟩ : Fin 8)) := by
    refine (shapeCast_apply _ _ (ix2 i e) (ix3 i (⟨e.val / 8, by have := e.isLt; omega⟩ : Fin 8) (⟨e.val % 8, by omega⟩ : Fin 8) : S32768x8x8.Idx) ?_).trans ?_
    · rw [Shape.rowMajor_val_two, Shape.rowMajor_val_three]
      show (i.val * 8 + e.val / 8) * 8 + e.val % 8 = i.val * 64 + e.val
      omega
    · pointwise
  show (if shapeCast S32768x64 (broadcastInDim S32768x8x8 ![0, 1] bcast_S32768x8_S32768x8x8_0_1 gm) shapeCasts_S32768x8x8_S32768x64 (ix2 i e) = 1#1 then _ else _) = _
  rw [hc]
  rfl

theorem lowered_masked (L : S64x65536.Idx → EReal) (b : S64.Idx → EReal) (hb : ∀ e : Fin 64, b (ix1 e) ≠ ⊥) (i : Fin 32768) (e : Fin 64) :
    lowered (groupMask (groupWords (groupScores (biased L b)))) (biased L b) (ix2 i e)
      = masked (scores (fun e => L (ix2 e ⟨i.val, by have := i.isLt; omega⟩)) (fun e => b (ix1 e))) e := by
  classical
  have hs : (fun e : Fin 64 => biased L b (ix2 i e)) = scores (fun e => L (ix2 e ⟨i.val, by have := i.isLt; omega⟩)) (fun e => b (ix1 e)) :=
    funext (biased_at L b i)
  have hn : ∀ e : Fin 64, biased L b (ix2 i e) ≠ ⊥ := fun e => by rw [biased_at]; exact scores_ne _ _ hb e
  have hgs : (fun g : Fin 8 => groupScores (biased L b) (ix2 i g)) = gscore (scores (fun e => L (ix2 e ⟨i.val, by have := i.isLt; omega⟩)) (fun e => b (ix1 e))) := by
    funext g
    rw [groupScores_at _ _ hn, hs]
  have hw : ∀ r : Fin 4, groupWords (groupScores (biased L b)) (ix2 i r)
      = BitVec.ofNat 32 (pick (gscore (scores (fun e => L (ix2 e ⟨i.val, by have := i.isLt; omega⟩)) (fun e => b (ix1 e)))) r.val).val := by
    intro r
    have := topk_words (N := 32768) (n := 7) (k := 4) (groupScores (biased L b)) sliceFits_S32768x8_S32768x4 (by decide) i
      (fun g => by rw [groupScores_at _ _ hn, hs]; exact gscore_ne _ (scores_ne _ _ hb) g) r
    rw [hgs] at this
    exact this
  rw [lowered_at, groupMask_at _ i _ hw, biased_at]
  unfold masked
  by_cases h : ∃ r < 4, (pick (gscore (scores (fun e => L (ix2 e ⟨i.val, by have := i.isLt; omega⟩)) (fun e => b (ix1 e)))) r).val = e.val / 8
  · rw [if_pos h, if_pos h, if_pos rfl]
  · rw [if_neg h, if_neg h, if_neg (by decide)]

theorem expertWords_at (L : S64x65536.Idx → EReal) (b : S64.Idx → EReal) (hb : ∀ e : Fin 64, b (ix1 e) ≠ ⊥) (i : Fin 32768) (r : Fin 8) :
    expertWords (lowered (groupMask (groupWords (groupScores (biased L b)))) (biased L b)) (ix2 i r)
      = BitVec.ofNat 32 (choice (fun e => L (ix2 e ⟨i.val, by have := i.isLt; omega⟩)) (fun e => b (ix1 e)) r.val).val := by
  have hm := fun e : Fin 64 => lowered_masked L b hb i e
  have := topk_words (N := 32768) (n := 63) (k := 8) (lowered (groupMask (groupWords (groupScores (biased L b)))) (biased L b))
    sliceFits_S32768x64_S32768x8 (by decide) i (fun e => by rw [hm]; exact masked_ne _ (scores_ne _ _ hb) e) r
  rw [show (fun e : Fin 64 => lowered (groupMask (groupWords (groupScores (biased L b)))) (biased L b) (ix2 i e)) = _ from funext hm] at this
  exact this

theorem chosen_at (L : S64x65536.Idx → EReal) (b : S64.Idx → EReal) (hb : ∀ e : Fin 64, b (ix1 e) ≠ ⊥) (r : Fin 8) (i : Fin 32768) :
    chosen L b (ix2 r i) = BitVec.ofNat 32 (choice (fun e => L (ix2 e ⟨i.val, by have := i.isLt; omega⟩)) (fun e => b (ix1 e)) r.val).val := by
  rw [← expertWords_at L b hb i r]
  unfold chosen
  generalize expertWords _ = E
  pointwise

end Cert.RouteReferenceIdeal.Value

end
-- ==== Proof.RouteOk.lean ====
/- The choice of experts: the precondition keeps every bias above the least value; the choices of the kernel are those of the
   reference. -/
module

public import proofs.«01_k».proof.Proof.Gen.Pre_bias_above
public import proofs.«01_k».proof.Proof.RouteRun
public import proofs.«01_k».proof.Proof.RouteRef
public import Idealize.ShloMosaic.Lib.ReduceAll

@[expose] public section

noncomputable section

namespace Cert.RouteOk

open Idealize.ShloMosaic Idealize.ShloMosaic.TcCoe Idealize.ShloMosaic.Tactic

theorem ne_of_above (x : EReal) (h : Ideal.cmp .ogt x (Ideal.ofBits FTy.f32 0xFF800000#32) = 1#1) : x ≠ ⊥ := by
  rintro rfl
  rw [Cert.RouteIdeal.Gen.bot_word] at h
  simp [Ideal.cmp] at h

theorem bias_ne (x0 : FVec Ideal Cert.Pre_bias_above.S64x65536 .f32) (x1 : FVec Ideal Cert.Pre_bias_above.S64 .f32)
    (h : Cert.Pre_bias_above.fn (F := Ideal) x0 x1 = fun _ => 1#1) (e : Cert.Pre_bias_above.S64.Idx) : x1 e ≠ ⊥ :=
  ne_of_above (x1 e) (Host.reduce_andi_eq_one _ _ _ _ (Shape.Idx.first Cert.Pre_bias_above.Gen.h_S_)
    (congrFun h (Shape.Idx.first Cert.Pre_bias_above.Gen.h_S_)) e (funext fun a => a.elim0))

theorem same (L : Cert.RouteReferenceIdeal.S64x65536.Idx → EReal) (b : Cert.RouteReferenceIdeal.S64.Idx → EReal)
    (hb : ∀ e : Fin 64, b (ix1 e) ≠ ⊥) : Cert.RouteReferenceIdeal.Value.chosen L b = Cert.RouteIdeal.Gen.choices L b := by
  funext i
  refine (congrArg _ (ix2_eta i).symm).trans ?_
  exact Cert.RouteReferenceIdeal.Value.chosen_at L b hb (i 0) (i 1)

end Cert.RouteOk

end
-- ==== Proof.lean ====
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsReferenceIdeal
public import proofs.«01_k».proof.Proof.Gen.ExpertsReferenceIdeal.Read
public import proofs.«01_k».proof.Proof.Gen.Pre_table_in_range
public import proofs.«01_k».proof.Proof.Gen.ExpertsReferenceIdeal.Run
public import proofs.«01_k».proof.Proof.ExpertsValue
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineReferenceIdeal
public import proofs.«01_k».proof.Proof.Gen.CombineReferenceIdeal.Read
public import proofs.«01_k».proof.Proof.Gen.CombineReferenceIdeal.Run
public import proofs.«01_k».proof.Proof.CombineRun
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidIdeal.Value
public import proofs.«01_k».proof.Proof.Gen.MidReferenceIdeal
public import proofs.«01_k».proof.Proof.Gen.MidReferenceIdeal.Read
public import proofs.«01_k».proof.Proof.Gen.MidReferenceIdeal.Run
public import proofs.«01_k».proof.Proof.MidRun
public import proofs.«01_k».proof.Proof.Gen.OddProj
public import proofs.«01_k».proof.Proof.Gen.OddProj.Skeleton
public import proofs.«01_k».proof.Proof.Gen.OddProj.Launch
public import proofs.«01_k».proof.Proof.Gen.OddProj.Points
public import proofs.«01_k».proof.Proof.Gen.OddProj.Frame
public import proofs.«01_k».proof.Proof.Gen.OddProjIdeal
public import proofs.«01_k».proof.Proof.Gen.OddProjIdeal.Skeleton
public import proofs.«01_k».proof.Proof.Gen.OddProjIdeal.Launch
public import proofs.«01_k».proof.Proof.Gen.OddProjIdeal.Points
public import proofs.«01_k».proof.Proof.Gen.OddProjIdeal.Frame
public import proofs.«01_k».proof.Proof.Gen.OddProjReferenceIdeal
public import proofs.«01_k».proof.Proof.Gen.OddProjReferenceIdeal.Read
public import proofs.«01_k».proof.Proof.Gen.OddProjReferenceIdeal.Run
public import proofs.«01_k».proof.Proof.OddProjRun
public import proofs.«01_k».proof.Proof.Gen.EvenProj
public import proofs.«01_k».proof.Proof.Gen.EvenProj.Skeleton
public import proofs.«01_k».proof.Proof.Gen.EvenProj.Launch
public import proofs.«01_k».proof.Proof.Gen.EvenProj.Points
public import proofs.«01_k».proof.Proof.Gen.EvenProj.Frame
public import proofs.«01_k».proof.Proof.Gen.EvenProjIdeal
public import proofs.«01_k».proof.Proof.Gen.EvenProjIdeal.Skeleton
public import proofs.«01_k».proof.Proof.Gen.EvenProjIdeal.Launch
public import proofs.«01_k».proof.Proof.Gen.EvenProjIdeal.Points
public import proofs.«01_k».proof.Proof.Gen.EvenProjIdeal.Frame
public import proofs.«01_k».proof.Proof.Gen.EvenProjReferenceIdeal
public import proofs.«01_k».proof.Proof.Gen.EvenProjReferenceIdeal.Run
public import proofs.«01_k».proof.Proof.EvenProjRun
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressReferenceIdeal
public import proofs.«01_k».proof.Proof.Gen.CompressReferenceIdeal.Run
public import proofs.«01_k».proof.Proof.CompressRun
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteReferenceIdeal
public import proofs.«01_k».proof.Proof.Gen.RouteReferenceIdeal.Run
public import proofs.«01_k».proof.Proof.Gen.Pre_bias_above
public import proofs.«01_k».proof.Proof.RouteOk
public import Idealize.ShloMosaic.Lib.Quiescent
public import Idealize.ShloMosaic.Adequacy
public import Idealize.ShloMosaic.Init

@[expose] public section

noncomputable section

namespace Cert.Proof

open Idealize.ShloMosaic Idealize.SL.Sem Cert.Experts

theorem experts_quiescent : quiescent_Experts (hExperts := Cert.Experts.Gen.facts) (hPre_table_in_range := Cert.Pre_table_in_range.Gen.facts) :=
  fun m g h => Cert.Experts.Gen.frame m g (Cert.Experts.Gen.ok_of_range m (ExpertsOk.inRange_of_fn _ _ _ _ _ _ (h 0)))

theorem expertsIdeal_quiescent : quiescent_ExpertsIdeal (hExpertsIdeal := Cert.ExpertsIdeal.Gen.facts) (hPre_table_in_range := Cert.Pre_table_in_range.Gen.facts) :=
  fun m g h => Cert.ExpertsIdeal.Gen.frame m g (Cert.ExpertsIdeal.Gen.ok_of_range m (ExpertsOk.inRange_of_fn _ _ _ _ _ _ (h 0)))

theorem expertsReference_quiescent : quiescent_ExpertsReferenceIdeal (hExpertsReferenceIdeal := Cert.ExpertsReferenceIdeal.Gen.facts) (hPre_table_in_range := Cert.Pre_table_in_range.Gen.facts) :=
  fun m g _ => (θ_run _ _ _).mono (fun r h => ⟨fun c => (h c).2, sem_eq_zero_of_no_sems rfl r.2⟩)
    (Cert.ExpertsReferenceIdeal.Value.run m g)

theorem experts_algebraic : algebraic_ExpertsIdeal_ExpertsReferenceIdeal (hExpertsIdeal := Cert.ExpertsIdeal.Gen.facts)
    (hExpertsReferenceIdeal := Cert.ExpertsReferenceIdeal.Gen.facts) (hPre_table_in_range := Cert.Pre_table_in_range.Gen.facts) := by
  intro m g m' g' hpre hagree
  have hr := ExpertsOk.inRange_of_fn _ _ _ _ _ _ (hpre 0)
  refine ⟨ExpertsValue.out m, (θ_run _ _ _).mono (fun r h c => ⟨h.1 c, h.2.1 c⟩)
    (θ_run_and (ExpertsValue.kernel_run m g hr) (Cert.ExpertsIdeal.Gen.frame m g (Cert.ExpertsIdeal.Gen.ok_of_range m hr))), ?_⟩
  refine (θ_run _ _ _).mono (fun r h c => ⟨(h c).1.trans ?_, (h c).2⟩) (Cert.ExpertsReferenceIdeal.Value.run m' g')
  have hc : c = 0 := Subsingleton.elim (α := Fin 1) c 0
  subst hc
  obtain ⟨a0, a1, a2, a3, a4, a5⟩ := hagree 0
  refine (Cert.ExpertsReferenceIdeal.Read.val_main_v18_eq _ _ _ _ _ _).trans ?_
  rw [a0, a1, a2, a3, a4, a5]
  exact Cert.ExpertsReferenceIdeal.Read.result _ _ _ _ _ _ hr

theorem combine_quiescent : quiescent_Combine (hCombine := Cert.Combine.Gen.facts) :=
  fun m g _ => Cert.Combine.Gen.frame m g

theorem combineIdeal_quiescent : quiescent_CombineIdeal (hCombineIdeal := Cert.CombineIdeal.Gen.facts) :=
  fun m g _ => Cert.CombineIdeal.Gen.frame m g

theorem combineReference_quiescent : quiescent_CombineReferenceIdeal (hCombineReferenceIdeal := Cert.CombineReferenceIdeal.Gen.facts) :=
  fun m g _ => (θ_run _ _ _).mono (fun r h => ⟨fun c => (h c).2, sem_eq_zero_of_no_sems rfl r.2⟩)
    (Cert.CombineReferenceIdeal.Value.run m g)

theorem combine_algebraic : algebraic_CombineIdeal_CombineReferenceIdeal (hCombineIdeal := Cert.CombineIdeal.Gen.facts)
    (hCombineReferenceIdeal := Cert.CombineReferenceIdeal.Gen.facts) := by
  intro m g m' g' _ hagree
  refine ⟨Cert.CombineIdeal.Gen.out m, (θ_run _ _ _).mono (fun r h c => ⟨h.1 c, h.2.1 c⟩)
    (θ_run_and (Cert.CombineIdeal.Gen.run_out m g) (Cert.CombineIdeal.Gen.frame m g)), ?_⟩
  refine (θ_run _ _ _).mono (fun r h c => ⟨(h c).1.trans ?_, (h c).2⟩) (Cert.CombineReferenceIdeal.Value.run m' g')
  obtain ⟨a0, a1, a2, a3, a4, a5, a6, a7, a8, a9, a10, a11, a12, a13⟩ := hagree c
  refine (Cert.CombineReferenceIdeal.Read.val_main_v75_eq m' c).trans ?_
  rw [a0, a1, a2, a3, a4, a5, a6, a7, a8, a9, a10, a11, a12, a13]
  rfl

theorem mid_quiescent : quiescent_Mid (hMid := Cert.Mid.Gen.facts) :=
  fun m g _ => Cert.Mid.Gen.frame m g

theorem midIdeal_quiescent : quiescent_MidIdeal (hMidIdeal := Cert.MidIdeal.Gen.facts) :=
  fun m g _ => Cert.MidIdeal.Gen.frame m g

theorem midReference_quiescent : quiescent_MidReferenceIdeal (hMidReferenceIdeal := Cert.MidReferenceIdeal.Gen.facts) :=
  fun m g _ => (θ_run _ _ _).mono (fun r h => ⟨fun c => (h c).2.2.2.2, sem_eq_zero_of_no_sems rfl r.2⟩)
    (Cert.MidReferenceIdeal.Value.run m g)

theorem mid_algebraic : algebraic_MidIdeal_MidReferenceIdeal (hMidIdeal := Cert.MidIdeal.Gen.facts)
    (hMidReferenceIdeal := Cert.MidReferenceIdeal.Gen.facts) := by
  intro m g m' g' _ hagree
  refine ⟨Cert.MidIdeal.Gen.out9 m, Cert.MidIdeal.Gen.out10 m, Cert.MidIdeal.Gen.out11 m, Cert.MidIdeal.Gen.out12 m,
    (θ_run _ _ _).mono (fun r h c => ⟨(h.1 c).1, (h.1 c).2.1, (h.1 c).2.2.1, (h.1 c).2.2.2, h.2.1 c⟩)
      (θ_run_and (Cert.MidIdeal.Gen.run_out m g) (Cert.MidIdeal.Gen.frame m g)), ?_⟩
  refine (θ_run _ _ _).mono (fun r h c => ⟨(h c).1.trans ?_, (h c).2.1.trans ?_, (h c).2.2.1.trans ?_,
    (h c).2.2.2.1.trans ?_, (h c).2.2.2.2⟩) (Cert.MidReferenceIdeal.Value.run m' g')
  all_goals obtain ⟨a0, a1, a2, a3, a4, a5, a6, a7, a8⟩ := hagree c
  · refine (Cert.MidReferenceIdeal.Read.val_main_v28_eq _ _ _ _ _).trans ?_
    rw [a0, a1, a2, a3, a4]
    try rfl
  · refine (Cert.MidReferenceIdeal.Read.val_main_v35_eq _ _ _ _ _).trans ?_
    rw [a0, a1, a2, a3, a4]
    try rfl
  · refine (Cert.MidReferenceIdeal.Read.val_main_v33_eq m' c).trans ?_
    rw [a0, a1, a2, a3, a4, a5, a6, a7]
    try rfl
  · refine (Cert.MidReferenceIdeal.Read.val_main_v36_eq _ _ _ _ _ _).trans ?_
    rw [a0, a1, a2, a3, a4, a8]
    try rfl

theorem oddProj_quiescent : quiescent_OddProj (hOddProj := Cert.OddProj.Gen.facts) :=
  fun m g _ => Cert.OddProj.Gen.frame m g

theorem oddProjIdeal_quiescent : quiescent_OddProjIdeal (hOddProjIdeal := Cert.OddProjIdeal.Gen.facts) :=
  fun m g _ => Cert.OddProjIdeal.Gen.frame m g

theorem oddProjReference_quiescent : quiescent_OddProjReferenceIdeal (hOddProjReferenceIdeal := Cert.OddProjReferenceIdeal.Gen.facts) :=
  fun m g _ => (θ_run _ _ _).mono (fun r h => ⟨fun c => (h c).2, sem_eq_zero_of_no_sems rfl r.2⟩)
    (Cert.OddProjReferenceIdeal.Value.run m g)

theorem oddProj_algebraic : algebraic_OddProjIdeal_OddProjReferenceIdeal (hOddProjIdeal := Cert.OddProjIdeal.Gen.facts)
    (hOddProjReferenceIdeal := Cert.OddProjReferenceIdeal.Gen.facts) := by
  intro m g m' g' _ hagree
  refine ⟨Cert.OddProjIdeal.Gen.out m, (θ_run _ _ _).mono (fun r h c => ⟨h.1 c, h.2.1 c⟩)
    (θ_run_and (Cert.OddProjIdeal.Gen.run_out m g) (Cert.OddProjIdeal.Gen.frame m g)), ?_⟩
  refine (θ_run _ _ _).mono (fun r h c => ⟨(h c).1.trans ?_, (h c).2⟩) (Cert.OddProjReferenceIdeal.Value.run m' g')
  obtain ⟨a0, a1⟩ := hagree c
  refine (Cert.OddProjReferenceIdeal.Read.val_main_v0_eq _ _).trans ?_
  rw [a0, a1]

theorem evenProj_quiescent : quiescent_EvenProj (hEvenProj := Cert.EvenProj.Gen.facts) :=
  fun m g _ => Cert.EvenProj.Gen.frame m g

theorem evenProjIdeal_quiescent : quiescent_EvenProjIdeal (hEvenProjIdeal := Cert.EvenProjIdeal.Gen.facts) :=
  fun m g _ => Cert.EvenProjIdeal.Gen.frame m g

theorem evenProjReference_quiescent : quiescent_EvenProjReferenceIdeal (hEvenProjReferenceIdeal := Cert.EvenProjReferenceIdeal.Gen.facts) :=
  fun m g _ => (θ_run _ _ _).mono (fun r h => ⟨fun c => (h c).2.2.2.2, sem_eq_zero_of_no_sems rfl r.2⟩)
    (Cert.EvenProjReferenceIdeal.Value.run m g)

theorem evenProj_algebraic : algebraic_EvenProjIdeal_EvenProjReferenceIdeal (hEvenProjIdeal := Cert.EvenProjIdeal.Gen.facts)
    (hEvenProjReferenceIdeal := Cert.EvenProjReferenceIdeal.Gen.facts) := by
  intro m g m' g' _ hagree
  refine ⟨Cert.EvenProjIdeal.Gen.head0 m, Cert.EvenProjIdeal.Gen.head1 m, Cert.EvenProjIdeal.Gen.head2 m, Cert.EvenProjIdeal.Gen.others m,
    (θ_run _ _ _).mono (fun r h c => ⟨(h.1 c).1, (h.1 c).2.1, (h.1 c).2.2.1, (h.1 c).2.2.2, h.2.1 c⟩)
      (θ_run_and (Cert.EvenProjIdeal.Gen.run_out m g) (Cert.EvenProjIdeal.Gen.frame m g)), ?_⟩
  refine (θ_run _ _ _).mono (fun r h c => ⟨(h c).1.trans ?_, (h c).2.1.trans ?_, (h c).2.2.1.trans ?_,
    (h c).2.2.2.1.trans ?_, (h c).2.2.2.2⟩) (Cert.EvenProjReferenceIdeal.Value.run m' g')
  · exact (Cert.EvenProjReferenceIdeal.Value.v41_eq m' c).trans
      (congrArg₂ (fun x w => Cert.EvenProjReferenceIdeal.Value.scaled x w 0 _) (hagree c).1 (hagree c).2)
  · exact (Cert.EvenProjReferenceIdeal.Value.v61_eq m' c).trans
      (congrArg₂ (fun x w => Cert.EvenProjReferenceIdeal.Value.unscaled x w 640 _) (hagree c).1 (hagree c).2)
  · exact (Cert.EvenProjReferenceIdeal.Value.v83_eq m' c).trans
      (congrArg₂ (fun x w => Cert.EvenProjReferenceIdeal.Value.scaled x w 1224 _) (hagree c).1 (hagree c).2)
  · exact congrArg₂ (fun x w => Cert.EvenProjReferenceIdeal.Value.rest x w) (hagree c).1 (hagree c).2

theorem compress_quiescent : quiescent_Compress (hCompress := Cert.Compress.Gen.facts) :=
  fun m g _ => Cert.Compress.Gen.frame m g

theorem compressIdeal_quiescent : quiescent_CompressIdeal (hCompressIdeal := Cert.CompressIdeal.Gen.facts) :=
  fun m g _ => Cert.CompressIdeal.Gen.frame m g

theorem compressReference_quiescent : quiescent_CompressReferenceIdeal (hCompressReferenceIdeal := Cert.CompressReferenceIdeal.Gen.facts) :=
  fun m g _ => (θ_run _ _ _).mono (fun r h => ⟨fun c => (h c).2, sem_eq_zero_of_no_sems rfl r.2⟩)
    (Cert.CompressReferenceIdeal.Value.run m g)

theorem compress_algebraic : algebraic_CompressIdeal_CompressReferenceIdeal (hCompressIdeal := Cert.CompressIdeal.Gen.facts)
    (hCompressReferenceIdeal := Cert.CompressReferenceIdeal.Gen.facts) := by
  intro m g m' g' _ hagree
  refine ⟨Cert.CompressIdeal.Gen.out m, (θ_run _ _ _).mono (fun r h c => ⟨h.1 c, h.2.1 c⟩)
    (θ_run_and (Cert.CompressIdeal.Gen.run_out m g) (Cert.CompressIdeal.Gen.frame m g)), ?_⟩
  refine (θ_run _ _ _).mono (fun r h c => ⟨(h c).1.trans ?_, (h c).2⟩) (Cert.CompressReferenceIdeal.Value.run m' g')
  obtain ⟨a0, a1, a2, a3⟩ := hagree c
  rw [a0, a1, a2, a3]
  rfl

theorem route_quiescent : quiescent_Route (hRoute := Cert.Route.Gen.facts) :=
  fun m g _ => Cert.Route.Gen.frame m g

theorem routeIdeal_quiescent : quiescent_RouteIdeal (hRouteIdeal := Cert.RouteIdeal.Gen.facts) :=
  fun m g _ => Cert.RouteIdeal.Gen.frame m g

theorem routeIdeal_quiescent_above : quiescent_RouteIdeal_pre_bias_above (hRouteIdeal := Cert.RouteIdeal.Gen.facts)
    (hPre_bias_above := Cert.Pre_bias_above.Gen.facts) :=
  fun m g _ => Cert.RouteIdeal.Gen.frame m g

theorem routeReference_quiescent : quiescent_RouteReferenceIdeal (hRouteReferenceIdeal := Cert.RouteReferenceIdeal.Gen.facts) :=
  fun m g _ => (θ_run _ _ _).mono (fun r h => ⟨fun c => (h c).2, sem_eq_zero_of_no_sems rfl r.2⟩)
    (Cert.RouteReferenceIdeal.Value.run m g)

theorem routeReference_quiescent_above : quiescent_RouteReferenceIdeal_pre_bias_above
    (hRouteReferenceIdeal := Cert.RouteReferenceIdeal.Gen.facts) (hPre_bias_above := Cert.Pre_bias_above.Gen.facts) :=
  fun m g _ => routeReference_quiescent m g trivial

theorem route_algebraic : algebraic_RouteIdeal_RouteReferenceIdeal_pre_bias_above (hRouteIdeal := Cert.RouteIdeal.Gen.facts)
    (hRouteReferenceIdeal := Cert.RouteReferenceIdeal.Gen.facts) (hPre_bias_above := Cert.Pre_bias_above.Gen.facts) := by
  intro m g m' g' hpre hagree
  have hb : ∀ c e, Cert.RouteIdeal.Gen.A1 m c (ix1 e) ≠ ⊥ := fun c e => RouteOk.bias_ne _ _ (hpre c) _
  refine ⟨fun c => Cert.RouteIdeal.Gen.choices (Cert.RouteIdeal.Gen.A0 m c) (Cert.RouteIdeal.Gen.A1 m c),
    (θ_run _ _ _).mono (fun r h c => ⟨h.1 c, h.2.1 c⟩)
      (θ_run_and (Cert.RouteIdeal.Gen.run_out m g hb) (Cert.RouteIdeal.Gen.frame m g)), ?_⟩
  refine (θ_run _ _ _).mono (fun r h c => ⟨(h c).1.trans ?_, (h c).2⟩) (Cert.RouteReferenceIdeal.Value.run m' g')
  refine Eq.trans (b := Cert.RouteReferenceIdeal.Value.chosen
    (m' ((c.tc : Thread Cert.RouteReferenceIdeal.nD Cert.RouteReferenceIdeal.τ).loc Cert.RouteReferenceIdeal.main_arg0))
    (m' ((c.tc : Thread Cert.RouteReferenceIdeal.nD Cert.RouteReferenceIdeal.τ).loc Cert.RouteReferenceIdeal.main_arg1))) rfl ?_
  exact (congrArg₂ Cert.RouteReferenceIdeal.Value.chosen (hagree c).1 (hagree c).2).trans (RouteOk.same _ _ (hb c))

theorem claim : Cert.Claim := ⟨Cert.Experts.Gen.facts, Cert.ExpertsIdeal.Gen.facts, Cert.ExpertsReferenceIdeal.Gen.facts,
  Cert.Combine.Gen.facts, Cert.CombineIdeal.Gen.facts, Cert.CombineReferenceIdeal.Gen.facts,
  Cert.Mid.Gen.facts, Cert.MidIdeal.Gen.facts, Cert.MidReferenceIdeal.Gen.facts,
  Cert.OddProj.Gen.facts, Cert.OddProjIdeal.Gen.facts, Cert.OddProjReferenceIdeal.Gen.facts,
  Cert.EvenProj.Gen.facts, Cert.EvenProjIdeal.Gen.facts, Cert.EvenProjReferenceIdeal.Gen.facts,
  Cert.Compress.Gen.facts, Cert.CompressIdeal.Gen.facts, Cert.CompressReferenceIdeal.Gen.facts,
  Cert.Route.Gen.facts, Cert.RouteIdeal.Gen.facts, Cert.RouteReferenceIdeal.Gen.facts,
  Cert.Pre_table_in_range.Gen.facts, Cert.Pre_bias_above.Gen.facts,
  experts_quiescent, expertsIdeal_quiescent, expertsReference_quiescent,
  combine_quiescent, combineIdeal_quiescent, combineReference_quiescent,
  mid_quiescent, midIdeal_quiescent, midReference_quiescent,
  oddProj_quiescent, oddProjIdeal_quiescent, oddProjReference_quiescent,
  evenProj_quiescent, evenProjIdeal_quiescent, evenProjReference_quiescent,
  compress_quiescent, compressIdeal_quiescent, compressReference_quiescent,
  route_quiescent, routeIdeal_quiescent, routeIdeal_quiescent_above, routeReference_quiescent, routeReference_quiescent_above,
  trivial, experts_algebraic, trivial, combine_algebraic, trivial, mid_algebraic, trivial, oddProj_algebraic, trivial, evenProj_algebraic,
  trivial, compress_algebraic, trivial, route_algebraic⟩

end Cert.Proof

end
